-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v98_0)) (v1 : (c : Dev Cert.KernelIdeal.nD) → Buf (Elt Ideal) ((c.tc : Thread Cert.KernelIdeal.nD Cert.KernelIdeal.τ).loc Cert.KernelIdeal.main_v98_1)) (v2 : (c : Dev Cert.KernelIdeal.nD) → Buf (Elt Ideal) ((c.tc : Thread Cert.KernelIdeal.nD Cert.KernelIdeal.τ).loc Cert.KernelIdeal.main_v98_2)) (v3 : (c : Dev Cert.KernelIdeal.nD) → Buf (Elt Ideal) ((c.tc : Thread Cert.KernelIdeal.nD Cert.KernelIdeal.τ).loc Cert.KernelIdeal.main_v98_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98_0) = v0 c
          ∧ r.2.mem ((c.tc : Thread Cert.KernelIdeal.nD Cert.KernelIdeal.τ).loc Cert.KernelIdeal.main_v98_1) = v1 c
          ∧ r.2.mem ((c.tc : Thread Cert.KernelIdeal.nD Cert.KernelIdeal.τ).loc Cert.KernelIdeal.main_v98_2) = v2 c
          ∧ r.2.mem ((c.tc : Thread Cert.KernelIdeal.nD Cert.KernelIdeal.τ).loc Cert.KernelIdeal.main_v98_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v31) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
-- ==== Kernel.lean ====
abbrev S16384x1024 : Shape := ⟨2, ![16384, 1024]⟩
abbrev S1x3x512 : Shape := ⟨3, ![1, 3, 512]⟩
abbrev S1x512 : Shape := ⟨2, ![1, 512]⟩
abbrev S1x32x64 : Shape := ⟨3, ![1, 32, 64]⟩
abbrev S1024 : Shape := ⟨1, ![1024]⟩
abbrev S1024x1536 : Shape := ⟨2, ![1024, 1536]⟩
abbrev S4x512 : Shape := ⟨2, ![4, 512]⟩
abbrev S512 : Shape := ⟨1, ![512]⟩
abbrev S8x64x64 : Shape := ⟨3, ![8, 64, 64]⟩
abbrev S32x64 : Shape := ⟨2, ![32, 64]⟩
abbrev S32x16x64 : Shape := ⟨3, ![32, 16, 64]⟩
abbrev S512x512 : Shape := ⟨2, ![512, 512]⟩
abbrev S1024x1024 : Shape := ⟨2, ![1024, 1024]⟩
abbrev S1x1024 : Shape := ⟨2, ![1, 1024]⟩
abbrev S4x4 : Shape := ⟨2, ![4, 4]⟩
abbrev S_ : Shape := ⟨0, ![]⟩
abbrev S2x4x64x64 : Shape := ⟨4, ![2, 4, 64, 64]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x256x512 : Shape := ⟨3, ![2, 256, 512]⟩
abbrev S2x512 : Shape := ⟨2, ![2, 512]⟩
abbrev S2x8x128 : Shape := ⟨3, ![2, 8, 128]⟩
abbrev S1x32x16x64 : Shape := ⟨4, ![1, 32, 16, 64]⟩
abbrev S2x32x16x64 : Shape := ⟨4, ![2, 32, 16, 64]⟩
abbrev S2x4x4x2x16x64 : Shape := ⟨6, ![2, 4, 4, 2, 16, 64]⟩
abbrev S2x2 : Shape := ⟨2, ![2, 2]⟩
abbrev S4x4x2x16x2x64 : Shape := ⟨6, ![4, 4, 2, 16, 2, 64]⟩
abbrev S4x4x2x16x1x2x1x64 : Shape := ⟨8, ![4, 4, 2, 16, 1, 2, 1, 64]⟩
abbrev S1x4x1x1x4x1x1x1 : Shape := ⟨8, ![1, 4, 1, 1, 4, 1, 1, 1]⟩
abbrev S4x4x2x16x4x2x1x64 : Shape := ⟨8, ![4, 4, 2, 16, 4, 2, 1, 64]⟩
abbrev S1x1x2x1x1x1x2x1 : Shape := ⟨8, ![1, 1, 2, 1, 1, 1, 2, 1]⟩
abbrev S4x4x2x16x4x2x2x64 : Shape := ⟨8, ![4, 4, 2, 16, 4, 2, 2, 64]⟩
abbrev S4x128x1024 : Shape := ⟨3, ![4, 128, 1024]⟩
abbrev S4x4x2x2x64x16 : Shape := ⟨6, ![4, 4, 2, 2, 64, 16]⟩
abbrev S4x4x2x2x64x1x1x16 : Shape := ⟨8, ![4, 4, 2, 2, 64, 1, 1, 16]⟩
abbrev S1x4x1x1x1x4x1x1 : Shape := ⟨8, ![1, 4, 1, 1, 1, 4, 1, 1]⟩
abbrev S4x4x2x2x64x4x1x16 : Shape := ⟨8, ![4, 4, 2, 2, 64, 4, 1, 16]⟩
abbrev S1x1x1x2x1x1x2x1 : Shape := ⟨8, ![1, 1, 1, 2, 1, 1, 2, 1]⟩
abbrev S4x4x2x2x64x4x2x16 : Shape := ⟨8, ![4, 4, 2, 2, 64, 4, 2, 16]⟩
abbrev S16x256x128 : Shape := ⟨3, ![16, 256, 128]⟩
abbrev S1x8x512 : Shape := ⟨3, ![1, 8, 512]⟩
abbrev S1x2x8x128 : Shape := ⟨4, ![1, 2, 8, 128]⟩
abbrev S1x4x8x128 : Shape := ⟨4, ![1, 4, 8, 128]⟩
abbrev S512x1024 : Shape := ⟨2, ![512, 1024]⟩
abbrev S1x520x512 : Shape := ⟨3, ![1, 520, 512]⟩
abbrev S4x4096x128 : Shape := ⟨3, ![4, 4096, 128]⟩
abbrev S512x1 : Shape := ⟨2, ![512, 1]⟩
abbrev S512x1536 : Shape := ⟨2, ![512, 1536]⟩
abbrev S8x512 : Shape := ⟨2, ![8, 512]⟩
abbrev S1x512x512 : Shape := ⟨3, ![1, 512, 512]⟩
abbrev S512x256 : Shape := ⟨2, ![512, 256]⟩
abbrev S1x256x512 : Shape := ⟨3, ![1, 256, 512]⟩
abbrev S256x512 : Shape := ⟨2, ![256, 512]⟩
abbrev S1x256 : Shape := ⟨2, ![1, 256]⟩
abbrev S64x8x512 : Shape := ⟨3, ![64, 8, 512]⟩
abbrev S512x128 : Shape := ⟨2, ![512, 128]⟩
abbrev S1x128x1024 : Shape := ⟨3, ![1, 128, 1024]⟩
abbrev S128x1024 : Shape := ⟨2, ![128, 1024]⟩
abbrev S1x512x128 : Shape := ⟨3, ![1, 512, 128]⟩
abbrev S1x8x128 : Shape := ⟨3, ![1, 8, 128]⟩
abbrev S8x128 : Shape := ⟨2, ![8, 128]⟩
abbrev S1x1x8x128 : Shape := ⟨4, ![1, 1, 8, 128]⟩
abbrev S1x256x128 : Shape := ⟨3, ![1, 256, 128]⟩
abbrev S256x128 : Shape := ⟨2, ![256, 128]⟩

abbrev nBuf : Space → Nat
  | .hbm => 135
  | .vmem => 31
  | .smem => 0
  | _ => 0

abbrev hbmTy0_0 (i : Nat) : BufTy := match i % 128 with
  | 0 => ⟨S16384x1024, .f32⟩
  | 1 => ⟨S1x3x512, .f32⟩
  | 2 => ⟨S1x512, .f32⟩
  | 3 => ⟨S1x32x64, .f32⟩
  | 4 => ⟨S1x32x64, .f32⟩
  | 5 => ⟨S1024, .f32⟩
  | 6 => ⟨S1024x1536, .f32⟩
  | 7 => ⟨S4x512, .f32⟩
  | 8 => ⟨S512, .f32⟩
  | 9 => ⟨S8x64x64, .f32⟩
  | 10 => ⟨S512, .f32⟩
  | 11 => ⟨S8x64x64, .f32⟩
  | 12 => ⟨S512, .f32⟩
  | 13 => ⟨S512, .f32⟩
  | 14 => ⟨S32x64, .f32⟩
  | 15 => ⟨S32x64, .f32⟩
  | 16 => ⟨S32x16x64, .f32⟩
  | 17 => ⟨S32x16x64, .f32⟩
  | 18 => ⟨S32x16x64, .f32⟩
  | 19 => ⟨S32x16x64, .f32⟩
  | 20 => ⟨S512, .f32⟩
  | 21 => ⟨S512x512, .f32⟩
  | 22 => ⟨S512, .f32⟩
  | 23 => ⟨S512, .f32⟩
  | 24 => ⟨S512, .f32⟩
  | 25 => ⟨S1024x1024, .f32⟩
  | 26 => ⟨S1x1024, .f32⟩
  | 27 => ⟨S1024x1536, .bf16⟩
  | 28 => ⟨S1x512, .f32⟩
  | 29 => ⟨S4x4, .i32⟩
  | 30 => ⟨S4x4, .i32⟩
  | 31 => ⟨S_, .i32⟩
  | 32 => ⟨S4x4, .i32⟩
  | 33 => ⟨S4x4, .i32⟩
  | 34 => ⟨S4x4, .i1⟩
  | 35 => ⟨S4x4, .f32⟩
  | 36 => ⟨S2x4x64x64, .f32⟩
  | 37 => ⟨S2x4x64x1x64, .f32⟩
  | 38 => ⟨S1x4x1x4x1, .f32⟩
  | 39 => ⟨S2x4x64x4x64, .f32⟩
  | 40 => ⟨S2x4x64x4x64, .f32⟩
  | 41 => ⟨S2x4x64x4x64, .f32⟩
  | 42 => ⟨S2x256x256, .f32⟩
  | 43 => ⟨S2x4x64x64, .f32⟩
  | 44 => ⟨S2x4x64x1x64, .f32⟩
  | 45 => ⟨S1x4x1x4x1, .f32⟩
  | 46 => ⟨S2x4x64x4x64, .f32⟩
  | 47 => ⟨S2x4x64x4x64, .f32⟩
  | 48 => ⟨S2x4x64x4x64, .f32⟩
  | 49 => ⟨S2x256x256, .f32⟩
  | 50 => ⟨S2x256x512, .f32⟩
  | 51 => ⟨S2x256x512, .bf16⟩
  | 52 => ⟨S1x512, .f32⟩
  | 53 => ⟨S1x512, .f32⟩
  | 54 => ⟨S2x512, .f32⟩
  | 55 => ⟨S1x512, .f32⟩
  | 56 => ⟨S2x8x128, .f32⟩
  | 57 => ⟨S2x8x128, .f32⟩
  | 58 => ⟨S1x32x16x64, .f32⟩
  | 59 => ⟨S1x32x16x64, .f32⟩
  | 60 => ⟨S2x32x16x64, .f32⟩
  | 61 => ⟨S2x4x4x2x16x64, .f32⟩
  | 62 => ⟨S4x4, .i32⟩
  | 63 => ⟨S4x4, .i32⟩
  | 64 => ⟨S_, .i32⟩
  | 65 => ⟨S4x4, .i32⟩
  | 66 => ⟨S4x4, .i32⟩
  | 67 => ⟨S4x4, .i1⟩
  | 68 => ⟨S4x4, .f32⟩
  | 69 => ⟨S2x2, .i32⟩
  | 70 => ⟨S2x2, .i32⟩
  | 71 => ⟨S_, .i32⟩
  | 72 => ⟨S2x2, .i32⟩
  | 73 => ⟨S2x2, .i32⟩
  | 74 => ⟨S2x2, .i1⟩
  | 75 => ⟨S2x2, .f32⟩
  | 76 => ⟨S4x4x2x16x2x64, .f32⟩
  | 77 => ⟨S4x4x2x16x1x2x1x64, .f32⟩
  | 78 => ⟨S1x4x1x1x4x1x1x1, .f32⟩
  | 79 => ⟨S4x4x2x16x4x2x1x64, .f32⟩
  | 80 => ⟨S4x4x2x16x4x2x1x64, .f32⟩
  | 81 => ⟨S4x4x2x16x4x2x1x64, .f32⟩
  | 82 => ⟨S1x1x2x1x1x1x2x1, .f32⟩
  | 83 => ⟨S4x4x2x16x4x2x2x64, .f32⟩
  | 84 => ⟨S4x4x2x16x4x2x2x64, .f32⟩
  | 85 => ⟨S4x4x2x16x4x2x2x64, .f32⟩
  | 86 => ⟨S4x128x1024, .f32⟩
  | 87 => ⟨S4x128x1024, .bf16⟩
  | 88 => ⟨S32x16x64, .f32⟩
  | 89 => ⟨S1x32x16x64, .f32⟩
  | 90 => ⟨S1x32x16x64, .f32⟩
  | 91 => ⟨S2x32x16x64, .f32⟩
  | 92 => ⟨S2x4x4x2x16x64, .f32⟩
  | 93 => ⟨S4x4, .i32⟩
  | 94 => ⟨S4x4, .i32⟩
  | 95 => ⟨S_, .i32⟩
  | 96 => ⟨S4x4, .i32⟩
  | 97 => ⟨S4x4, .i32⟩
  | 98 => ⟨S4x4, .i1⟩
  | 99 => ⟨S4x4, .f32⟩
  | 100 => ⟨S2x2, .i32⟩
  | 101 => ⟨S2x2, .i32⟩
  | 102 => ⟨S_, .i32⟩
  | 103 => ⟨S2x2, .i32⟩
  | 104 => ⟨S2x2, .i32⟩
  | 105 => ⟨S2x2, .i1⟩
  | 106 => ⟨S2x2, .f32⟩
  | 107 => ⟨S4x4x2x2x64x16, .f32⟩
  | 108 => ⟨S4x4x2x2x64x1x1x16, .f32⟩
  | 109 => ⟨S1x4x1x1x1x4x1x1, .f32⟩
  | 110 => ⟨S4x4x2x2x64x4x1x16, .f32⟩
  | 111 => ⟨S4x4x2x2x64x4x1x16, .f32⟩
  | 112 => ⟨S4x4x2x2x64x4x1x16, .f32⟩
  | 113 => ⟨S1x1x1x2x1x1x2x1, .f32⟩
  | 114 => ⟨S4x4x2x2x64x4x2x16, .f32⟩
  | 115 => ⟨S4x4x2x2x64x4x2x16, .f32⟩
  | 116 => ⟨S4x4x2x2x64x4x2x16, .f32⟩
  | 117 => ⟨S16x256x128, .f32⟩
  | 118 => ⟨S16x256x128, .bf16⟩
  | 119 => ⟨S1x512, .f32⟩
  | 120 => ⟨S512x512, .bf16⟩
  | 121 => ⟨S1x512, .f32⟩
  | 122 => ⟨S1x512, .f32⟩
  | 123 => ⟨S1x512, .f32⟩
  | 124 => ⟨S1024x1024, .bf16⟩
  | 125 => ⟨S_, .i32⟩
  | 126 => ⟨S_, .f32⟩
  | 127 => ⟨S1x8x512, .f32⟩
  | _ => ⟨S16384x1024, .f32⟩

abbrev hbmTy0_1 (i : Nat) : BufTy := match i % 128 with
  | 0 => ⟨S1x2x8x128, .f32⟩
  | 1 => ⟨S1x2x8x128, .f32⟩
  | 2 => ⟨S1x4x8x128, .f32⟩
  | 3 => ⟨S16384x1024, .f32⟩
  | 4 => ⟨S1x8x512, .f32⟩
  | 5 => ⟨S1x512, .f32⟩
  | 6 => ⟨S1x4x8x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x8x512, .f32⟩
  | .local _ .vmem, ⟨3, _⟩ => ⟨S1x512, .f32⟩
  | .local _ .vmem, ⟨4, _⟩ => ⟨S1x4x8x128, .f32⟩
  | .local _ .vmem, ⟨5, _⟩ => ⟨S1x1024, .f32⟩
  | .local _ .vmem, ⟨6, _⟩ => ⟨S1024x1536, .bf16⟩
  | .local _ .vmem, ⟨7, _⟩ => ⟨S4x512, .f32⟩
  | .local _ .vmem, ⟨8, _⟩ => ⟨S1x512, .f32⟩
  | .local _ .vmem, ⟨9, _⟩ => ⟨S2x256x512, .bf16⟩
  | .local _ .vmem, ⟨10, _⟩ => ⟨S2x512, .f32⟩
  | .local _ .vmem, ⟨11, _⟩ => ⟨S1x512, .f32⟩
  | .local _ .vmem, ⟨12, _⟩ => ⟨S2x8x128, .f32⟩
  | .local _ .vmem, ⟨13, _⟩ => ⟨S2x8x128, .f32⟩
  | .local _ .vmem, ⟨14, _⟩ => ⟨S4x128x1024, .bf16⟩
  | .local _ .vmem, ⟨15, _⟩ => ⟨S16x256x128, .bf16⟩
  | .local _ .vmem, ⟨16, _⟩ => ⟨S1x512, .f32⟩
  | .local _ .vmem, ⟨17, _⟩ => ⟨S512x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1x8x512, .f32⟩
  | .local _ .vmem, ⟨25, _⟩ => ⟨S1x512, .f32⟩
  | .local _ .vmem, ⟨26, _⟩ => ⟨S1x4x8x128, .f32⟩
  | .local _ .vmem, ⟨27, _⟩ => ⟨S1x520x512, .f32⟩
  | .local _ .vmem, ⟨28, _⟩ => ⟨S512x512, .f32⟩
  | .local _ .vmem, ⟨29, _⟩ => ⟨S512x512, .f32⟩
  | .local _ .vmem, ⟨30, _⟩ => ⟨S4x4096x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_2 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_3 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_4 : Ref sig .tc := ⟨.hbm, 125, rfl⟩
abbrev main_call0_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98_0 : Ref sig .tc := ⟨.hbm, 131, rfl⟩
abbrev main_v98_1 : Ref sig .tc := ⟨.hbm, 132, rfl⟩
abbrev main_v98_2 : Ref sig .tc := ⟨.hbm, 133, rfl⟩
abbrev main_v98_3 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23
abbrev cc0_sem22_0 : DmaSem sig := 24
abbrev cc0_sem23_0 : DmaSem sig := 25
abbrev cc0_sem24_0 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_89 : BitVec 32 := 0#32
  let c64_i32 : BitVec 32 := 64#32
  let v214 : BitVec 32 := Scalar.addi c0_i32_89 c64_i32
  let c1_i32_90 : BitVec 32 := 1#32
  ⟨c0_i32_89, v214, c1_i32_90⟩
def k0_mult1 (k0_t1 : Fin k0_t1_loop.trips) : BitVec 32 :=
  let c0_i32_438 : BitVec 32 := 0#32
  let c0_i32_89 : BitVec 32 := 0#32
  let c1_i32_90 : BitVec 32 := 1#32
  let arg30 : BitVec 32 := Scf.iv c0_i32_89 c1_i32_90 k0_t1
  let c8_i32 : BitVec 32 := 8#32
  let v632 : BitVec 32 := Scalar.muli arg30 c8_i32
  let v633 : BitVec 32 := Scalar.addi c0_i32_438 v632
  v633
def k0_off1 (k0_t1 : Fin k0_t1_loop.trips) : Fin 2 → Nat :=
  let c0_i32_438 : BitVec 32 := 0#32
  let c0_i32_89 : BitVec 32 := 0#32
  let c1_i32_90 : BitVec 32 := 1#32
  let arg30 : BitVec 32 := Scf.iv c0_i32_89 c1_i32_90 k0_t1
  let c8_i32 : BitVec 32 := 8#32
  let v632 : BitVec 32 := Scalar.muli arg30 c8_i32
  let v633 : BitVec 32 := Scalar.addi c0_i32_438 v632
  let v634 : BitVec 32 := v633
  let v635 : Index := Scalar.indexCast v634
  let c0_439 : Index := 0#32
  ![v635.toNat, 0]
@[reducible] def k0_t2_loop : Scf.Loop 32 :=
  let c0_i32_242 : BitVec 32 := 0#32
  let c512_i32 : BitVec 32 := 512#32
  let v409 : BitVec 32 := Scalar.addi c0_i32_242 c512_i32
  let c1_i32_243 : BitVec 32 := 1#32
  ⟨c0_i32_242, v409, c1_i32_243⟩
def k0_mult2 (k0_t2 : Fin k0_t2_loop.trips) : BitVec 32 :=
  let c0_i32_438 : BitVec 32 := 0#32
  let c0_i32_242 : BitVec 32 := 0#32
  let c1_i32_243 : BitVec 32 := 1#32
  let arg30 : BitVec 32 := Scf.iv c0_i32_242 c1_i32_243 k0_t2
  let v632 : BitVec 32 := Scalar.addi c0_i32_438 arg30
  let c8_i32 : BitVec 32 := 8#32
  let v633 : BitVec 32 := Scalar.muli v632 c8_i32
  v633
def k0_off2 (k0_t2 : Fin k0_t2_loop.trips) : Fin 3 → Nat :=
  let c0_439 : Index := 0#32
  let c0_i32_438 : BitVec 32 := 0#32
  let c0_i32_242 : BitVec 32 := 0#32
  let c1_i32_243 : BitVec 32 := 1#32
  let arg30 : BitVec 32 := Scf.iv c0_i32_242 c1_i32_243 k0_t2
  let v632 : BitVec 32 := Scalar.addi c0_i32_438 arg30
  let c8_i32 : BitVec 32 := 8#32
  let v633 : BitVec 32 := Scalar.muli v632 c8_i32
  let v634 : BitVec 32 := v633
  let v638 : Index := Scalar.indexCast v634
  let c0_440 : Index := 0#32
  ![0, v638.toNat, 0]
def k0_off3 (k0_t2 : Fin k0_t2_loop.trips) : Fin 3 → Nat :=
  let c1_441 : Index := 1#32
  let c0_i32_438 : BitVec 32 := 0#32
  let c0_i32_242 : BitVec 32 := 0#32
  let c1_i32_243 : BitVec 32 := 1#32
  let arg30 : BitVec 32 := Scf.iv c0_i32_242 c1_i32_243 k0_t2
  let v632 : BitVec 32 := Scalar.addi c0_i32_438 arg30
  let c8_i32 : BitVec 32 := 8#32
  let v633 : BitVec 32 := Scalar.muli v632 c8_i32
  let v634 : BitVec 32 := v633
  let v645 : Index := Scalar.indexCast v634
  let c0_442 : Index := 0#32
  ![1, v645.toNat, 0]
def k0_off4 (k0_t2 : Fin k0_t2_loop.trips) : Fin 3 → Nat :=
  let c2_443 : Index := 2#32
  let c0_i32_438 : BitVec 32 := 0#32
  let c0_i32_242 : BitVec 32 := 0#32
  let c1_i32_243 : BitVec 32 := 1#32
  let arg30 : BitVec 32 := Scf.iv c0_i32_242 c1_i32_243 k0_t2
  let v632 : BitVec 32 := Scalar.addi c0_i32_438 arg30
  let c8_i32 : BitVec 32 := 8#32
  let v633 : BitVec 32 := Scalar.muli v632 c8_i32
  let v634 : BitVec 32 := v633
  let v652 : Index := Scalar.indexCast v634
  let c0_444 : Index := 0#32
  ![2, v652.toNat, 0]
def k0_off5 (k0_t2 : Fin k0_t2_loop.trips) : Fin 3 → Nat :=
  let c3_445 : Index := 3#32
  let c0_i32_438 : BitVec 32 := 0#32
  let c0_i32_242 : BitVec 32 := 0#32
  let c1_i32_243 : BitVec 32 := 1#32
  let arg30 : BitVec 32 := Scf.iv c0_i32_242 c1_i32_243 k0_t2
  let v632 : BitVec 32 := Scalar.addi c0_i32_438 arg30
  let c8_i32 : BitVec 32 := 8#32
  let v633 : BitVec 32 := Scalar.muli v632 c8_i32
  let v634 : BitVec 32 := v633
  let v659 : Index := Scalar.indexCast v634
  let c0_446 : Index := 0#32
  ![3, v659.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x4x8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S16384x1024 : Shape := ⟨2, ![16384, 1024]⟩
abbrev S1x3x512 : Shape := ⟨3, ![1, 3, 512]⟩
abbrev S1x512 : Shape := ⟨2, ![1, 512]⟩
abbrev S1x32x64 : Shape := ⟨3, ![1, 32, 64]⟩
abbrev S1024 : Shape := ⟨1, ![1024]⟩
abbrev S1024x1536 : Shape := ⟨2, ![1024, 1536]⟩
abbrev S4x512 : Shape := ⟨2, ![4, 512]⟩
abbrev S512 : Shape := ⟨1, ![512]⟩
abbrev S8x64x64 : Shape := ⟨3, ![8, 64, 64]⟩
abbrev S32x64 : Shape := ⟨2, ![32, 64]⟩
abbrev S32x16x64 : Shape := ⟨3, ![32, 16, 64]⟩
abbrev S512x512 : Shape := ⟨2, ![512, 512]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1536 : Shape := ⟨2, ![16384, 1536]⟩
abbrev S16384x512 : Shape := ⟨2, ![16384, 512]⟩
abbrev S3x512 : Shape := ⟨2, ![3, 512]⟩
abbrev S16387x512 : Shape := ⟨2, ![16387, 512]⟩
abbrev S16384x8x64 : Shape := ⟨3, ![16384, 8, 64]⟩
abbrev S8x64x16384 : Shape := ⟨3, ![8, 64, 16384]⟩
abbrev S16384x32x16 : Shape := ⟨3, ![16384, 32, 16]⟩
abbrev S32x64x16384 : Shape := ⟨3, ![32, 64, 16384]⟩
abbrev S16384x32x64 : Shape := ⟨3, ![16384, 32, 64]⟩
abbrev S32x16384x16 : Shape := ⟨3, ![32, 16384, 16]⟩
abbrev S8x512 : Shape := ⟨2, ![8, 512]⟩
abbrev S1x8x512 : Shape := ⟨3, ![1, 8, 512]⟩
abbrev S2x32x64 : Shape := ⟨3, ![2, 32, 64]⟩
abbrev S1x4x8x128 : Shape := ⟨4, ![1, 4, 8, 128]⟩

abbrev nBuf : Space → Nat
  | .hbm => 305
  | .vmem => 0
  | .smem => 0
  | _ => 0

abbrev hbmTy0_0 (i : Nat) : BufTy := match i % 128 with
  | 0 => ⟨S16384x1024, .f32⟩
  | 1 => ⟨S1x3x512, .f32⟩
  | 2 => ⟨S1x512, .f32⟩
  | 3 => ⟨S1x32x64, .f32⟩
  | 4 => ⟨S1x32x64, .f32⟩
  | 5 => ⟨S1024, .f32⟩
  | 6 => ⟨S1024x1536, .f32⟩
  | 7 => ⟨S4x512, .f32⟩
  | 8 => ⟨S512, .f32⟩
  | 9 => ⟨S8x64x64, .f32⟩
  | 10 => ⟨S512, .f32⟩
  | 11 => ⟨S8x64x64, .f32⟩
  | 12 => ⟨S512, .f32⟩
  | 13 => ⟨S512, .f32⟩
  | 14 => ⟨S32x64, .f32⟩
  | 15 => ⟨S32x64, .f32⟩
  | 16 => ⟨S32x16x64, .f32⟩
  | 17 => ⟨S32x16x64, .f32⟩
  | 18 => ⟨S32x16x64, .f32⟩
  | 19 => ⟨S32x16x64, .f32⟩
  | 20 => ⟨S512, .f32⟩
  | 21 => ⟨S512x512, .f32⟩
  | 22 => ⟨S512, .f32⟩
  | 23 => ⟨S512, .f32⟩
  | 24 => ⟨S512, .f32⟩
  | 25 => ⟨S1024x1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x1, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S16384x1536, .f32⟩
  | 43 => ⟨S16384x512, .f32⟩
  | 44 => ⟨S16384x512, .f32⟩
  | 45 => ⟨S16384x512, .f32⟩
  | 46 => ⟨S3x512, .f32⟩
  | 47 => ⟨S16387x512, .f32⟩
  | 48 => ⟨S16384x512, .f32⟩
  | 49 => ⟨S1x512, .f32⟩
  | 50 => ⟨S512, .f32⟩
  | 51 => ⟨S1x512, .f32⟩
  | 52 => ⟨S16384x512, .f32⟩
  | 53 => ⟨S16384x512, .f32⟩
  | 54 => ⟨S1x512, .f32⟩
  | 55 => ⟨S16384x512, .f32⟩
  | 56 => ⟨S16384x512, .f32⟩
  | 57 => ⟨S16384x512, .f32⟩
  | 58 => ⟨S1x512, .f32⟩
  | 59 => ⟨S512, .f32⟩
  | 60 => ⟨S1x512, .f32⟩
  | 61 => ⟨S16384x512, .f32⟩
  | 62 => ⟨S16384x512, .f32⟩
  | 63 => ⟨S16384x512, .f32⟩
  | 64 => ⟨S16384x512, .f32⟩
  | 65 => ⟨S1x512, .f32⟩
  | 66 => ⟨S512, .f32⟩
  | 67 => ⟨S1x512, .f32⟩
  | 68 => ⟨S16384x512, .f32⟩
  | 69 => ⟨S16384x512, .f32⟩
  | 70 => ⟨S16384x512, .f32⟩
  | 71 => ⟨S16384x512, .f32⟩
  | 72 => ⟨S1x512, .f32⟩
  | 73 => ⟨S512, .f32⟩
  | 74 => ⟨S1x512, .f32⟩
  | 75 => ⟨S16384x512, .f32⟩
  | 76 => ⟨S16384x512, .f32⟩
  | 77 => ⟨S16384x512, .f32⟩
  | 78 => ⟨S16384x8x64, .f32⟩
  | 79 => ⟨S8x64x16384, .f32⟩
  | 80 => ⟨S16384x8x64, .f32⟩
  | 81 => ⟨S16384x512, .f32⟩
  | 82 => ⟨S1x512, .f32⟩
  | 83 => ⟨S16384x512, .f32⟩
  | 84 => ⟨S16384x512, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S8x64x16384, .f32⟩
  | 94 => ⟨S16384x8x64, .f32⟩
  | 95 => ⟨S16384x512, .f32⟩
  | 96 => ⟨S1x512, .f32⟩
  | 97 => ⟨S16384x512, .f32⟩
  | 98 => ⟨S16384x512, .f32⟩
  | 99 => ⟨S16384x512, .f32⟩
  | 100 => ⟨S16384x512, .f32⟩
  | 101 => ⟨S_, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S_, .f32⟩
  | 108 => ⟨S16384x512, .f32⟩
  | 109 => ⟨S16384x512, .f32⟩
  | 110 => ⟨S512, .f32⟩
  | 111 => ⟨S_, .f32⟩
  | 112 => ⟨S512, .f32⟩
  | 113 => ⟨S512, .f32⟩
  | 114 => ⟨S512, .f32⟩
  | 115 => ⟨S512, .f32⟩
  | 116 => ⟨S512, .i1⟩
  | 117 => ⟨S512, .f32⟩
  | 118 => ⟨S512, .f32⟩
  | 119 => ⟨S512, .f32⟩
  | 120 => ⟨S512, .f32⟩
  | 121 => ⟨S512, .f32⟩
  | 122 => ⟨S512, .f32⟩
  | 123 => ⟨S512, .f32⟩
  | 124 => ⟨S512, .f32⟩
  | 125 => ⟨S1x512, .f32⟩
  | 126 => ⟨S16384x512, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S16384x32x16, .f32⟩
  | 10 => ⟨S32x64x16384, .f32⟩
  | 11 => ⟨S16384x32x64, .f32⟩
  | 12 => ⟨S32x64x16384, .f32⟩
  | 13 => ⟨S16384x32x64, .f32⟩
  | 14 => ⟨S512, .f32⟩
  | 15 => ⟨S32x64, .f32⟩
  | 16 => ⟨S32x64, .f32⟩
  | 17 => ⟨S_, .f32⟩
  | 18 => ⟨S16384x512, .f32⟩
  | 19 => ⟨S_, .f32⟩
  | 20 => ⟨S16384x32x64, .f32⟩
  | 21 => ⟨S_, .f32⟩
  | 22 => ⟨S16384x32x64, .f32⟩
  | 23 => ⟨S_, .i32⟩
  | 24 => ⟨S16384x512, .f32⟩
  | 25 => ⟨S16384x512, .f32⟩
  | 26 => ⟨S16384x32x64, .f32⟩
  | 27 => ⟨S16384x32x64, .f32⟩
  | 28 => ⟨S32x64, .f32⟩
  | 29 => ⟨S32x64, .f32⟩
  | 30 => ⟨S_, .i32⟩
  | 31 => ⟨S512, .f32⟩
  | 32 => ⟨S32x64, .f32⟩
  | 33 => ⟨S32x64, .f32⟩
  | 34 => ⟨S16384x512, .f32⟩
  | 35 => ⟨S16384x32x64, .f32⟩
  | 36 => ⟨S16384x32x64, .f32⟩
  | 37 => ⟨S_, .i32⟩
  | 38 => ⟨S_, .i1⟩
  | 39 => ⟨S_, .i32⟩
  | 40 => ⟨S1x512, .f32⟩
  | 41 => ⟨S512, .f32⟩
  | 42 => ⟨S_, .i32⟩
  | 43 => ⟨S1x512, .f32⟩
  | 44 => ⟨S512, .f32⟩
  | 45 => ⟨S_, .i32⟩
  | 46 => ⟨S_, .i32⟩
  | 47 => ⟨S1x32x64, .f32⟩
  | 48 => ⟨S32x64, .f32⟩
  | 49 => ⟨S_, .i32⟩
  | 50 => ⟨S_, .i32⟩
  | 51 => ⟨S1x32x64, .f32⟩
  | 52 => ⟨S32x64, .f32⟩
  | 53 => ⟨S512, .f32⟩
  | 54 => ⟨S512, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S1x512, .f32⟩
  | 64 => ⟨S_, .i32⟩
  | 65 => ⟨S16384x512, .f32⟩
  | 66 => ⟨S1x32x64, .f32⟩
  | 67 => ⟨S_, .i32⟩
  | 68 => ⟨S_, .i32⟩
  | 69 => ⟨S16384x32x64, .f32⟩
  | 70 => ⟨S1x32x64, .f32⟩
  | 71 => ⟨S_, .i32⟩
  | 72 => ⟨S_, .i32⟩
  | 73 => ⟨S16384x32x64, .f32⟩
  | 74 => ⟨S_, .i32⟩
  | 75 => ⟨S_, .i32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S_, .f32⟩
  | 90 => ⟨S16384x512, .f32⟩
  | 91 => ⟨S16384x512, .f32⟩
  | 92 => ⟨S16384x512, .f32⟩
  | 93 => ⟨S16384x512, .f32⟩
  | 94 => ⟨S32x16384x16, .f32⟩
  | 95 => ⟨S16384x32x16, .f32⟩
  | 96 => ⟨S32x16x64, .f32⟩
  | 97 => ⟨S32x16384x16, .f32⟩
  | 98 => ⟨S16384x32x16, .f32⟩
  | 99 => ⟨S16384x32x16, .f32⟩
  | 100 => ⟨S16384x512, .f32⟩
  | 101 => ⟨S1x512, .f32⟩
  | 102 => ⟨S16384x512, .f32⟩
  | 103 => ⟨S16384x512, .f32⟩
  | 104 => ⟨S16384x512, .f32⟩
  | 105 => ⟨S16384x512, .f32⟩
  | 106 => ⟨S16384x512, .f32⟩
  | 107 => ⟨S_, .f32⟩
  | 108 => ⟨S16384x512, .f32⟩
  | 109 => ⟨S16384x512, .f32⟩
  | 110 => ⟨S16384x512, .f32⟩
  | 111 => ⟨S_, .f32⟩
  | 112 => ⟨S16384x512, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S16384x512, .f32⟩
  | 122 => ⟨S16384x512, .f32⟩
  | 123 => ⟨S1x512, .f32⟩
  | 124 => ⟨S16384x512, .f32⟩
  | 125 => ⟨S16384x512, .f32⟩
  | 126 => ⟨S16384x512, .f32⟩
  | 127 => ⟨S16384x512, .f32⟩
  | _ => ⟨S16384x1024, .f32⟩

abbrev hbmTy0_2 (i : Nat) : BufTy := match i % 128 with
  | 0 => ⟨S_, .f32⟩
  | 1 => ⟨S16384x512, .f32⟩
  | 2 => ⟨S16384x512, .f32⟩
  | 3 => ⟨S_, .f32⟩
  | 4 => ⟨S16384x512, .f32⟩
  | 5 => ⟨S16384x512, .f32⟩
  | 6 => ⟨S16384x512, .f32⟩
  | 7 => ⟨S16384x512, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x512, .f32⟩
  | 19 => ⟨S16384x512, .f32⟩
  | 20 => ⟨S1x512, .f32⟩
  | 21 => ⟨S16384x512, .f32⟩
  | 22 => ⟨S16384x512, .f32⟩
  | 23 => ⟨S16384x512, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1, .f32⟩
  | 34 => ⟨S16384x512, .f32⟩
  | 35 => ⟨S16384x512, .f32⟩
  | 36 => ⟨S1x512, .f32⟩
  | 37 => ⟨S16384x512, .f32⟩
  | 38 => ⟨S16384x512, .f32⟩
  | 39 => ⟨S16384x1024, .f32⟩
  | 40 => ⟨S16384x1024, .f32⟩
  | 41 => ⟨S16384x1024, .f32⟩
  | 42 => ⟨S8x512, .f32⟩
  | 43 => ⟨S1x8x512, .f32⟩
  | 44 => ⟨S1x512, .f32⟩
  | 45 => ⟨S1x32x64, .f32⟩
  | 46 => ⟨S1x32x64, .f32⟩
  | 47 => ⟨S2x32x64, .f32⟩
  | 48 => ⟨S1x4x8x128, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_cst_0 : Ref sig .tc := ⟨.hbm, 30, rfl⟩
abbrev main_v3 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_2 : Ref sig .tc := ⟨.hbm, 87, rfl⟩
abbrev main_v58 : Ref sig .tc := ⟨.hbm, 88, rfl⟩
abbrev main_v59 : Ref sig .tc := ⟨.hbm, 89, rfl⟩
abbrev main_cst_3 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_4 : Ref sig .tc := ⟨.hbm, 101, rfl⟩
abbrev main_v70 : Ref sig .tc := ⟨.hbm, 102, rfl⟩
abbrev main_v71 : Ref sig .tc := ⟨.hbm, 103, rfl⟩
abbrev main_cst_5 : Ref sig .tc := ⟨.hbm, 104, rfl⟩
abbrev main_v72 : Ref sig .tc := ⟨.hbm, 105, rfl⟩
abbrev main_v73 : Ref sig .tc := ⟨.hbm, 106, rfl⟩
abbrev main_cst_6 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call0_cst : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_call0_v3 : Ref sig .tc := ⟨.hbm, 115, rfl⟩
abbrev main_call0_v4 : Ref sig .tc := ⟨.hbm, 116, rfl⟩
abbrev main_call0_v5 : Ref sig .tc := ⟨.hbm, 117, rfl⟩
abbrev main_call0_v6 : Ref sig .tc := ⟨.hbm, 118, rfl⟩
abbrev main_call0_v7 : Ref sig .tc := ⟨.hbm, 119, rfl⟩
abbrev main_call0_v8 : Ref sig .tc := ⟨.hbm, 120, rfl⟩
abbrev main_call0_v9 : Ref sig .tc := ⟨.hbm, 121, rfl⟩
abbrev main_call0_v10 : Ref sig .tc := ⟨.hbm, 122, rfl⟩
abbrev main_call0_v11 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_7 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_8 : Ref sig .tc := ⟨.hbm, 145, rfl⟩
abbrev main_v97 : Ref sig .tc := ⟨.hbm, 146, rfl⟩
abbrev main_cst_9 : Ref sig .tc := ⟨.hbm, 147, rfl⟩
abbrev main_v98 : Ref sig .tc := ⟨.hbm, 148, rfl⟩
abbrev main_cst_10 : Ref sig .tc := ⟨.hbm, 149, rfl⟩
abbrev main_v99 : Ref sig .tc := ⟨.hbm, 150, rfl⟩
abbrev main_c : Ref sig .tc := ⟨.hbm, 151, rfl⟩
abbrev main_v100_0 : Ref sig .tc := ⟨.hbm, 152, rfl⟩
abbrev main_v100_1 : Ref sig .tc := ⟨.hbm, 153, rfl⟩
abbrev main_v100_2 : Ref sig .tc := ⟨.hbm, 154, rfl⟩
abbrev main_v100_3 : Ref sig .tc := ⟨.hbm, 155, rfl⟩
abbrev main_v100_4 : Ref sig .tc := ⟨.hbm, 156, rfl⟩
abbrev main_v100_5 : Ref sig .tc := ⟨.hbm, 157, rfl⟩
abbrev main_v100_6 : Ref sig .tc := ⟨.hbm, 158, rfl⟩
abbrev main_v100_7 : Ref sig .tc := ⟨.hbm, 159, rfl⟩
abbrev main_v100_8 : Ref sig .tc := ⟨.hbm, 160, rfl⟩
abbrev main_v100_9 : Ref sig .tc := ⟨.hbm, 161, rfl⟩
abbrev main_v100_10 : Ref sig .tc := ⟨.hbm, 162, rfl⟩
abbrev main_v100_11 : Ref sig .tc := ⟨.hbm, 163, rfl⟩
abbrev main_v100_12 : Ref sig .tc := ⟨.hbm, 164, rfl⟩
abbrev main_while0c_c_39 : Ref sig .tc := ⟨.hbm, 165, rfl⟩
abbrev main_while0c_v186 : Ref sig .tc := ⟨.hbm, 166, rfl⟩
abbrev main_while0b_call1_c : Ref sig .tc := ⟨.hbm, 167, rfl⟩
abbrev main_while0b_call1_v0 : Ref sig .tc := ⟨.hbm, 168, rfl⟩
abbrev main_while0b_v186 : Ref sig .tc := ⟨.hbm, 169, rfl⟩
abbrev main_while0b_call2_c : Ref sig .tc := ⟨.hbm, 170, rfl⟩
abbrev main_while0b_call2_v0 : Ref sig .tc := ⟨.hbm, 171, rfl⟩
abbrev main_while0b_v187 : Ref sig .tc := ⟨.hbm, 172, rfl⟩
abbrev main_while0b_call3_c : Ref sig .tc := ⟨.hbm, 173, rfl⟩
abbrev main_while0b_call3_c_0 : Ref sig .tc := ⟨.hbm, 174, rfl⟩
abbrev main_while0b_call3_v0 : Ref sig .tc := ⟨.hbm, 175, rfl⟩
abbrev main_while0b_v188 : Ref sig .tc := ⟨.hbm, 176, rfl⟩
abbrev main_while0b_call4_c : Ref sig .tc := ⟨.hbm, 177, rfl⟩
abbrev main_while0b_call4_c_0 : Ref sig .tc := ⟨.hbm, 178, rfl⟩
abbrev main_while0b_call4_v0 : Ref sig .tc := ⟨.hbm, 179, rfl⟩
abbrev main_while0b_v189 : Ref sig .tc := ⟨.hbm, 180, rfl⟩
abbrev main_while0b_v190 : Ref sig .tc := ⟨.hbm, 181, rfl⟩
abbrev main_while0b_v191 : Ref sig .tc := ⟨.hbm, 182, rfl⟩
abbrev main_while0b_v192 : Ref sig .tc := ⟨.hbm, 183, rfl⟩
abbrev main_while0b_v193 : Ref sig .tc := ⟨.hbm, 184, rfl⟩
abbrev main_while0b_v194 : Ref sig .tc := ⟨.hbm, 185, rfl⟩
abbrev main_while0b_v195 : Ref sig .tc := ⟨.hbm, 186, rfl⟩
abbrev main_while0b_v196 : Ref sig .tc := ⟨.hbm, 187, rfl⟩
abbrev main_while0b_v197 : Ref sig .tc := ⟨.hbm, 188, rfl⟩
abbrev main_while0b_v198 : Ref sig .tc := ⟨.hbm, 189, rfl⟩
abbrev main_while0b_v199 : Ref sig .tc := ⟨.hbm, 190, rfl⟩
abbrev main_while0b_call5_v0 : Ref sig .tc := ⟨.hbm, 191, rfl⟩
abbrev main_while0b_call5_c : Ref sig .tc := ⟨.hbm, 192, rfl⟩
abbrev main_while0b_v200 : Ref sig .tc := ⟨.hbm, 193, rfl⟩
abbrev main_while0b_call6_v0 : Ref sig .tc := ⟨.hbm, 194, rfl⟩
abbrev main_while0b_call6_c : Ref sig .tc := ⟨.hbm, 195, rfl⟩
abbrev main_while0b_call6_c_0 : Ref sig .tc := ⟨.hbm, 196, rfl⟩
abbrev main_while0b_v201 : Ref sig .tc := ⟨.hbm, 197, rfl⟩
abbrev main_while0b_call7_v0 : Ref sig .tc := ⟨.hbm, 198, rfl⟩
abbrev main_while0b_call7_c : Ref sig .tc := ⟨.hbm, 199, rfl⟩
abbrev main_while0b_call7_c_0 : Ref sig .tc := ⟨.hbm, 200, rfl⟩
abbrev main_while0b_v202 : Ref sig .tc := ⟨.hbm, 201, rfl⟩
abbrev main_while0b_c_39 : Ref sig .tc := ⟨.hbm, 202, rfl⟩
abbrev main_while0b_v203 : Ref sig .tc := ⟨.hbm, 203, rfl⟩
abbrev main_v101 : Ref sig .tc := ⟨.hbm, 204, rfl⟩
abbrev main_v102 : Ref sig .tc := ⟨.hbm, 205, rfl⟩
abbrev main_cst_11 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_cst_12 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_13 : Ref sig .tc := ⟨.hbm, 214, rfl⟩
abbrev main_v109 : Ref sig .tc := ⟨.hbm, 215, rfl⟩
abbrev main_v110 : Ref sig .tc := ⟨.hbm, 216, rfl⟩
abbrev main_cst_14 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_cst_15 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_cst_16 : Ref sig .tc := ⟨.hbm, 239, rfl⟩
abbrev main_v131 : Ref sig .tc := ⟨.hbm, 240, rfl⟩
abbrev main_v132 : Ref sig .tc := ⟨.hbm, 241, rfl⟩
abbrev main_v133 : Ref sig .tc := ⟨.hbm, 242, rfl⟩
abbrev main_cst_17 : Ref sig .tc := ⟨.hbm, 243, rfl⟩
abbrev main_v134 : Ref sig .tc := ⟨.hbm, 244, rfl⟩
abbrev main_v135 : Ref sig .tc := ⟨.hbm, 245, rfl⟩
abbrev main_cst_18 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_cst_19 : Ref sig .tc := ⟨.hbm, 256, rfl⟩
abbrev main_v145 : Ref sig .tc := ⟨.hbm, 257, rfl⟩
abbrev main_v146 : Ref sig .tc := ⟨.hbm, 258, rfl⟩
abbrev main_cst_20 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_cst_21 : Ref sig .tc := ⟨.hbm, 264, rfl⟩
abbrev main_v151 : Ref sig .tc := ⟨.hbm, 265, rfl⟩
abbrev main_v152 : Ref sig .tc := ⟨.hbm, 266, rfl⟩
abbrev main_cst_22 : Ref sig .tc := ⟨.hbm, 267, rfl⟩
abbrev main_v153 : Ref sig .tc := ⟨.hbm, 268, rfl⟩
abbrev main_v154 : Ref sig .tc := ⟨.hbm, 269, rfl⟩
abbrev main_cst_23 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_cst_24 : Ref sig .tc := ⟨.hbm, 280, rfl⟩
abbrev main_v164 : Ref sig .tc := ⟨.hbm, 281, rfl⟩
abbrev main_v165 : Ref sig .tc := ⟨.hbm, 282, rfl⟩
abbrev main_cst_25 : Ref sig .tc := ⟨.hbm, 283, rfl⟩
abbrev main_v166 : Ref sig .tc := ⟨.hbm, 284, rfl⟩
abbrev main_v167 : Ref sig .tc := ⟨.hbm, 285, rfl⟩
abbrev main_cst_26 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_v178 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_v182 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩

abbrev nD : Nat := 1
abbrev τ : Topo := Topo.v7x

variable {F : FTy → Type} [FloatOps F]

abbrev main_while0_count : Scf.Loop 32 := ⟨0#32, 16384#32, 1#32⟩
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proof.FfnRow.lean ====
module

public import Idealize.ShloMosaic.Lib.Pipeline.ValueKit

/-!
The feed-forward network of one token, as a function of the token's row and of the weights, over the
extended reals: the common form to which the kernel's block and the reference's array are both brought.
-/

@[expose] public section

set_option maxRecDepth 16384

noncomputable section

namespace Cert.FfnRow
open Idealize.ShloMosaic

/-- The root-mean-square norm of a row of 1024 numbers, times a gain, at position `k`. -/
def normAt (row g : Fin 1024 → EReal) (k : Fin 1024) : EReal :=
  row k * Ideal.rsqrt (Ideal.div (∑ l : Fin 1024, row l * row l) (Ideal.ofBits .f32 0x44800000#32)
    + Ideal.ofBits .f32 0x358637BD#32) * g k

/-- One hidden unit: the gate's product with the row through the silu, times the other product. -/
def actAt (h wg wu : Fin 1024 → EReal) : EReal :=
  (∑ k : Fin 1024, h k * wg k) * Ideal.logistic (∑ k : Fin 1024, h k * wg k) * ∑ k : Fin 1024, h k * wu k

/-- A part of the down projection: 256 of the hidden units, against their rows of the projection. -/
def partAt (h : Fin 1024 → EReal) (wg wu : Fin 1024 → Fin 256 → EReal) (wd : Fin 256 → EReal) : EReal :=
  ∑ l : Fin 256, actAt h (fun k => wg k l) (fun k => wu k l) * wd l

/-- The row after the feed-forward block and its residual, at position `j`, before the last norm. -/
def residAt (row g : Fin 1024 → EReal) (wg wu : Fin 1024 → Fin 2816 → EReal)
    (wd : Fin 2816 → Fin 1024 → EReal) (j : Fin 1024) : EReal :=
  row j + ∑ l : Fin 2816, actAt (normAt row g) (fun k => wg k l) (fun k => wu k l) * wd l j

/-- The row after the feed-forward block, its residual and the final norm. -/
def ffnAt (row g : Fin 1024 → EReal) (wg wu : Fin 1024 → Fin 2816 → EReal)
    (wd : Fin 2816 → Fin 1024 → EReal) (gf : Fin 1024 → EReal) (j : Fin 1024) : EReal :=
  normAt (residAt row g wg wu wd) gf j

/-- The row function depends on its arguments' entries alone. -/
theorem ffnAt_congr {row row' g g' : Fin 1024 → EReal} {wg wg' wu wu' : Fin 1024 → Fin 2816 → EReal}
    {wd wd' : Fin 2816 → Fin 1024 → EReal} {gf gf' : Fin 1024 → EReal} (j : Fin 1024)
    (h0 : ∀ k, row k = row' k) (h1 : ∀ k, g k = g' k) (h2 : ∀ k l, wg k l = wg' k l) (h3 : ∀ k l, wu k l = wu' k l)
    (h4 : ∀ l k, wd l k = wd' l k) (h5 : ∀ k, gf k = gf' k) :
    ffnAt row g wg wu wd gf j = ffnAt row' g' wg' wu' wd' gf' j := by
  obtain rfl : row = row' := funext h0
  obtain rfl : g = g' := funext h1
  obtain rfl : wg = wg' := funext fun k => funext (h2 k)
  obtain rfl : wu = wu' := funext fun k => funext (h3 k)
  obtain rfl : wd = wd' := funext fun k => funext (h4 k)
  obtain rfl : gf = gf' := funext h5
  rfl

end Cert.FfnRow
-- ==== Proof.FfnPay.lean ====
module

public import proofs.«01_k».proof.Proof.FfnRow
public import proofs.«01_k».proof.Proof.Gen.FfnIdeal.Frame

/-!
What one block of the feed-forward kernel stores, read at one element: the row function `ffnAt` of the
block's row and of the weights. The kernel adds the eleven parts of the down projection one after the
other; the row function has them as one sum.
-/

@[expose] public section

set_option maxRecDepth 16384

noncomputable section

namespace Cert.FfnIdeal.Pure
open Idealize.ShloMosaic Idealize.ShloMosaic.TcCoe Idealize.SL.Sem
open Cert.FfnIdeal Cert.FfnIdeal.Gen Cert.FfnRow

/-- The kernel's normed rows are the row function's. -/
theorem pay1_at (x : FVec Ideal S512x1024 .f32) (g : FVec Ideal S1x1024 .f32) (r : Fin 512) (k : Fin 1024) :
    k0_pay1 (F := Ideal) x g (ix2 r k) = normAt (fun l => x (ix2 r l)) (fun l => g (ix2 0 l)) k := by
  pointwise [k0_pay1, normAt]

/-- The first part of the down projection, added to the row. -/
theorem pay2_at (x : FVec Ideal S512x1024 .f32) (g : FVec Ideal S1x1024 .f32)
    (a b : FVec Ideal S1024x256 .bf16) (d : FVec Ideal S256x1024 .bf16) (r : Fin 512) (j : Fin 1024) :
    k0_pay2 (F := Ideal) x g a b d (ix2 r j) = x (ix2 r j) +
      partAt (fun k => k0_pay1 (F := Ideal) x g (ix2 r k)) (fun k l => a (ix2 k l)) (fun k l => b (ix2 k l)) (fun l => d (ix2 l j)) := by
  pointwise [k0_pay2, partAt, actAt]

/-- Parts two to four. -/
theorem pay6_at (x : FVec Ideal S512x1024 .f32) (g : FVec Ideal S1x1024 .f32) (h : FVec Ideal S512x1024 .bf16) (acc : FVec Ideal S512x1024 .f32)
    (a b a' b' a'' b'' : FVec Ideal S1024x256 .bf16) (d d' d'' : FVec Ideal S256x1024 .bf16) (r : Fin 512) (j : Fin 1024) :
    k0_pay6 (F := Ideal) h acc (k0_pay3 x g a) (k0_pay4 x g b) (k0_pay5 x g a) d a' b' d' a'' b'' d'' (ix2 r j) = acc (ix2 r j) +
      partAt (fun k => k0_pay1 (F := Ideal) x g (ix2 r k)) (fun k l => a (ix2 k l)) (fun k l => b (ix2 k l)) (fun l => d (ix2 l j)) +
      partAt (fun k => h (ix2 r k)) (fun k l => a' (ix2 k l)) (fun k l => b' (ix2 k l)) (fun l => d' (ix2 l j)) +
      partAt (fun k => h (ix2 r k)) (fun k l => a'' (ix2 k l)) (fun k l => b'' (ix2 k l)) (fun l => d'' (ix2 l j)) := by
  pointwise [k0_pay6, k0_pay3, k0_pay4, k0_pay5, partAt, actAt]

/-- Parts five and six. -/
theorem pay8_at (h : FVec Ideal S512x1024 .bf16) (acc : FVec Ideal S512x1024 .f32)
    (a b a' b' : FVec Ideal S1024x256 .bf16) (d d' : FVec Ideal S256x1024 .bf16) (r : Fin 512) (j : Fin 1024) :
    k0_pay8 (F := Ideal) h acc (k0_pay7 a) b d a' b' d' (ix2 r j) = acc (ix2 r j) +
      partAt (fun k => h (ix2 r k)) (fun k l => a (ix2 k l)) (fun k l => b (ix2 k l)) (fun l => d (ix2 l j)) +
      partAt (fun k => h (ix2 r k)) (fun k l => a' (ix2 k l)) (fun k l => b' (ix2 k l)) (fun l => d' (ix2 l j)) := by
  pointwise [k0_pay8, k0_pay7, partAt, actAt]

/-- Parts seven to nine. -/
theorem pay10_at (h : FVec Ideal S512x1024 .bf16) (acc : FVec Ideal S512x1024 .f32)
    (a b a' b' a'' b'' : FVec Ideal S1024x256 .bf16) (d d' d'' : FVec Ideal S256x1024 .bf16) (r : Fin 512) (j : Fin 1024) :
    k0_pay10 (F := Ideal) h acc (k0_pay9 h a b) d a' b' d' a'' b'' d'' (ix2 r j) = acc (ix2 r j) +
      partAt (fun k => h (ix2 r k)) (fun k l => a (ix2 k l)) (fun k l => b (ix2 k l)) (fun l => d (ix2 l j)) +
      partAt (fun k => h (ix2 r k)) (fun k l => a' (ix2 k l)) (fun k l => b' (ix2 k l)) (fun l => d' (ix2 l j)) +
      partAt (fun k => h (ix2 r k)) (fun k l => a'' (ix2 k l)) (fun k l => b'' (ix2 k l)) (fun l => d'' (ix2 l j)) := by
  pointwise [k0_pay10, k0_pay9, partAt, actAt]

/-- The last two parts, and the final norm. -/
theorem pay12_at (h : FVec Ideal S512x1024 .bf16) (acc : FVec Ideal S512x1024 .f32)
    (a b a' b' : FVec Ideal S1024x256 .bf16) (d d' : FVec Ideal S256x1024 .bf16) (gf : FVec Ideal S1x1024 .f32) (r : Fin 512) (j : Fin 1024) :
    k0_pay12 (F := Ideal) h acc (k0_pay11 h a) b d a' b' d' gf (ix2 r j) = normAt (fun i => acc (ix2 r i) +
      partAt (fun k => h (ix2 r k)) (fun k l => a (ix2 k l)) (fun k l => b (ix2 k l)) (fun l => d (ix2 l i)) +
      partAt (fun k => h (ix2 r k)) (fun k l => a' (ix2 k l)) (fun k l => b' (ix2 k l)) (fun l => d' (ix2 l i))) (fun l => gf (ix2 0 l)) j := by
  pointwise [k0_pay12, k0_pay11, partAt, actAt, normAt]

/-- The whole block: what it stores at row `r`, position `j`, is the row function there. -/
theorem out_at (x0 : FVec Ideal S512x1024 .f32) (x1 : FVec Ideal S1x1024 .f32) (x2 x3 : FVec Ideal S1024x2816 .bf16)
    (x4 : FVec Ideal S2816x1024 .bf16) (x5 : FVec Ideal S1x1024 .f32) (r : Fin 512) (j : Fin 1024) :
    out0_6 (F := Ideal) x0 x1 x2 x3 x4 x5 (ix2 r j) =
      ffnAt (fun k => x0 (ix2 r k)) (fun k => x1 (ix2 0 k)) (fun k l => x2 (ix2 k l)) (fun k l => x3 (ix2 k l))
        (fun l i => x4 (ix2 l i)) (fun k => x5 (ix2 0 k)) j := by
  unfold_out out0_6
  canon_tiles y hy
  idx_vars y
  obtain rfl : r = y0 := Fin.ext hy0
  obtain rfl : j = y1 := Fin.ext hy1
  rw [pay12_at, ffnAt]
  refine congrArg₂ (fun a b => normAt a b j) (funext fun i => ?_) (funext fun l => ?_)
  · rw [pay10_at, pay8_at, pay6_at, pay2_at, residAt, Fin.sum_univ_tiles 11 256 rfl]
    simp only [Fin.sum_univ_succ (n := 10), Fin.sum_univ_succ (n := 9), Fin.sum_univ_succ (n := 8), Fin.sum_univ_succ (n := 7),
      Fin.sum_univ_succ (n := 6), Fin.sum_univ_succ (n := 5), Fin.sum_univ_succ (n := 4), Fin.sum_univ_succ (n := 3),
      Fin.sum_univ_succ (n := 2), Fin.sum_univ_succ (n := 1), Fin.sum_univ_succ (n := 0), Finset.univ_eq_empty, Finset.sum_empty,
      pay1_at, add_assoc, add_zero]
    pointwise [partAt]
    simp only [Fin.val_succ, Fin.val_zero, Nat.reduceAdd, Nat.reduceMul]
  · pointwise []

end Cert.FfnIdeal.Pure
-- ==== Proof.FfnRef.lean ====
module

public import proofs.«01_k».proof.Proof.FfnRow
public import proofs.«01_k».proof.Proof.Gen.FfnReferenceIdeal.Run

/-!
What the reference of the feed-forward network computes, read at one element: the row function `ffnAt` of
the row of the array and of the weights.
-/

@[expose] public section

set_option maxRecDepth 16384

noncomputable section

namespace Cert.FfnReferenceIdeal.Pure
open Idealize.ShloMosaic Idealize.ShloMosaic.TcCoe Idealize.SL.Sem
open Cert.FfnReferenceIdeal Cert.FfnReferenceIdeal.Gen Cert.FfnRow

/-- The reference's norm of every row. -/
def refNorm (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The reference's product of every row with a 1024 by 2816 weight. -/
def refDot (h : FVec Ideal S16384x1024 .f32) (w : FVec Ideal S1024x2816 .f32) : FVec Ideal S16384x2816 .f32 :=
  Host.dotGeneral dot_S16384x1024_S1024x2816_S16384x2816_1_0_0_1_n_n none h w

/-- The reference's rows before the last norm. -/
def refResid (x : FVec Ideal S16384x1024 .f32) (g : FVec Ideal S1024 .f32) (wg wu : FVec Ideal S1024x2816 .f32)
    (wd : FVec Ideal S2816x1024 .f32) : FVec Ideal S16384x1024 .f32 :=
  addf x (Host.dotGeneral dot_S16384x2816_S2816x1024_S16384x1024_1_0_0_1_n_n none (mulf (mulf (refDot (refNorm x g) wg) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (refDot (refNorm x g) wg)))))) (refDot (refNorm x g) wu)) wd)

/-- The reference's result is the last norm of those rows. -/
theorem res_eq (m : (ℓ : Loc nD τ sig) → Buf (Elt Ideal) ℓ) (c : Dev nD) :
    Value.res_main_v31 (F := Ideal) m c = refNorm (refResid (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) := by
  unfold Value.res_main_v31 refNorm refResid refDot refNorm
  rfl

/-- The reference's norm at one element. -/
theorem refNorm_at (x : FVec Ideal S16384x1024 .f32) (g : FVec Ideal S1024 .f32) (i : Fin 16384) (k : Fin 1024) :
    refNorm x g (ix2 i k) = normAt (fun l => x (ix2 i l)) (fun l => g (ix1 l)) k := by
  pointwise [refNorm, normAt]

/-- The reference's product at one element. -/
theorem refDot_at (h : FVec Ideal S16384x1024 .f32) (w : FVec Ideal S1024x2816 .f32) (i : Fin 16384) (l : Fin 2816) :
    refDot h w (ix2 i l) = ∑ k : Fin 1024, h (ix2 i k) * w (ix2 k l) := by
  pointwise [refDot]

/-- The reference's rows before the last norm, at one element. -/
theorem refResid_at (x : FVec Ideal S16384x1024 .f32) (g : FVec Ideal S1024 .f32) (wg wu : FVec Ideal S1024x2816 .f32)
    (wd : FVec Ideal S2816x1024 .f32) (i : Fin 16384) (j : Fin 1024) :
    refResid x g wg wu wd (ix2 i j) = residAt (fun k => x (ix2 i k)) (fun k => g (ix1 k)) (fun k l => wg (ix2 k l))
      (fun k l => wu (ix2 k l)) (fun l a => wd (ix2 l a)) j := by
  pointwise [refResid, residAt, refDot_at, refNorm_at, actAt, Ideal.logistic]

/-- The reference's result at one element. -/
theorem ref_at (x : FVec Ideal S16384x1024 .f32) (g : FVec Ideal S1024 .f32) (wg wu : FVec Ideal S1024x2816 .f32)
    (wd : FVec Ideal S2816x1024 .f32) (gf : FVec Ideal S1024 .f32) (i : Fin 16384) (j : Fin 1024) :
    refNorm (refResid x g wg wu wd) gf (ix2 i j) = ffnAt (fun k => x (ix2 i k)) (fun k => g (ix1 k)) (fun k l => wg (ix2 k l))
      (fun k l => wu (ix2 k l)) (fun l a => wd (ix2 l a)) (fun k => gf (ix1 k)) j := by
  rw [refNorm_at, ffnAt]
  simp only [refResid_at]

end Cert.FfnReferenceIdeal.Pure
-- ==== Proof.FfnValue.lean ====
module

public import proofs.«01_k».proof.Proof.FfnPay
public import proofs.«01_k».proof.Proof.FfnRef
public import proofs.«01_k».proof.Proof.Gen.FfnIdeal.Value

/-!
The array the feed-forward kernel leaves is the reference's array: every block stores the row function of
its rows, and the blocks tile the array.
-/

@[expose] public section

set_option maxRecDepth 16384

noncomputable section

namespace Cert.FfnIdeal.Final
open Idealize.ShloMosaic Idealize.ShloMosaic.TcCoe Idealize.SL.Sem
open Cert.FfnIdeal Cert.FfnIdeal.Gen Cert.FfnRow Cert.FfnIdeal.Pure Cert.FfnReferenceIdeal.Pure
open Idealize.ShloMosaic.Pipeline (Dat)

variable (m : (ℓ : Loc nD τ sig) → Buf (Elt Ideal) ℓ)

/-- Which block every window stages at every point: the rows' blocks follow the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The reference's array, of the kernel's arguments. -/
def REF (c : Dev nD) : FVec Ideal S16384x1024 .f32 :=
  refNorm (refResid (m ((c : Thread nD τ).loc main_arg0)) (m ((c : Thread nD τ).loc main_arg1)) (m ((c : Thread nD τ).loc main_arg2))
    (m ((c : Thread nD τ).loc main_arg3)) (m ((c : Thread nD τ).loc main_arg4))) (m ((c : Thread nD τ).loc main_arg5))

/-- The block of the rows staged at a point holds 512 consecutive rows of the array. -/
theorem read0 (c : Dev nD) (t : Fin cfg0.N) (r : Fin 512) (k : Fin 1024) (h : t.val * 512 + r.val < 16384) :
    (show FVec Ideal S512x1024 .f32 from iblk m c 0 t) (ix2 r k)
    = (show FVec Ideal S16384x1024 .f32 from m ((c : Thread nD τ).loc main_arg0)) (ix2 ⟨t.val * 512 + r.val, h⟩ k) := by
  blk_point [iblk, V, idx t]

/-- The first gain's block is the argument's row. -/
theorem read1 (c : Dev nD) (t : Fin cfg0.N) (k : Fin 1024) :
    (show FVec Ideal S1x1024 .f32 from iblk m c 1 t) (ix2 0 k)
    = (show FVec Ideal S1024 .f32 from m ((c : Thread nD τ).loc main_arg1)) (ix1 k) := by
  blk_point [iblk, V, idx t]

/-- The gate projection's block is the whole argument. -/
theorem read2 (c : Dev nD) (t : Fin cfg0.N) (k : Fin 1024) (l : Fin 2816) :
    (show FVec Ideal S1024x2816 .bf16 from iblk m c 2 t) (ix2 k l)
    = (show FVec Ideal S1024x2816 .f32 from m ((c : Thread nD τ).loc main_arg2)) (ix2 k l) := by
  blk_point [iblk, V, idx t]

/-- The up projection's block is the whole argument. -/
theorem read3 (c : Dev nD) (t : Fin cfg0.N) (k : Fin 1024) (l : Fin 2816) :
    (show FVec Ideal S1024x2816 .bf16 from iblk m c 3 t) (ix2 k l)
    = (show FVec Ideal S1024x2816 .f32 from m ((c : Thread nD τ).loc main_arg3)) (ix2 k l) := by
  blk_point [iblk, V, idx t]

/-- The down projection's block is the whole argument. -/
theorem read4 (c : Dev nD) (t : Fin cfg0.N) (l : Fin 2816) (k : Fin 1024) :
    (show FVec Ideal S2816x1024 .bf16 from iblk m c 4 t) (ix2 l k)
    = (show FVec Ideal S2816x1024 .f32 from m ((c : Thread nD τ).loc main_arg4)) (ix2 l k) := by
  blk_point [iblk, V, idx t]

/-- The last gain's block is the argument's row. -/
theorem read5 (c : Dev nD) (t : Fin cfg0.N) (k : Fin 1024) :
    (show FVec Ideal S1x1024 .f32 from iblk m c 5 t) (ix2 0 k)
    = (show FVec Ideal S1024 .f32 from m ((c : Thread nD τ).loc main_arg5)) (ix1 k) := by
  blk_point [iblk, V, idx t]

/-- What the body stores at an index of point `t`'s block is the reference's array there. -/
theorem point (c : Dev nD) (t : Fin cfg0.N) (r : Fin 512) (j : Fin 1024) :
    out0_6 (F := Ideal) (iblk m c 0 t) (iblk m c 1 t) (iblk m c 2 t) (iblk m c 3 t) (iblk m c 4 t) (iblk m c 5 t) (ix2 r j)
    = REF m c (((cfg0.win 6).blk t).view.emb (ix2 r j)) := by
  have hN : t.val < 32 := t.isLt
  have hemb : ((cfg0.win 6).blk t).view.emb (ix2 r j) = (ix2 (⟨t.val * 512 + r.val, by omega⟩ : Fin 16384) j : S16384x1024.Idx) := by
    blk_ext [idx t]
  rw [hemb, REF, ref_at, out_at]
  exact ffnAt_congr j (fun k => read0 m c t r k _) (read1 m c t) (read2 m c t) (read3 m c t) (read4 m c t) (read5 m c t)

/-- The kernel's array is the reference's. -/
theorem final (c : Dev nD) : (dats m 0 c).arrAt 6 cfg0.N = REF m c := by
  refine (dats m 0 c).arrAt_eq_of_covers 6 _ (by decide +kernel) fun t _ y => ?_
  blk_simp
  rw [after0_6]
  idx_vars y
  exact point m c t y0 y1

end Cert.FfnIdeal.Final
-- ==== Proof.RefRun.lean ====
/- The run of the mixer's reference read from its fold: what every stretch leaves alone, hence the frame. -/
module

public import proofs.«01_k».proof.Proof.Gen.ReferenceIdeal.Run
public import proofs.«01_k».proof.Defs

@[expose] public section

set_option maxRecDepth 8000

noncomputable section

namespace Cert.ReferenceIdeal.Fold

open Idealize.ShloMosaic Idealize.ShloMosaic.TcCoe Idealize.ShloMosaic.StableHlo Cert.ReferenceIdeal Cert.ReferenceIdeal.Gen Cert.ReferenceIdeal.Value

variable (m : (ℓ : Loc nD τ sig) → Buf (Elt Ideal) ℓ)

/-- The buffers the operations after the loop write. -/
abbrev postW : List (Ref sig .tc) := [main_v101, main_v102, main_cst_11, main_v103, main_v104, main_v105, main_cst_12, main_v106, main_v107, main_v108, main_cst_13, main_v109, main_v110, main_cst_14, main_v111, main_v112, main_v113, main_v114, main_v115, main_v116, main_v117, main_v118, main_v119, main_v120, main_v121, main_v122, main_v123, main_v124, main_v125, main_v126, main_v127, main_cst_15, main_v128, main_v129, main_v130, main_cst_16, main_v131, main_v132, main_v133, main_cst_17, main_v134, main_v135, main_cst_18, main_v136, main_v137, main_v138, main_v139, main_v140, main_v141, main_v142, main_v143, main_v144, main_cst_19, main_v145, main_v146, main_cst_20, main_v147, main_v148, main_v149, main_v150, main_cst_21, main_v151, main_v152, main_cst_22, main_v153, main_v154, main_cst_23, main_v155, main_v156, main_v157, main_v158, main_v159, main_v160, main_v161, main_v162, main_v163, main_cst_24, main_v164, main_v165, main_cst_25, main_v166, main_v167, main_cst_26, main_v168, main_v169, main_v170, main_v171, main_v172, main_v173, main_v174, main_v175, main_v176, main_v177, main_v178, main_v179, main_v180, main_v181, main_v182, main_v183, main_v184, main_v185]

/-- Every operation after the loop writes one of them. -/
theorem post_writes : (hostOps0_3 : List (HloOp τ sig (Elt Ideal))).Forall fun op => op.writes ⊆ (postW.map (Proc.devRef (τ := τ) .tc)).toFinset :=
  StableHlo.forall_writes_sub_of_map rfl

/-- The buffers the operations before the loop write. -/
abbrev preW : List (Ref sig .tc) := hostOps0_W ++ hostOps0_1_W ++ hostOps0_2_W

/-- The buffers one trip of the loop writes. -/
abbrev tripW : List (Ref sig .tc) := condOps_W ++ while0Ops0_W ++ while0Ops0_1_W ++ while0Ops0_2_W ++ while0Ops0_3_W ++ while0Ops0_4_W
  ++ while0Ops0_5_W ++ while0Ops0_6_W ++ while0Ops0_7_W ++ while0Ops0_8_W

/-- A buffer that no operation before the loop writes holds what the launch held. -/
theorem entry_keep (c : Dev nD) (r : Ref sig .tc) (h : r ∉ preW) :
    entryContents preI m c (Proc.devRef .tc r) = m ((c : Thread nD τ).loc r) := by
  simp only [List.mem_append, not_or] at h
  obtain ⟨⟨h0, h1⟩, h2⟩ := h
  show after hostOps0_2 (after hostOps0_1 (after hostOps0 (launchContents m c))) (Proc.devRef .tc r) = _
  rw [after_of_writes_sub _ _ hostOps0_2_writes h2, after_of_writes_sub _ _ hostOps0_1_writes h1, after_of_writes_sub _ _ hostOps0_writes h0]

/-- The loop's condition keeps what it does not write. -/
theorem cond_keep (V : Valuation τ sig (Elt Ideal)) (r : Ref sig .tc) (h : r ∉ tripW) :
    after condOps V (Proc.devRef .tc r) = V (Proc.devRef .tc r) := by
  simp only [List.mem_append, not_or] at h
  obtain ⟨⟨⟨⟨⟨⟨⟨⟨⟨hc, h0⟩, h1⟩, h2⟩, h3⟩, h4⟩, h5⟩, h6⟩, h7⟩, h8⟩ := h
  exact after_of_writes_sub _ _ condOps_writes hc

/-- A buffer that no trip writes holds, after any number of trips, what it held at the loop's entry. -/
theorem trips_keep (c : Dev nD) (r : Ref sig .tc) (h : r ∉ tripW) :
    ∀ k, atK m k c (Proc.devRef .tc r) = entryContents preI m c (Proc.devRef .tc r)
  | 0 => rfl
  | k + 1 => by
    have ih := trips_keep c r h k
    simp only [List.mem_append, not_or] at h
    obtain ⟨⟨⟨⟨⟨⟨⟨⟨⟨hc, h0⟩, h1⟩, h2⟩, h3⟩, h4⟩, h5⟩, h6⟩, h7⟩, h8⟩ := h
    show after while0Ops0_8 (after while0Ops0_7 (after while0Ops0_6 (after while0Ops0_5 (after while0Ops0_4 (after while0Ops0_3
      (after while0Ops0_2 (after while0Ops0_1 (after while0Ops0 (after condOps (atK m k c)))))))))) (Proc.devRef .tc r) = _
    rw [after_of_writes_sub _ _ while0Ops0_8_writes h8, after_of_writes_sub _ _ while0Ops0_7_writes h7,
      after_of_writes_sub _ _ while0Ops0_6_writes h6, after_of_writes_sub _ _ while0Ops0_5_writes h5,
      after_of_writes_sub _ _ while0Ops0_4_writes h4, after_of_writes_sub _ _ while0Ops0_3_writes h3,
      after_of_writes_sub _ _ while0Ops0_2_writes h2, after_of_writes_sub _ _ while0Ops0_1_writes h1,
      after_of_writes_sub _ _ while0Ops0_writes h0, after_of_writes_sub _ _ condOps_writes hc]
    exact ih

/-- A buffer that no operation of the program writes holds at the end what the launch held. -/
theorem keep (c : Dev nD) (r : Ref sig .tc) (hpre : r ∉ preW) (htrip : r ∉ tripW) (hpost : r ∉ postW) :
    finalContents condOps preI bodyI postI 16384 m c (Proc.devRef .tc r) = m ((c : Thread nD τ).loc r) := by
  show after hostOps0_3 (after condOps (atK m 16384 c)) (Proc.devRef .tc r) = _
  rw [after_of_writes_sub _ _ post_writes hpost, cond_keep _ r htrip, trips_keep m c r htrip 16384, entry_keep m c r hpre]

/-- The mixer's reference returns and leaves its arguments as they were. -/
theorem frame : Cert.quiescent_ReferenceIdeal := by
  intro m g _
  refine (θ_run _ _ _).mono ?_ (run_fold m g)
  intro r hr
  refine ⟨fun c => ?_, sem_eq_zero_of_no_sems (by decide) _⟩
  refine ⟨?_, ?_, ?_, ?_, ?_, ?_, ?_, ?_, ?_, ?_, ?_, ?_, ?_, ?_, ?_, ?_, ?_, ?_, ?_, ?_, ?_, ?_, ?_, ?_, ?_, ?_⟩ <;>
    exact (hr c _ rfl).trans (keep m c _ (by decide +kernel) (by decide +kernel) (by decide +kernel))

end Cert.ReferenceIdeal.Fold

end
-- ==== Proof.KWeights.lean ====
/- What the mixer kernel's staged arrays hold, of its arguments: the small arrays, and the three block-diagonal weights. -/
module

public import proofs.«01_k».proof.Proof.FfnRow
public import proofs.«01_k».proof.Proof.Gen.KernelIdeal.Value
public import Idealize.ShloMosaic.Lib.StableHlo.RunRead

@[expose] public section

set_option maxRecDepth 16384
set_option maxHeartbeats 4000000

noncomputable section

namespace Cert.KernelIdeal.Final

open Idealize.ShloMosaic Idealize.ShloMosaic.TcCoe Idealize.ShloMosaic.StableHlo Idealize.SL.Sem
open Cert.KernelIdeal Cert.KernelIdeal.Gen

/-- The gates' weights, block diagonal. -/
def wGate (wa wx : FVec Ideal S8x64x64 .f32) : FVec Ideal S2x256x512 .bf16 :=
  (truncf .bf16 (concatenate S2x256x512 2 [⟨S2x256x256, (shapeCast S2x256x256 (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 wa shapeCasts_S8x64x64_S2x4x64x64))) (broadcastInDim S2x4x64x4x64 ![0, 1, 2, 3, 4] bcast_S1x4x1x4x1_S2x4x64x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)))))) shapeCasts_S2x4x64x4x64_S2x256x256)⟩, ⟨S2x256x256, (shapeCast S2x256x256 (mulf (broadcastInDim S2x4x64x4x64 ![0, 1, 2, 3, 4] bcast_S2x4x64x1x64_S2x4x64x4x64_0_1_2_3_4 (broadcastInDim S2x4x64x1x64 ![0, 1, 2, 4] bcast_S2x4x64x64_S2x4x64x1x64_0_1_2_4 (shapeCast S2x4x64x64 wx shapeCasts_S8x64x64_S2x4x64x64))) (broadcastInDim S2x4x64x4x64 ![0, 1, 2, 3, 4] bcast_S1x4x1x4x1_S2x4x64x4x64_0_1_2_3_4 (broadcastInDim S1x4x1x4x1 ![1, 3] bcast_S4x4_S1x4x1x4x1_1_3 (uitofp .f32 (cmpi .eq (addi (iotaInDim S4x4 32 0) (broadcastInDim S4x4 ![] bcast_S_S4x4 (constantI S_ 32 0#32))) (iotaInDim S4x4 32 1)))))) shapeCasts_S2x4x64x4x64_S2x256x256)⟩] concatenates_S2x256x256_S2x256x256_S2x256x512_d2) bitsLt_bf16_f32)

/-- The state space's input weights, block diagonal. -/
def wIn (br bi : FVec Ideal S32x16x64 .f32) : FVec Ideal S4x128x1024 .bf16 :=
  (truncf .bf16 (shapeCast S4x128x1024 (mulf (broadcastInDim S4x4x2x16x4x2x2x64 ![0, 1, 2, 3, 4, 5, 6, 7] bcast_S4x4x2x16x4x2x1x64_S4x4x2x16x4x2x2x64_0_1_2_3_4_5_6_7 (mulf (broadcastInDim S4x4x2x16x4x2x1x64 ![0, 1, 2, 3, 4, 5, 6, 7] bcast_S4x4x2x16x1x2x1x64_S4x4x2x16x4x2x1x64_0_1_2_3_4_5_6_7 (broadcastInDim S4x4x2x16x1x2x1x64 ![0, 1, 2, 3, 5, 7] bcast_S4x4x2x16x2x64_S4x4x2x16x1x2x1x64_0_1_2_3_5_7 (transpose S4x4x2x16x2x64 [1, 2, 3, 4, 0, 5] (shapeCast S2x4x4x2x16x64 (concatenate S2x32x16x64 0 [⟨S1x32x16x64, (broadcastInDim S1x32x16x64 ![1, 2, 3] bcast_S32x16x64_S1x32x16x64_1_2_3 br)⟩, ⟨S1x32x16x64, (broadcastInDim S1x32x16x64 ![1, 2, 3] bcast_S32x16x64_S1x32x16x64_1_2_3 bi)⟩] concatenates_S1x32x16x64_S1x32x16x64_S2x32x16x64_d0) shapeCasts_S2x32x16x64_S2x4x4x2x16x64) transposes_S2x4x4x2x16x64_S4x4x2x16x2x64_1_2_3_4_0_5))) (broadcastInDim S4x4x2x16x4x2x1x64 ![0, 1, 2, 3, 4, 5, 6, 7] bcast_S1x4x1x1x4x1x1x1_S4x4x2x16x4x2x1x64_0_1_2_3_4_5_6_7 (broadcastInDim S1x4x1x1x4x1x1x1 ![1, 4] bcast_S4x4_S1x4x1x1x4x1x1x1_1_4 (uitofp .f32 (cmpi .eq (addi (iotaInDim S4x4 32 0) (broadcastInDim S4x4 ![] bcast_S_S4x4 (constantI S_ 32 0#32))) (iotaInDim S4x4 32 1))))))) (broadcastInDim S4x4x2x16x4x2x2x64 ![0, 1, 2, 3, 4, 5, 6, 7] bcast_S1x1x2x1x1x1x2x1_S4x4x2x16x4x2x2x64_0_1_2_3_4_5_6_7 (broadcastInDim S1x1x2x1x1x1x2x1 ![2, 6] bcast_S2x2_S1x1x2x1x1x1x2x1_2_6 (uitofp .f32 (cmpi .eq (addi (iotaInDim S2x2 32 0) (broadcastInDim S2x2 ![] bcast_S_S2x2 (constantI S_ 32 0#32))) (iotaInDim S2x2 32 1)))))) shapeCasts_S4x4x2x16x4x2x2x64_S4x128x1024) bitsLt_bf16_f32)

/-- The state space's output weights, block diagonal. -/
def wOut (cr ci : FVec Ideal S32x16x64 .f32) : FVec Ideal S16x256x128 .bf16 :=
  (truncf .bf16 (shapeCast S16x256x128 (mulf (broadcastInDim S4x4x2x2x64x4x2x16 ![0, 1, 2, 3, 4, 5, 6, 7] bcast_S4x4x2x2x64x4x1x16_S4x4x2x2x64x4x2x16_0_1_2_3_4_5_6_7 (mulf (broadcastInDim S4x4x2x2x64x4x1x16 ![0, 1, 2, 3, 4, 5, 6, 7] bcast_S4x4x2x2x64x1x1x16_S4x4x2x2x64x4x1x16_0_1_2_3_4_5_6_7 (broadcastInDim S4x4x2x2x64x1x1x16 ![0, 1, 2, 3, 4, 7] bcast_S4x4x2x2x64x16_S4x4x2x2x64x1x1x16_0_1_2_3_4_7 (transpose S4x4x2x2x64x16 [1, 2, 0, 3, 5, 4] (shapeCast S2x4x4x2x16x64 (concatenate S2x32x16x64 0 [⟨S1x32x16x64, (broadcastInDim S1x32x16x64 ![1, 2, 3] bcast_S32x16x64_S1x32x16x64_1_2_3 cr)⟩, ⟨S1x32x16x64, (broadcastInDim S1x32x16x64 ![1, 2, 3] bcast_S32x16x64_S1x32x16x64_1_2_3 (Host.negf ci))⟩] concatenates_S1x32x16x64_S1x32x16x64_S2x32x16x64_d0) shapeCasts_S2x32x16x64_S2x4x4x2x16x64) transposes_S2x4x4x2x16x64_S4x4x2x2x64x16_1_2_0_3_5_4))) (broadcastInDim S4x4x2x2x64x4x1x16 ![0, 1, 2, 3, 4, 5, 6, 7] bcast_S1x4x1x1x1x4x1x1_S4x4x2x2x64x4x1x16_0_1_2_3_4_5_6_7 (broadcastInDim S1x4x1x1x1x4x1x1 ![1, 5] bcast_S4x4_S1x4x1x1x1x4x1x1_1_5 (uitofp .f32 (cmpi .eq (addi (iotaInDim S4x4 32 0) (broadcastInDim S4x4 ![] bcast_S_S4x4 (constantI S_ 32 0#32))) (iotaInDim S4x4 32 1))))))) (broadcastInDim S4x4x2x2x64x4x2x16 ![0, 1, 2, 3, 4, 5, 6, 7] bcast_S1x1x1x2x1x1x2x1_S4x4x2x2x64x4x2x16_0_1_2_3_4_5_6_7 (broadcastInDim S1x1x1x2x1x1x2x1 ![3, 6] bcast_S2x2_S1x1x1x2x1x1x2x1_3_6 (uitofp .f32 (cmpi .eq (addi (iotaInDim S2x2 32 0) (broadcastInDim S2x2 ![] bcast_S_S2x2 (constantI S_ 32 0#32))) (iotaInDim S2x2 32 1)))))) shapeCasts_S4x4x2x2x64x4x2x16_S16x256x128) bitsLt_bf16_f32)

/-- The rows kept from before under five rows of zeros. -/
def tileOf (conv : FVec Ideal S1x3x512 .f32) : FVec Ideal S1x8x512 .f32 :=
  pad S1x8x512 ![0, 5, 0] ![0, 0, 0] ![0, 0, 0] conv (sitofp (F := Ideal) .f32 (constantI S_ 32 0#32)) pads_S1x3x512_S1x8x512_000_500_000 h_S_

variable (m : (ℓ : Loc nD τ sig) → Buf (Elt Ideal) ℓ) (c : Dev nD)

/-- What the call gets as the first norm's gain. -/
theorem V_v0 : V m c main_v0 = (shapeCast S1x1024 (m ((c : Thread nD τ).loc main_arg5)) shapeCasts_S1024_S1x1024) := by
  simp only [V, List.flatten_cons, List.flatten_nil, List.append_nil, List.cons_append, List.nil_append]; after_reads_simp; rfl

/-- What the call gets as the convolution's bias. -/
theorem V_v2 : V m c main_v2 = (shapeCast S1x512 (m ((c : Thread nD τ).loc main_arg8)) shapeCasts_S512_S1x512) := by
  simp only [V, List.flatten_cons, List.flatten_nil, List.append_nil, List.cons_append, List.nil_append]; after_reads_simp; rfl

/-- What the call gets as the gates' two biases. -/
theorem V_v27 : V m c main_v27 = (concatenate S2x512 0 [⟨S1x512, (broadcastInDim S1x512 ![1] bcast_S512_S1x512_1 (m ((c : Thread nD τ).loc main_arg10)))⟩, ⟨S1x512, (broadcastInDim S1x512 ![1] bcast_S512_S1x512_1 (m ((c : Thread nD τ).loc main_arg12)))⟩] concatenates_S1x512_S1x512_S2x512_d0) := by
  simp only [V, List.flatten_cons, List.flatten_nil, List.append_nil, List.cons_append, List.nil_append]; after_reads_simp; rfl

/-- What the call gets as the RG-LRU parameter. -/
theorem V_v28 : V m c main_v28 = (shapeCast S1x512 (m ((c : Thread nD τ).loc main_arg13)) shapeCasts_S512_S1x512) := by
  simp only [V, List.flatten_cons, List.flatten_nil, List.append_nil, List.cons_append, List.nil_append]; after_reads_simp; rfl

/-- What the call gets as the real part of the S5 transition. -/
theorem V_v29 : V m c main_v29 = (shapeCast S2x8x128 (m ((c : Thread nD τ).loc main_arg14)) shapeCasts_S32x64_S2x8x128) := by
  simp only [V, List.flatten_cons, List.flatten_nil, List.append_nil, List.cons_append, List.nil_append]; after_reads_simp; rfl

/-- What the call gets as the imaginary part of the S5 transition. -/
theorem V_v30 : V m c main_v30 = (shapeCast S2x8x128 (m ((c : Thread nD τ).loc main_arg15)) shapeCasts_S32x64_S2x8x128) := by
  simp only [V, List.flatten_cons, List.flatten_nil, List.append_nil, List.cons_append, List.nil_append]; after_reads_simp; rfl

/-- What the call gets as the S5 skip weights. -/
theorem V_v88 : V m c main_v88 = (shapeCast S1x512 (m ((c : Thread nD τ).loc main_arg20)) shapeCasts_S512_S1x512) := by
  simp only [V, List.flatten_cons, List.flatten_nil, List.append_nil, List.cons_append, List.nil_append]; after_reads_simp; rfl

/-- What the call gets as the output gate's bias. -/
theorem V_v90 : V m c main_v90 = (shapeCast S1x512 (m ((c : Thread nD τ).loc main_arg22)) shapeCasts_S512_S1x512) := by
  simp only [V, List.flatten_cons, List.flatten_nil, List.append_nil, List.cons_append, List.nil_append]; after_reads_simp; rfl

/-- What the call gets as the RG-LRU norm's gain. -/
theorem V_v91 : V m c main_v91 = (shapeCast S1x512 (m ((c : Thread nD τ).loc main_arg23)) shapeCasts_S512_S1x512) := by
  simp only [V, List.flatten_cons, List.flatten_nil, List.append_nil, List.cons_append, List.nil_append]; after_reads_simp; rfl

/-- What the call gets as the S5 norm's gain. -/
theorem V_v92 : V m c main_v92 = (shapeCast S1x512 (m ((c : Thread nD τ).loc main_arg24)) shapeCasts_S512_S1x512) := by
  simp only [V, List.flatten_cons, List.flatten_nil, List.append_nil, List.cons_append, List.nil_append]; after_reads_simp; rfl

/-- What the call gets as the gates' weights. -/
theorem V_v24 : V m c main_v24 = wGate (m ((c : Thread nD τ).loc main_arg9)) (m ((c : Thread nD τ).loc main_arg11)) := by
  simp only [V, List.flatten_cons, List.flatten_nil, List.append_nil, List.cons_append, List.nil_append]; after_reads_simp; rfl

/-- What the call gets as the S5 input weights. -/
theorem V_v58 : V m c main_v58 = wIn (m ((c : Thread nD τ).loc main_arg16)) (m ((c : Thread nD τ).loc main_arg17)) := by
  simp only [V, List.flatten_cons, List.flatten_nil, List.append_nil, List.cons_append, List.nil_append]; after_reads_simp; rfl

/-- What the call gets as the S5 output weights. -/
theorem V_v87 : V m c main_v87 = wOut (m ((c : Thread nD τ).loc main_arg18)) (m ((c : Thread nD τ).loc main_arg19)) := by
  simp only [V, List.flatten_cons, List.flatten_nil, List.append_nil, List.cons_append, List.nil_append]; after_reads_simp; rfl

/-- What the call gets as the convolution's first state. -/
theorem V_v94 : V m c main_v94 = tileOf (m ((c : Thread nD τ).loc main_arg1)) := by
  simp only [V, List.flatten_cons, List.flatten_nil, List.append_nil, List.cons_append, List.nil_append]; after_reads_simp; rfl

/-- What the call gets as the first S5 state. -/
theorem V_v97 : V m c main_v97 = (concatenate S1x4x8x128 1 [⟨S1x2x8x128, (shapeCast S1x2x8x128 (m ((c : Thread nD τ).loc main_arg3)) shapeCasts_S1x32x64_S1x2x8x128)⟩, ⟨S1x2x8x128, (shapeCast S1x2x8x128 (m ((c : Thread nD τ).loc main_arg4)) shapeCasts_S1x32x64_S1x2x8x128)⟩] concatenates_S1x2x8x128_S1x2x8x128_S1x4x8x128_d1) := by
  simp only [V, List.flatten_cons, List.flatten_nil, List.append_nil, List.cons_append, List.nil_append]; after_reads_simp; rfl

end Cert.KernelIdeal.Final

end
-- ==== Proof.MixCollapse.lean ====
/- Sums against the block-diagonal weights: only one block of each sum is not a product with zero. -/
module

public import proofs.«01_k».proof.Proof.KWeights

@[expose] public section

set_option maxRecDepth 16384
set_option maxHeartbeats 4000000

noncomputable section

namespace Cert.KernelIdeal.Final

open Idealize.ShloMosaic Idealize.ShloMosaic.TcCoe Idealize.SL.Sem
open Cert.KernelIdeal Cert.KernelIdeal.Gen

/-- An entry of an identity matrix, as the host computes it. -/
theorem eye_eq (a b : ℕ) (ha : a < 100) (hb : b < 100) :
    (FloatOps.uitofp (F := Ideal) FTy.f32 (IntOp.cmpi CmpIPredicate.eq (IntOp.addi (BitVec.ofNat 32 a) 0#32) (BitVec.ofNat 32 b)) : EReal)
    = if a = b then 1 else 0 := by
  by_cases h : a = b
  · subst h; rw [if_pos rfl]
    have e : IntOp.cmpi CmpIPredicate.eq (IntOp.addi (BitVec.ofNat 32 a) 0#32) (BitVec.ofNat 32 a) = 1#1 := by
      simp [IntOp.cmpi, IntOp.addi]
    rw [e]; show (((1#1 : BitVec 1).toNat : ℝ) : EReal) = 1; simp
  · rw [if_neg h]
    have e : IntOp.cmpi CmpIPredicate.eq (IntOp.addi (BitVec.ofNat 32 a) 0#32) (BitVec.ofNat 32 b) = 0#1 := by
      have hne : ¬ (BitVec.ofNat 32 a = BitVec.ofNat 32 b) := by
        intro h'; apply h
        have := congrArg BitVec.toNat h'
        simpa [BitVec.toNat_ofNat, Nat.mod_eq_of_lt (show a < 4294967296 by omega), Nat.mod_eq_of_lt (show b < 4294967296 by omega)] using this
      show BitVec.ofBool (BitVec.ofNat 32 a + 0#32 == BitVec.ofNat 32 b) = 0#1
      rw [BitVec.add_zero, beq_eq_false_iff_ne.mpr hne]; rfl
    rw [e]; show (((0#1 : BitVec 1).toNat : ℝ) : EReal) = 0; simp

/-- The gates' weights, element by element. -/
theorem wGate_at (wa wx : FVec Ideal S8x64x64 .f32) (h : Fin 2) (i j : Fin 256) :
    wGate wa wx (ix3 h i ⟨j.val, by omega⟩)
      = wa (ix3 ⟨h.val * 4 + i.val / 64, by omega⟩ ⟨i.val % 64, by omega⟩ ⟨j.val % 64, by omega⟩) * (if i.val / 64 = j.val / 64 then 1 else 0)
    ∧ wGate wa wx (ix3 h i ⟨256 + j.val, by omega⟩)
      = wx (ix3 ⟨h.val * 4 + i.val / 64, by omega⟩ ⟨i.val % 64, by omega⟩ ⟨j.val % 64, by omega⟩) * (if i.val / 64 = j.val / 64 then 1 else 0) := by
  have hi : i.val / 64 < 100 := by omega
  have hj : j.val / 64 < 100 := by omega
  constructor
  · pointwise [wGate]
    exact congrArg (fun z : EReal => _ * z) (eye_eq _ _ hi hj)
  · pointwise [wGate]
    exact congrArg (fun z : EReal => _ * z) (eye_eq _ _ hi hj)

/-- A sum whose terms vanish outside one tile is the sum over that tile. -/
theorem sum_block {N : ℕ} (J T : ℕ) (hN : J * T = N) (f : Fin N → EReal) (a : Fin J) (hT : 0 < T)
    (h : ∀ i : Fin N, i.val / T ≠ a.val → f i = 0) (hb : ∀ k : Fin T, a.val * T + k.val < N) :
    (∑ i : Fin N, f i) = ∑ k : Fin T, f ⟨a.val * T + k.val, hb k⟩ := by
  rw [Fin.sum_univ_tiles J T hN, Finset.sum_eq_single a]
  · intro b _ hba
    refine Finset.sum_eq_zero fun k _ => h _ ?_
    show (b.val * T + k.val) / T ≠ a.val
    rw [Nat.mul_comm, Nat.mul_add_div hT, Nat.div_eq_of_lt k.isLt, Nat.add_zero]
    exact fun e => hba (Fin.ext e)
  · intro h; exact absurd (Finset.mem_univ _) h

/-- A sum over 256 columns against one gate's weights. -/
theorem gate_sum (w : FVec Ideal S8x64x64 .f32) (h : Fin 2) (x : Fin 256 → EReal) (j : Fin 256) (W : Fin 256 → EReal)
    (hW : ∀ i : Fin 256, W i = w (ix3 ⟨h.val * 4 + i.val / 64, by omega⟩ ⟨i.val % 64, by omega⟩ ⟨j.val % 64, by omega⟩) * (if i.val / 64 = j.val / 64 then 1 else 0)) :
    (∑ i : Fin 256, x i * W i)
    = ∑ k : Fin 64, x ⟨j.val / 64 * 64 + k.val, by omega⟩ * w (ix3 ⟨h.val * 4 + j.val / 64, by omega⟩ k ⟨j.val % 64, by omega⟩) := by
  rw [sum_block 4 64 rfl _ (⟨j.val / 64, by omega⟩ : Fin 4) (by decide) _ (fun k => by show j.val / 64 * 64 + k.val < 256; omega)]
  · refine Finset.sum_congr rfl fun k _ => ?_
    have e1 : (j.val / 64 * 64 + k.val) / 64 = j.val / 64 := by omega
    have e2 : (j.val / 64 * 64 + k.val) % 64 = k.val := by omega
    rw [hW]
    simp only [e1, e2, if_true, mul_one]
  · intro i hi
    rw [hW, if_neg hi, mul_zero, mul_zero]

/-- The state space's input weights, element by element. -/
theorem wIn_at (br bi : FVec Ideal S32x16x64 .f32) (q : Fin 4) (i : Fin 128) (j : Fin 1024) :
    wIn br bi (ix3 q i j)
    = (if _h : j.val / 128 % 2 < 1 then br (ix3 ⟨q.val * 8 + i.val / 32 * 2 + i.val / 16 % 2, by omega⟩ ⟨i.val % 16, by omega⟩ ⟨j.val % 64, by omega⟩)
        else bi (ix3 ⟨q.val * 8 + i.val / 32 * 2 + i.val / 16 % 2, by omega⟩ ⟨i.val % 16, by omega⟩ ⟨j.val % 64, by omega⟩))
      * (if i.val / 32 = j.val / 256 then 1 else 0) * (if i.val / 16 % 2 = j.val / 64 % 2 then 1 else 0) := by
  rw [← eye_eq (i.val / 32) (j.val / 256) (by omega) (by omega), ← eye_eq (i.val / 16 % 2) (j.val / 64 % 2) (by omega) (by omega)]
  pointwise [wIn]

/-- A sum over 128 columns against the state space's input weights. -/
theorem in_sum (br bi : FVec Ideal S32x16x64 .f32) (q : Fin 4) (x : Fin 128 → EReal) (j : Fin 1024) :
    (∑ i : Fin 128, x i * wIn br bi (ix3 q i j))
    = ∑ h : Fin 16, x ⟨(j.val / 256 * 2 + j.val / 64 % 2) * 16 + h.val, by omega⟩
        * (if _h : j.val / 128 % 2 < 1 then br (ix3 ⟨q.val * 8 + j.val / 256 * 2 + j.val / 64 % 2, by omega⟩ h ⟨j.val % 64, by omega⟩)
            else bi (ix3 ⟨q.val * 8 + j.val / 256 * 2 + j.val / 64 % 2, by omega⟩ h ⟨j.val % 64, by omega⟩)) := by
  rw [sum_block 8 16 rfl _ (⟨j.val / 256 * 2 + j.val / 64 % 2, by omega⟩ : Fin 8) (by decide) _ (fun k => by show (j.val / 256 * 2 + j.val / 64 % 2) * 16 + k.val < 128; omega)]
  · refine Finset.sum_congr rfl fun k _ => ?_
    have e1 : ((j.val / 256 * 2 + j.val / 64 % 2) * 16 + k.val) / 32 = j.val / 256 := by omega
    have e2 : ((j.val / 256 * 2 + j.val / 64 % 2) * 16 + k.val) / 16 % 2 = j.val / 64 % 2 := by omega
    have e3 : ((j.val / 256 * 2 + j.val / 64 % 2) * 16 + k.val) % 16 = k.val := by omega
    rw [wIn_at]
    simp only [e1, e2, e3, if_true, mul_one]
  · intro i hi
    have hi' : ¬ (i.val / 16 = j.val / 256 * 2 + j.val / 64 % 2) := hi
    rw [wIn_at]
    by_cases h1 : i.val / 32 = j.val / 256
    · rw [if_neg (show ¬ (i.val / 16 % 2 = j.val / 64 % 2) by omega), mul_zero, mul_zero]
    · rw [if_neg h1, mul_zero, zero_mul, mul_zero]

/-- The state space's output weights, element by element. -/
theorem wOut_at (cr ci : FVec Ideal S32x16x64 .f32) (s : Fin 16) (i : Fin 256) (j : Fin 128) :
    wOut cr ci (ix3 s i j)
    = (if _h : i.val / 128 < 1 then cr (ix3 ⟨s.val / 4 * 8 + s.val % 4 * 2 + i.val / 64 % 2, by omega⟩ ⟨j.val % 16, by omega⟩ ⟨i.val % 64, by omega⟩)
        else -ci (ix3 ⟨s.val / 4 * 8 + s.val % 4 * 2 + i.val / 64 % 2, by omega⟩ ⟨j.val % 16, by omega⟩ ⟨i.val % 64, by omega⟩))
      * (if s.val % 4 = j.val / 32 then 1 else 0) * (if i.val / 64 % 2 = j.val / 16 % 2 then 1 else 0) := by
  rw [← eye_eq (s.val % 4) (j.val / 32) (by omega) (by omega), ← eye_eq (i.val / 64 % 2) (j.val / 16 % 2) (by omega) (by omega)]
  pointwise [wOut]

/-- A sum over 256 columns against the state space's output weights: zero off the block, else the two parts' sums. -/
theorem out_sum (cr ci : FVec Ideal S32x16x64 .f32) (s : Fin 16) (x : Fin 256 → EReal) (j : Fin 128) :
    (∑ i : Fin 256, x i * wOut cr ci (ix3 s i j))
    = if s.val % 4 = j.val / 32 then
        (∑ p : Fin 64, x ⟨(j.val / 16 % 2) * 64 + p.val, by omega⟩ * cr (ix3 ⟨s.val / 4 * 8 + s.val % 4 * 2 + j.val / 16 % 2, by omega⟩ ⟨j.val % 16, by omega⟩ p))
        + ∑ p : Fin 64, x ⟨128 + (j.val / 16 % 2) * 64 + p.val, by omega⟩ * -ci (ix3 ⟨s.val / 4 * 8 + s.val % 4 * 2 + j.val / 16 % 2, by omega⟩ ⟨j.val % 16, by omega⟩ p)
      else 0 := by
  by_cases hs : s.val % 4 = j.val / 32
  · rw [if_pos hs, Fin.sum_univ_tiles 2 128 rfl, Fin.sum_univ_two]
    refine congrArg₂ (fun a b : EReal => a + b) ?_ ?_
    · rw [sum_block 2 64 rfl _ (⟨j.val / 16 % 2, by omega⟩ : Fin 2) (by decide) _ (fun k => by show (j.val / 16 % 2) * 64 + k.val < 128; omega)]
      · refine Finset.sum_congr rfl fun k _ => ?_
        have e0 : ((0 : Fin 2).val * 128 + ((j.val / 16 % 2) * 64 + k.val)) = (j.val / 16 % 2) * 64 + k.val := by simp
        have e1 : ((j.val / 16 % 2) * 64 + k.val) / 128 < 1 := by omega
        have e2 : ((j.val / 16 % 2) * 64 + k.val) / 64 % 2 = j.val / 16 % 2 := by omega
        have e3 : ((j.val / 16 % 2) * 64 + k.val) % 64 = k.val := by omega
        rw [wOut_at]
        simp only [e0, dif_pos e1, e2, e3, hs, if_true, mul_one]
      · intro i hi
        have hi' : ¬ (i.val / 64 = j.val / 16 % 2) := hi
        rw [wOut_at, if_neg (show ¬ (((0 : Fin 2).val * 128 + i.val) / 64 % 2 = j.val / 16 % 2) by simp; omega), mul_zero, mul_zero]
    · rw [sum_block 2 64 rfl _ (⟨j.val / 16 % 2, by omega⟩ : Fin 2) (by decide) _ (fun k => by show (j.val / 16 % 2) * 64 + k.val < 128; omega)]
      · refine Finset.sum_congr rfl fun k _ => ?_
        have e0 : ((1 : Fin 2).val * 128 + ((j.val / 16 % 2) * 64 + k.val)) = 128 + (j.val / 16 % 2) * 64 + k.val := by simp; omega
        have e1 : ¬ (128 + (j.val / 16 % 2) * 64 + k.val) / 128 < 1 := by omega
        have e2 : (128 + (j.val / 16 % 2) * 64 + k.val) / 64 % 2 = j.val / 16 % 2 := by omega
        have e3 : (128 + (j.val / 16 % 2) * 64 + k.val) % 64 = k.val := by omega
        rw [wOut_at]
        simp only [e0, dif_neg e1, e2, e3, hs, if_true, mul_one]
      · intro i hi
        have hi' : ¬ (i.val / 64 = j.val / 16 % 2) := hi
        rw [wOut_at, if_neg (show ¬ (((1 : Fin 2).val * 128 + i.val) / 64 % 2 = j.val / 16 % 2) by simp; omega), mul_zero, mul_zero]
  · rw [if_neg hs]
    refine Finset.sum_eq_zero fun i _ => ?_
    rw [wOut_at, if_neg hs, mul_zero, zero_mul, mul_zero]

end Cert.KernelIdeal.Final

end
-- ==== Proof.KRead.lean ====
/- The blocks the mixer kernel stages, element by element, of its arguments. -/
module

public import proofs.«01_k».proof.Proof.MixCollapse

@[expose] public section

set_option maxRecDepth 16384
set_option maxHeartbeats 2000000

noncomputable section

namespace Cert.KernelIdeal.Final

open Idealize.ShloMosaic Idealize.ShloMosaic.TcCoe Idealize.SL.Sem
open Cert.KernelIdeal Cert.KernelIdeal.Gen

/-- An array of factors, in slabs. -/
theorem slab_at (x : FVec Ideal S32x64 .f32) (h : Fin 2) (s : Fin 8) (l : Fin 128) :
    shapeCast S2x8x128 x shapeCasts_S32x64_S2x8x128 (ix3 h s l) = x (ix2 ⟨h.val * 16 + s.val * 2 + l.val / 64, by omega⟩ ⟨l.val % 64, by omega⟩) := by
  pointwise []

/-- A state's two parts, in slabs. -/
theorem slabs_at (x y : FVec Ideal S1x32x64 .f32) (k : Fin 4) (s : Fin 8) (l : Fin 128) :
    (concatenate S1x4x8x128 1 [⟨S1x2x8x128, (shapeCast S1x2x8x128 x shapeCasts_S1x32x64_S1x2x8x128)⟩, ⟨S1x2x8x128, (shapeCast S1x2x8x128 y shapeCasts_S1x32x64_S1x2x8x128)⟩] concatenates_S1x2x8x128_S1x2x8x128_S1x4x8x128_d1) (ix4 0 k s l)
    = if _h : k.val < 2 then x (ix3 0 ⟨k.val * 16 + s.val * 2 + l.val / 64, by omega⟩ ⟨l.val % 64, by omega⟩)
      else y (ix3 0 ⟨(k.val - 2) * 16 + s.val * 2 + l.val / 64, by omega⟩ ⟨l.val % 64, by omega⟩) := by
  pointwise []

variable (m : (ℓ : Loc nD τ sig) → Buf (Elt Ideal) ℓ)

/-- Which block every window stages at every point: the rows' blocks follow the point, everything else stays. -/
theorem idx : ∀ t : Fin cfg0.N, win0_0.index t = ![t.val, 0] ∧ win0_1.index t = ![0, 0, 0]
    ∧ win0_2.index t = ![0, 0]
    ∧ win0_3.index t = ![0, 0, 0, 0]
    ∧ win0_4.index t = ![0, 0]
    ∧ win0_5.index t = ![0, 0]
    ∧ win0_6.index t = ![0, 0]
    ∧ win0_7.index t = ![0, 0]
    ∧ win0_8.index t = ![0, 0, 0]
    ∧ win0_9.index t = ![0, 0]
    ∧ win0_10.index t = ![0, 0]
    ∧ win0_11.index t = ![0, 0, 0]
    ∧ win0_12.index t = ![0, 0, 0]
    ∧ win0_13.index t = ![0, 0, 0]
    ∧ win0_14.index t = ![0, 0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![t.val, 0] ∧ win0_22.index t = ![0, 0, 0] ∧ win0_23.index t = ![0, 0] ∧ win0_24.index t = ![0, 0, 0, 0] :=
  (by decide +kernel : ∀ t : Fin grid0.N, _)

/-- A block of rows. -/
theorem read0 (c : Dev nD) (t : Fin cfg0.N) (r : Fin 512) (k : Fin 1024) (h : t.val * 512 + r.val < 16384) :
    (show FVec Ideal S512x1024 .f32 from iblk m c 0 t) (ix2 r k) = (show FVec Ideal S16384x1024 .f32 from m ((c : Thread nD τ).loc main_arg0)) (ix2 ⟨t.val * 512 + r.val, h⟩ k) := by
  blk_point [iblk, V, idx t]

/-- The row the recurrence starts from. -/
theorem read2 (c : Dev nD) (t : Fin cfg0.N) (k : Fin 512) :
    (show FVec Ideal S1x512 .f32 from iblk m c 2 t) (ix2 0 k) = (show FVec Ideal S1x512 .f32 from m ((c : Thread nD τ).loc main_arg2)) (ix2 0 k) := by
  blk_point [iblk, V, idx t]

/-- The gain of the norm. -/
theorem read4 (c : Dev nD) (t : Fin cfg0.N) (k : Fin 1024) :
    (show FVec Ideal S1x1024 .f32 from iblk m c 4 t) (ix2 0 k) = (show FVec Ideal S1024 .f32 from m ((c : Thread nD τ).loc main_arg5)) (ix1 k) := by
  have e : ((cfg0.win 4).blk t).view.emb (ix2 0 k) = ((ix2 0 k) : S1x1024.Idx) := by blk_ext [idx t]
  show V m c main_v0 (((cfg0.win 4).blk t).view.emb (ix2 0 k)) = _
  rw [e, V_v0]
  pointwise []

/-- The projection. -/
theorem read5 (c : Dev nD) (t : Fin cfg0.N) (k : Fin 1024) (j : Fin 1536) :
    (show FVec Ideal S1024x1536 .bf16 from iblk m c 5 t) (ix2 k j) = (show FVec Ideal S1024x1536 .f32 from m ((c : Thread nD τ).loc main_arg6)) (ix2 k j) := by
  blk_point [iblk, V, idx t]

/-- The taps. -/
theorem read6 (c : Dev nD) (t : Fin cfg0.N) (k : Fin 4) (j : Fin 512) :
    (show FVec Ideal S4x512 .f32 from iblk m c 6 t) (ix2 k j) = (show FVec Ideal S4x512 .f32 from m ((c : Thread nD τ).loc main_arg7)) (ix2 k j) := by
  blk_point [iblk, V, idx t]

/-- The bias of the convolution. -/
theorem read7 (c : Dev nD) (t : Fin cfg0.N) (j : Fin 512) :
    (show FVec Ideal S1x512 .f32 from iblk m c 7 t) (ix2 0 j) = (show FVec Ideal S512 .f32 from m ((c : Thread nD τ).loc main_arg8)) (ix1 j) := by
  have e : ((cfg0.win 7).blk t).view.emb (ix2 0 j) = ((ix2 0 j) : S1x512.Idx) := by blk_ext [idx t]
  show V m c main_v2 (((cfg0.win 7).blk t).view.emb (ix2 0 j)) = _
  rw [e, V_v2]
  pointwise []

/-- The decay. -/
theorem read10 (c : Dev nD) (t : Fin cfg0.N) (j : Fin 512) :
    (show FVec Ideal S1x512 .f32 from iblk m c 10 t) (ix2 0 j) = (show FVec Ideal S512 .f32 from m ((c : Thread nD τ).loc main_arg13)) (ix1 j) := by
  have e : ((cfg0.win 10).blk t).view.emb (ix2 0 j) = ((ix2 0 j) : S1x512.Idx) := by blk_ext [idx t]
  show V m c main_v28 (((cfg0.win 10).blk t).view.emb (ix2 0 j)) = _
  rw [e, V_v28]
  pointwise []

/-- The skip. -/
theorem read15 (c : Dev nD) (t : Fin cfg0.N) (j : Fin 512) :
    (show FVec Ideal S1x512 .f32 from iblk m c 15 t) (ix2 0 j) = (show FVec Ideal S512 .f32 from m ((c : Thread nD τ).loc main_arg20)) (ix1 j) := by
  have e : ((cfg0.win 15).blk t).view.emb (ix2 0 j) = ((ix2 0 j) : S1x512.Idx) := by blk_ext [idx t]
  show V m c main_v88 (((cfg0.win 15).blk t).view.emb (ix2 0 j)) = _
  rw [e, V_v88]
  pointwise []

/-- The projection of the last gate. -/
theorem read16 (c : Dev nD) (t : Fin cfg0.N) (k j : Fin 512) :
    (show FVec Ideal S512x512 .bf16 from iblk m c 16 t) (ix2 k j) = (show FVec Ideal S512x512 .f32 from m ((c : Thread nD τ).loc main_arg21)) (ix2 k j) := by
  blk_point [iblk, V, idx t]

/-- Its bias. -/
theorem read17 (c : Dev nD) (t : Fin cfg0.N) (j : Fin 512) :
    (show FVec Ideal S1x512 .f32 from iblk m c 17 t) (ix2 0 j) = (show FVec Ideal S512 .f32 from m ((c : Thread nD τ).loc main_arg22)) (ix1 j) := by
  have e : ((cfg0.win 17).blk t).view.emb (ix2 0 j) = ((ix2 0 j) : S1x512.Idx) := by blk_ext [idx t]
  show V m c main_v90 (((cfg0.win 17).blk t).view.emb (ix2 0 j)) = _
  rw [e, V_v90]
  pointwise []

/-- The gain of the first group. -/
theorem read18 (c : Dev nD) (t : Fin cfg0.N) (j : Fin 512) :
    (show FVec Ideal S1x512 .f32 from iblk m c 18 t) (ix2 0 j) = (show FVec Ideal S512 .f32 from m ((c : Thread nD τ).loc main_arg23)) (ix1 j) := by
  have e : ((cfg0.win 18).blk t).view.emb (ix2 0 j) = ((ix2 0 j) : S1x512.Idx) := by blk_ext [idx t]
  show V m c main_v91 (((cfg0.win 18).blk t).view.emb (ix2 0 j)) = _
  rw [e, V_v91]
  pointwise []

/-- The gain of the second group. -/
theorem read19 (c : Dev nD) (t : Fin cfg0.N) (j : Fin 512) :
    (show FVec Ideal S1x512 .f32 from iblk m c 19 t) (ix2 0 j) = (show FVec Ideal S512 .f32 from m ((c : Thread nD τ).loc main_arg24)) (ix1 j) := by
  have e : ((cfg0.win 19).blk t).view.emb (ix2 0 j) = ((ix2 0 j) : S1x512.Idx) := by blk_ext [idx t]
  show V m c main_v92 (((cfg0.win 19).blk t).view.emb (ix2 0 j)) = _
  rw [e, V_v92]
  pointwise []

/-- The last projection. -/
theorem read20 (c : Dev nD) (t : Fin cfg0.N) (k j : Fin 1024) :
    (show FVec Ideal S1024x1024 .bf16 from iblk m c 20 t) (ix2 k j) = (show FVec Ideal S1024x1024 .f32 from m ((c : Thread nD τ).loc main_arg25)) (ix2 k j) := by
  blk_point [iblk, V, idx t]

/-- The biases of the gates. -/
theorem read9 (c : Dev nD) (t : Fin cfg0.N) (a : Fin 2) (j : Fin 512) :
    (show FVec Ideal S2x512 .f32 from iblk m c 9 t) (ix2 a j) = (if _h : a.val < 1 then (show FVec Ideal S512 .f32 from m ((c : Thread nD τ).loc main_arg10)) (ix1 j) else (show FVec Ideal S512 .f32 from m ((c : Thread nD τ).loc main_arg12)) (ix1 j)) := by
  have e : ((cfg0.win 9).blk t).view.emb (ix2 a j) = ((ix2 a j) : S2x512.Idx) := by blk_ext [idx t]
  show V m c main_v27 (((cfg0.win 9).blk t).view.emb (ix2 a j)) = _
  rw [e, V_v27]
  pointwise []

/-- The rows kept from before. -/
theorem read1 (c : Dev nD) (t : Fin cfg0.N) (a : Fin 8) (j : Fin 512) :
    (show FVec Ideal S1x8x512 .f32 from iblk m c 1 t) (ix3 0 a j) = tileOf (m ((c : Thread nD τ).loc main_arg1)) (ix3 0 a j) := by
  have e : ((cfg0.win 1).blk t).view.emb (ix3 0 a j) = ((ix3 0 a j) : S1x8x512.Idx) := by blk_ext [idx t]
  show V m c main_v94 (((cfg0.win 1).blk t).view.emb (ix3 0 a j)) = _
  rw [e, V_v94]

/-- The real factor, in slabs. -/
theorem read11 (c : Dev nD) (t : Fin cfg0.N) (h : Fin 2) (s : Fin 8) (l : Fin 128) :
    (show FVec Ideal S2x8x128 .f32 from iblk m c 11 t) (ix3 h s l) = (show FVec Ideal S32x64 .f32 from m ((c : Thread nD τ).loc main_arg14)) (ix2 ⟨h.val * 16 + s.val * 2 + l.val / 64, by omega⟩ ⟨l.val % 64, by omega⟩) := by
  have e : ((cfg0.win 11).blk t).view.emb (ix3 h s l) = ((ix3 h s l) : S2x8x128.Idx) := by blk_ext [idx t]
  show V m c main_v29 (((cfg0.win 11).blk t).view.emb (ix3 h s l)) = _
  rw [e, V_v29]
  exact slab_at _ h s l

/-- The imaginary factor, in slabs. -/
theorem read12 (c : Dev nD) (t : Fin cfg0.N) (h : Fin 2) (s : Fin 8) (l : Fin 128) :
    (show FVec Ideal S2x8x128 .f32 from iblk m c 12 t) (ix3 h s l) = (show FVec Ideal S32x64 .f32 from m ((c : Thread nD τ).loc main_arg15)) (ix2 ⟨h.val * 16 + s.val * 2 + l.val / 64, by omega⟩ ⟨l.val % 64, by omega⟩) := by
  have e : ((cfg0.win 12).blk t).view.emb (ix3 h s l) = ((ix3 h s l) : S2x8x128.Idx) := by blk_ext [idx t]
  show V m c main_v30 (((cfg0.win 12).blk t).view.emb (ix3 h s l)) = _
  rw [e, V_v30]
  exact slab_at _ h s l

/-- The state the state space starts from, in slabs. -/
theorem read3 (c : Dev nD) (t : Fin cfg0.N) (k : Fin 4) (s : Fin 8) (l : Fin 128) :
    (show FVec Ideal S1x4x8x128 .f32 from iblk m c 3 t) (ix4 0 k s l) = (if _h : k.val < 2 then (show FVec Ideal S1x32x64 .f32 from m ((c : Thread nD τ).loc main_arg3)) (ix3 0 ⟨k.val * 16 + s.val * 2 + l.val / 64, by omega⟩ ⟨l.val % 64, by omega⟩) else (show FVec Ideal S1x32x64 .f32 from m ((c : Thread nD τ).loc main_arg4)) (ix3 0 ⟨(k.val - 2) * 16 + s.val * 2 + l.val / 64, by omega⟩ ⟨l.val % 64, by omega⟩)) := by
  have e : ((cfg0.win 3).blk t).view.emb (ix4 0 k s l) = ((ix4 0 k s l) : S1x4x8x128.Idx) := by blk_ext [idx t]
  show V m c main_v97 (((cfg0.win 3).blk t).view.emb (ix4 0 k s l)) = _
  rw [e, V_v97]
  exact slabs_at _ _ k s l

/-- The gates' weights. -/
theorem read8 (c : Dev nD) (t : Fin cfg0.N) (h : Fin 2) (i : Fin 256) (j : Fin 512) :
    (show FVec Ideal S2x256x512 .bf16 from iblk m c 8 t) (ix3 h i j) = wGate (m ((c : Thread nD τ).loc main_arg9)) (m ((c : Thread nD τ).loc main_arg11)) (ix3 h i j) := by
  have e : ((cfg0.win 8).blk t).view.emb (ix3 h i j) = ((ix3 h i j) : S2x256x512.Idx) := by blk_ext [idx t]
  show V m c main_v24 (((cfg0.win 8).blk t).view.emb (ix3 h i j)) = _
  rw [e, V_v24]

/-- The input weights. -/
theorem read13 (c : Dev nD) (t : Fin cfg0.N) (q : Fin 4) (i : Fin 128) (j : Fin 1024) :
    (show FVec Ideal S4x128x1024 .bf16 from iblk m c 13 t) (ix3 q i j) = wIn (m ((c : Thread nD τ).loc main_arg16)) (m ((c : Thread nD τ).loc main_arg17)) (ix3 q i j) := by
  have e : ((cfg0.win 13).blk t).view.emb (ix3 q i j) = ((ix3 q i j) : S4x128x1024.Idx) := by blk_ext [idx t]
  show V m c main_v58 (((cfg0.win 13).blk t).view.emb (ix3 q i j)) = _
  rw [e, V_v58]

/-- The output weights. -/
theorem read14 (c : Dev nD) (t : Fin cfg0.N) (s : Fin 16) (i : Fin 256) (j : Fin 128) :
    (show FVec Ideal S16x256x128 .bf16 from iblk m c 14 t) (ix3 s i j) = wOut (m ((c : Thread nD τ).loc main_arg18)) (m ((c : Thread nD τ).loc main_arg19)) (ix3 s i j) := by
  have e : ((cfg0.win 14).blk t).view.emb (ix3 s i j) = ((ix3 s i j) : S16x256x128.Idx) := by blk_ext [idx t]
  show V m c main_v87 (((cfg0.win 14).blk t).view.emb (ix3 s i j)) = _
  rw [e, V_v87]

end Cert.KernelIdeal.Final

end
-- ==== Proof.KLoop1.lean ====
/- The kernel's loop over the tiles of the linear recurrence: what it carries and what it leaves. -/
module

public import proofs.«01_k».proof.Proof.KRead
public import proofs.«01_k».proof.Proof.FfnRow

@[expose] public section

set_option maxRecDepth 16384
set_option maxHeartbeats 1000000

noncomputable section

namespace Cert.KernelIdeal.Final

open Idealize.ShloMosaic Idealize.ShloMosaic.TcCoe Cert.KernelIdeal Cert.KernelIdeal.Gen

/-- A tile of rows of the whole. -/
abbrev tileR (k : Fin k0_t1_loop.trips) : Rect S512x512 := Rect.unit (s := S512x512) (k0_off1 k) ![8, 512] (k0_off1_inb k)

/-- An index of a tile of rows, in the whole. -/
theorem tile_emb (k : Fin k0_t1_loop.trips) (hk : k.val < 64) (i : Fin 8) (j : Fin 512) :
    (tileR k).idx (ix2 i j) = ix2 ⟨8 * k.val + i.val, by omega⟩ j := by
  have e := k0_off1_eq k
  funext a
  fin_cases a
  · apply Fin.ext; show k0_off1 k 0 + 1 * i.val = 8 * k.val + i.val; rw [e]; show 8 * k.val + 1 * i.val = _; omega
  · apply Fin.ext; show k0_off1 k 1 + 1 * j.val = j.val; rw [e]; show 0 + 1 * j.val = _; omega

/-- A row outside a tile of rows. -/
theorem tile_not_mem (k : Fin k0_t1_loop.trips) (r : Fin 512) (j : Fin 512) (h : r.val < 8 * k.val ∨ 8 * k.val + 8 ≤ r.val) :
    (ix2 r j : S512x512.Idx) ∉ (tileR k).set := by
  intro hm
  have h0 := (Rect.mem_set_unit.mp hm) 0
  rw [k0_off1_eq k] at h0
  have h1 : 8 * k.val ≤ r.val := h0.1
  have h2 : r.val < 8 * k.val + 8 := h0.2
  omega

/-- The eight new states at a point: the local scan plus the product of the factors with the carried state. -/
theorem pay44_at (a b c : FVec Ideal S8x512 .f32) (i : Fin 8) (j : Fin 512) : k0_pay44 a b c (ix2 i j) = b (ix2 i j) + c (ix2 i j) * a (ix2 i j) := by
  pointwise [k0_pay44, k0_pay43]

/-- The carried state after eight rows is the last of the eight new states. -/
theorem pay45_at (a b c : FVec Ideal S8x512 .f32) (i : Fin 8) (j : Fin 512) : k0_pay45 a b c (ix2 i j) = b (ix2 7 j) + c (ix2 7 j) * a (ix2 7 j) := by
  pointwise [k0_pay45, k0_pay43]

/-- Before every trip the loop carries the recurrence at the tile's first row, and the rows of the tiles before hold it one row further. -/
theorem loop1 (𝒱 : Variants) (c : Dev nD) (bd : Option 𝒱.V) (gi : grid0.Coords) (arg1 : Memref sig .tc .vmem S512x1024 .f32) (harg1 : arg1.IsWhole) (arg2 : Memref sig .tc .vmem S1x8x512 .f32) (harg2 : arg2.IsWhole) (arg3 : Memref sig .tc .vmem S1x512 .f32) (harg3 : arg3.IsWhole) (arg4 : Memref sig .tc .vmem S1x4x8x128 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S4x512 .f32) (harg7 : arg7.IsWhole) (arg8 : Memref sig .tc .vmem S1x512 .f32) (harg8 : arg8.IsWhole) (arg9 : Memref sig .tc .vmem S2x256x512 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S4x128x1024 .bf16) (harg14 : arg14.IsWhole) (arg15 : Memref sig .tc .vmem S16x256x128 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .f32) (harg22 : arg22.IsWhole) (arg23 : Memref sig .tc .vmem S1x8x512 .f32) (harg23 : arg23.IsWhole) (arg24 : Memref sig .tc .vmem S1x512 .f32) (harg24 : arg24.IsWhole) (arg25 : Memref sig .tc .vmem S1x4x8x128 .f32) (harg25 : arg25.IsWhole) (arg26 : Memref sig .tc .vmem S1x520x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S4x4096x128 .f32) (harg29 : arg29.IsWhole) (v23 : FVec Ideal S512x512 .f32) (v185 : FVec Ideal S64x8x512 .f32) (v186 : FVec Ideal S64x8x512 .f32) (v192 : FVec Ideal S64x8x512 .f32) (v193 : FVec Ideal S64x8x512 .f32) (v194 : IVec S64x8x512 32) (v195 : IVec S64x8x512 32) (X_arg27 : BufTy.Contents (Elt Ideal) arg27.view.ty) (init : FVec Ideal S8x512 .f32) (L0 : List (View.Piece (Elt Ideal) S512x512 .f32)) (h : ℕ → Fin 512 → EReal)
    (hinit : ∀ (i : Fin 8) (j : Fin 512), init (ix2 i j) = h 0 j)
    (hstep : ∀ (k : ℕ) (hk : k < 64) (i : Fin 8) (j : Fin 512), View.canon L0 (ix2 ⟨8 * k + i.val, by omega⟩ j) + arg27.view.read (Elt Ideal) X_arg27 (ix2 ⟨8 * k + i.val, by omega⟩ j) * h (8 * k) j = h (8 * k + i.val + 1) j)
    (k : ℕ) (hk : k ≤ 64) :
    (∀ (i : Fin 8) (j : Fin 512), (st_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 (arg28.view.writes (Elt Ideal) arg28.view.junk L0) init k).1 (ix2 i j) = h (8 * k) j) ∧
    (∀ (r : Fin 512) (j : Fin 512), View.canon ((st_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 (arg28.view.writes (Elt Ideal) arg28.view.junk L0) init k).2 ++ L0) (ix2 r j) = if r.val < 8 * k then h (r.val + 1) j else View.canon L0 (ix2 r j)) := by
  induction k with
  | zero => exact ⟨hinit, fun r j => by rw [if_neg (by omega)]; rfl⟩
  | succ k ih =>
    obtain ⟨ih1, ih2⟩ := ih (by omega)
    have ht : k < k0_t1_loop.trips := lt_of_lt_of_eq (by omega : k < 64) (by decide +kernel)
    have hs := st_k0_t1_succ (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 (arg28.view.writes (Elt Ideal) arg28.view.junk L0) init ⟨k, ht⟩
    rw [show (⟨k, ht⟩ : Fin k0_t1_loop.trips).val = k from rfl] at hs
    rw [hs]
    generalize st_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 (arg28.view.writes (Elt Ideal) arg28.view.junk L0) init k = S at ih1 ih2 ⊢
    have hL : tripL_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 ⟨k, ht⟩ S.1 (arg28.view.writes (Elt Ideal) (arg28.view.writes (Elt Ideal) arg28.view.junk L0) S.2)
        = [⟨tileR ⟨k, ht⟩, k0_pay44 S.1 (View.ld (View.canon (S.2 ++ L0)) (tileR ⟨k, ht⟩)) (View.ld (arg27.view.read (Elt Ideal) X_arg27) (tileR ⟨k, ht⟩))⟩] := by
      unfold tripL_k0_t1 trip_k0_t1
      dsimp only
      rw [← View.writes_append, View.readAt_writes_junk_eq_canon]
      rfl
    have hR : tripR_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 ⟨k, ht⟩ S.1 (arg28.view.writes (Elt Ideal) (arg28.view.writes (Elt Ideal) arg28.view.junk L0) S.2)
        = k0_pay45 S.1 (View.ld (View.canon (S.2 ++ L0)) (tileR ⟨k, ht⟩)) (View.ld (arg27.view.read (Elt Ideal) X_arg27) (tileR ⟨k, ht⟩)) := by
      unfold tripR_k0_t1 trip_k0_t1
      dsimp only
      rw [← View.writes_append, View.readAt_writes_junk_eq_canon]
      rfl
    have te : ∀ (i : Fin 8) (j : Fin 512), (tileR ⟨k, ht⟩).idx (ix2 i j) = ix2 ⟨8 * k + i.val, by omega⟩ j := tile_emb ⟨k, ht⟩ (by show k < 64; omega)
    have key : ∀ (i : Fin 8) (j : Fin 512), View.canon (S.2 ++ L0) (ix2 ⟨8 * k + i.val, by omega⟩ j) + arg27.view.read (Elt Ideal) X_arg27 (ix2 ⟨8 * k + i.val, by omega⟩ j) * S.1 (ix2 i j) = h (8 * k + i.val + 1) j := by
      intro i j
      rw [ih1, ih2, if_neg (by simp), hstep k (by omega) i j]
    have key2 : ∀ (i : Fin 8) (j : Fin 512), View.ld (View.canon (S.2 ++ L0)) (tileR ⟨k, ht⟩) (ix2 i j) + View.ld (arg27.view.read (Elt Ideal) X_arg27) (tileR ⟨k, ht⟩) (ix2 i j) * S.1 (ix2 i j) = h (8 * k + i.val + 1) j := by
      intro i j
      unfold View.ld
      rw [te i j]; exact key i j
    have hb : ∀ i : Fin 8, 8 * k + i.val < 512 := fun i => by omega
    refine ⟨fun i j => ?_, fun r j => ?_⟩
    · refine (congrFun hR (ix2 i j)).trans ((pay45_at _ _ _ i j).trans ((key2 7 j).trans ?_))
      congr 1
    · show View.canon ((tripL_k0_t1 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v23 v185 v186 v192 v193 v194 v195 X_arg27 ⟨k, ht⟩ S.1 (arg28.view.writes (Elt Ideal) (arg28.view.writes (Elt Ideal) arg28.view.junk L0) S.2) ++ S.2) ++ L0) (ix2 r j) = _
      rw [hL]
      by_cases hr : r.val < 8 * k ∨ 8 * k + 8 ≤ r.val
      · refine (View.canon_cons_of_not_mem _ _ (tile_not_mem ⟨k, ht⟩ r j hr)).trans ?_
        refine (ih2 r j).trans ?_
        by_cases h1 : r.val < 8 * k
        · rw [if_pos h1, if_pos (by omega)]
        · rw [if_neg h1, if_neg (by omega)]
      · obtain ⟨i, rfl⟩ : ∃ i : Fin 8, r = ⟨8 * k + i.val, hb i⟩ := ⟨⟨r.val - 8 * k, by omega⟩, Fin.ext (by show r.val = 8 * k + (r.val - 8 * k); omega)⟩
        rw [if_pos (by show 8 * k + i.val < 8 * (k + 1); omega), ← te i j]
        exact (View.canon_cons_emb (tileR ⟨k, ht⟩) _ _ (ix2 i j)).trans ((pay44_at _ _ _ i j).trans (key2 i j))

end Cert.KernelIdeal.Final

end
-- ==== Proof.KLoop2.lean ====
/- The kernel's loop over the time steps of the state space: what it carries and what it leaves. -/
module

public import proofs.«01_k».proof.Proof.KRead
public import proofs.«01_k».proof.Proof.FfnRow

@[expose] public section

set_option maxRecDepth 16384
set_option maxHeartbeats 1000000

noncomputable section

namespace Cert.KernelIdeal.Final

open Idealize.ShloMosaic Idealize.ShloMosaic.TcCoe Cert.KernelIdeal Cert.KernelIdeal.Gen

/-- A slab's rows of one time step. -/
abbrev slabR (_q : Fin 4) (off : Fin 3 → ℕ) (inb : ∀ a, off a + (![1, 8, 128] : Fin 3 → ℕ) a ≤ S4x4096x128.size a) : Rect S4x4096x128 := Rect.unit (s := S4x4096x128) off ![1, 8, 128] inb

/-- Where a point of an eight-row piece of the scratch array lies. -/
theorem slab_emb (q : Fin 4) (n : ℕ) (hn : n < 512) (off : Fin 3 → ℕ) (inb : ∀ a, off a + (![1, 8, 128] : Fin 3 → ℕ) a ≤ S4x4096x128.size a) (e : off = ![q.val, 8 * n, 0]) (s : Fin 8) (l : Fin 128) :
    (slabR q off inb).idx (ix3 0 s l) = ix3 q ⟨8 * n + s.val, by omega⟩ l := by
  subst e
  funext a
  fin_cases a
  · apply Fin.ext; show q.val + 1 * 0 = q.val; omega
  · apply Fin.ext; show 8 * n + 1 * s.val = 8 * n + s.val; omega
  · apply Fin.ext; show 0 + 1 * l.val = l.val; omega

/-- A point of another slab, or of other rows, is not in the piece. -/
theorem slab_not_mem (q q' : Fin 4) (n : ℕ) (off : Fin 3 → ℕ) (inb : ∀ a, off a + (![1, 8, 128] : Fin 3 → ℕ) a ≤ S4x4096x128.size a) (e : off = ![q.val, 8 * n, 0]) (r : Fin 4096) (l : Fin 128)
    (h : q'.val ≠ q.val ∨ r.val < 8 * n ∨ 8 * n + 8 ≤ r.val) :
    (ix3 q' r l : S4x4096x128.Idx) ∉ (slabR q off inb).set := by
  subst e
  intro hm
  have h0 := (Rect.mem_set_unit.mp hm) 0
  have h1 := (Rect.mem_set_unit.mp hm) 1
  have a1 : q.val ≤ q'.val := h0.1
  have a2 : q'.val < q.val + 1 := h0.2
  have a3 : 8 * n ≤ r.val := h1.1
  have a4 : r.val < 8 * n + 8 := h1.2
  omega

/-- One S5 step at a point: the real part of the first slab. -/
theorem pay1_at (a b : Vec Ideal S1x8x128 .f32) (x y : FVec Ideal S8x128 .f32) (z : Vec Ideal S1x8x128 .f32) (s : Fin 8) (l : Fin 128) :
    k0_pay1 (k0_pay88 a) (k0_pay90 b) x y z (ix2 s l) = a (ix3 0 s l) * x (ix2 s l) - b (ix3 0 s l) * y (ix2 s l) + z (ix3 0 s l) := by
  pointwise [k0_pay1, k0_pay88, k0_pay90]

/-- One S5 step at a point: the real part of the second slab. -/
theorem pay2_at (a b : Vec Ideal S1x8x128 .f32) (x y : FVec Ideal S8x128 .f32) (z : Vec Ideal S1x8x128 .f32) (s : Fin 8) (l : Fin 128) :
    k0_pay2 (k0_pay89 a) (k0_pay91 b) x y z (ix2 s l) = a (ix3 0 s l) * x (ix2 s l) - b (ix3 0 s l) * y (ix2 s l) + z (ix3 0 s l) := by
  pointwise [k0_pay2, k0_pay89, k0_pay91]

/-- One S5 step at a point: the imaginary part of the first slab. -/
theorem pay3_at (a b : Vec Ideal S1x8x128 .f32) (x y : FVec Ideal S8x128 .f32) (z : Vec Ideal S1x8x128 .f32) (s : Fin 8) (l : Fin 128) :
    k0_pay3 (k0_pay88 a) (k0_pay90 b) x y z (ix2 s l) = a (ix3 0 s l) * y (ix2 s l) + b (ix3 0 s l) * x (ix2 s l) + z (ix3 0 s l) := by
  pointwise [k0_pay3, k0_pay88, k0_pay90]

/-- One S5 step at a point: the imaginary part of the second slab. -/
theorem pay4_at (a b : Vec Ideal S1x8x128 .f32) (x y : FVec Ideal S8x128 .f32) (z : Vec Ideal S1x8x128 .f32) (s : Fin 8) (l : Fin 128) :
    k0_pay4 (k0_pay89 a) (k0_pay91 b) x y z (ix2 s l) = a (ix3 0 s l) * y (ix2 s l) + b (ix3 0 s l) * x (ix2 s l) + z (ix3 0 s l) := by
  pointwise [k0_pay4, k0_pay89, k0_pay91]

/-- The stored piece is the new real part of slab 0, with a leading axis of one. -/
theorem pay5_at (a b x y : FVec Ideal S8x128 .f32) (z : Vec Ideal S1x8x128 .f32) (s : Fin 8) (l : Fin 128) :
    k0_pay5 a b x y z (ix3 0 s l) = k0_pay1 a b x y z (ix2 s l) := by
  pointwise [k0_pay5]

/-- The stored piece is the new real part of slab 1, with a leading axis of one. -/
theorem pay6_at (a b x y : FVec Ideal S8x128 .f32) (z : Vec Ideal S1x8x128 .f32) (s : Fin 8) (l : Fin 128) :
    k0_pay6 a b x y z (ix3 0 s l) = k0_pay2 a b x y z (ix2 s l) := by
  pointwise [k0_pay6]

/-- The stored piece is the new imaginary part, with a leading axis of one. -/
theorem pay96_at (a : FVec Ideal S8x128 .f32) (s : Fin 8) (l : Fin 128) : k0_pay96 a (ix3 0 s l) = a (ix2 s l) := by
  pointwise [k0_pay96]

/-- The stored piece is the new imaginary part, with a leading axis of one. -/
theorem pay97_at (a : FVec Ideal S8x128 .f32) (s : Fin 8) (l : Fin 128) : k0_pay97 a (ix3 0 s l) = a (ix2 s l) := by
  pointwise [k0_pay97]

/-- Reading outside the first piece of a list is reading the rest of the list. -/
theorem slab_skip (q q' : Fin 4) (n : ℕ) (off : Fin 3 → ℕ) (inb : ∀ a, off a + (![1, 8, 128] : Fin 3 → ℕ) a ≤ S4x4096x128.size a) (e : off = ![q.val, 8 * n, 0]) (r : Fin 4096) (l : Fin 128)
    (h : q'.val ≠ q.val ∨ r.val < 8 * n ∨ 8 * n + 8 ≤ r.val) (P : Vec Ideal S1x8x128 .f32) (L : List (View.Piece (Elt Ideal) S4x4096x128 .f32)) :
    View.canon (⟨slabR q off inb, P⟩ :: L) (ix3 q' r l) = View.canon L (ix3 q' r l) :=
  View.canon_cons_of_not_mem _ _ (slab_not_mem q q' n off inb e r l h)

/-- Reading inside the first piece of a list is reading the piece. -/
theorem slab_hit (q : Fin 4) (n : ℕ) (hn : n < 512) (off : Fin 3 → ℕ) (inb : ∀ a, off a + (![1, 8, 128] : Fin 3 → ℕ) a ≤ S4x4096x128.size a) (e : off = ![q.val, 8 * n, 0]) (s : Fin 8) (l : Fin 128)
    (P : Vec Ideal S1x8x128 .f32) (L : List (View.Piece (Elt Ideal) S4x4096x128 .f32)) :
    View.canon (⟨slabR q off inb, P⟩ :: L) (ix3 q ⟨8 * n + s.val, by omega⟩ l) = P (ix3 0 s l) := by
  rw [← slab_emb q n hn off inb e s l]
  exact View.canon_cons_emb _ _ _ _

/-- The pieces one trip stores. -/
def four (k : Fin k0_t2_loop.trips) (P0 P1 P2 P3 : Vec Ideal S1x8x128 .f32) (L : List (View.Piece (Elt Ideal) S4x4096x128 .f32)) : List (View.Piece (Elt Ideal) S4x4096x128 .f32) :=
  ⟨slabR 3 (k0_off5 k) (k0_off5_inb k), P3⟩ :: ⟨slabR 2 (k0_off4 k) (k0_off4_inb k), P2⟩ :: ⟨slabR 1 (k0_off3 k) (k0_off3_inb k), P1⟩ :: ⟨slabR 0 (k0_off2 k) (k0_off2_inb k), P0⟩ :: L

variable (k : Fin k0_t2_loop.trips) (P0 P1 P2 P3 : Vec Ideal S1x8x128 .f32) (L : List (View.Piece (Elt Ideal) S4x4096x128 .f32))

/-- The four pieces of one step leave the other steps' rows as they were. -/
theorem four_out (q : Fin 4) (r : Fin 4096) (l : Fin 128) (h : r.val < 8 * k.val ∨ 8 * k.val + 8 ≤ r.val) :
    View.canon (four k P0 P1 P2 P3 L) (ix3 q r l) = View.canon L (ix3 q r l) :=
  (slab_skip 3 q k.val (k0_off5 k) (k0_off5_inb k) (k0_off5_eq k) r l (Or.inr h) _ _).trans <|
  (slab_skip 2 q k.val (k0_off4 k) (k0_off4_inb k) (k0_off4_eq k) r l (Or.inr h) _ _).trans <|
  (slab_skip 1 q k.val (k0_off3 k) (k0_off3_inb k) (k0_off3_eq k) r l (Or.inr h) _ _).trans <|
  slab_skip 0 q k.val (k0_off2 k) (k0_off2_inb k) (k0_off2_eq k) r l (Or.inr h) _ _

/-- After one step slab 3 holds, at the step's rows, what the step stored there. -/
theorem four_3 (hk : k.val < 512) (s : Fin 8) (l : Fin 128) : View.canon (four k P0 P1 P2 P3 L) (ix3 3 ⟨8 * k.val + s.val, by omega⟩ l) = P3 (ix3 0 s l) :=
  slab_hit 3 k.val hk (k0_off5 k) (k0_off5_inb k) (k0_off5_eq k) s l _ _

/-- After one step slab 2 holds, at the step's rows, what the step stored there. -/
theorem four_2 (hk : k.val < 512) (s : Fin 8) (l : Fin 128) : View.canon (four k P0 P1 P2 P3 L) (ix3 2 ⟨8 * k.val + s.val, by omega⟩ l) = P2 (ix3 0 s l) :=
  (slab_skip 3 2 k.val (k0_off5 k) (k0_off5_inb k) (k0_off5_eq k) ⟨8 * k.val + s.val, by omega⟩ l (Or.inl (by decide)) _ _).trans <|
  slab_hit 2 k.val hk (k0_off4 k) (k0_off4_inb k) (k0_off4_eq k) s l _ _

/-- After one step slab 1 holds, at the step's rows, what the step stored there. -/
theorem four_1 (hk : k.val < 512) (s : Fin 8) (l : Fin 128) : View.canon (four k P0 P1 P2 P3 L) (ix3 1 ⟨8 * k.val + s.val, by omega⟩ l) = P1 (ix3 0 s l) :=
  (slab_skip 3 1 k.val (k0_off5 k) (k0_off5_inb k) (k0_off5_eq k) ⟨8 * k.val + s.val, by omega⟩ l (Or.inl (by decide)) _ _).trans <|
  (slab_skip 2 1 k.val (k0_off4 k) (k0_off4_inb k) (k0_off4_eq k) ⟨8 * k.val + s.val, by omega⟩ l (Or.inl (by decide)) _ _).trans <|
  slab_hit 1 k.val hk (k0_off3 k) (k0_off3_inb k) (k0_off3_eq k) s l _ _

/-- After one step slab 0 holds, at the step's rows, what the step stored there. -/
theorem four_0 (hk : k.val < 512) (s : Fin 8) (l : Fin 128) : View.canon (four k P0 P1 P2 P3 L) (ix3 0 ⟨8 * k.val + s.val, by omega⟩ l) = P0 (ix3 0 s l) :=
  (slab_skip 3 0 k.val (k0_off5 k) (k0_off5_inb k) (k0_off5_eq k) ⟨8 * k.val + s.val, by omega⟩ l (Or.inl (by decide)) _ _).trans <|
  (slab_skip 2 0 k.val (k0_off4 k) (k0_off4_inb k) (k0_off4_eq k) ⟨8 * k.val + s.val, by omega⟩ l (Or.inl (by decide)) _ _).trans <|
  (slab_skip 1 0 k.val (k0_off3 k) (k0_off3_inb k) (k0_off3_eq k) ⟨8 * k.val + s.val, by omega⟩ l (Or.inl (by decide)) _ _).trans <|
  slab_hit 0 k.val hk (k0_off2 k) (k0_off2_inb k) (k0_off2_eq k) s l _ _

/-- Before every trip the loop carries the state before the time step, and the rows of the steps before hold the state after each. -/
theorem loop2 (𝒱 : Variants) (c : Dev nD) (bd : Option 𝒱.V) (gi : grid0.Coords) (arg1 : Memref sig .tc .vmem S512x1024 .f32) (harg1 : arg1.IsWhole) (arg2 : Memref sig .tc .vmem S1x8x512 .f32) (harg2 : arg2.IsWhole) (arg3 : Memref sig .tc .vmem S1x512 .f32) (harg3 : arg3.IsWhole) (arg4 : Memref sig .tc .vmem S1x4x8x128 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S4x512 .f32) (harg7 : arg7.IsWhole) (arg8 : Memref sig .tc .vmem S1x512 .f32) (harg8 : arg8.IsWhole) (arg9 : Memref sig .tc .vmem S2x256x512 .bf16) (harg9 : arg9.IsWhole) (arg10 : Memref sig .tc .vmem S2x512 .f32) (harg10 : arg10.IsWhole) (arg11 : Memref sig .tc .vmem S1x512 .f32) (harg11 : arg11.IsWhole) (arg12 : Memref sig .tc .vmem S2x8x128 .f32) (harg12 : arg12.IsWhole) (arg13 : Memref sig .tc .vmem S2x8x128 .f32) (harg13 : arg13.IsWhole) (arg14 : Memref sig .tc .vmem S4x128x1024 .bf16) (harg14 : arg14.IsWhole) (arg15 : Memref sig .tc .vmem S16x256x128 .bf16) (harg15 : arg15.IsWhole) (arg16 : Memref sig .tc .vmem S1x512 .f32) (harg16 : arg16.IsWhole) (arg17 : Memref sig .tc .vmem S512x512 .bf16) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1024x1024 .bf16) (harg21 : arg21.IsWhole) (arg22 : Memref sig .tc .vmem S512x1024 .f32) (harg22 : arg22.IsWhole) (arg23 : Memref sig .tc .vmem S1x8x512 .f32) (harg23 : arg23.IsWhole) (arg24 : Memref sig .tc .vmem S1x512 .f32) (harg24 : arg24.IsWhole) (arg25 : Memref sig .tc .vmem S1x4x8x128 .f32) (harg25 : arg25.IsWhole) (arg26 : Memref sig .tc .vmem S1x520x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S4x4096x128 .f32) (harg29 : arg29.IsWhole) (v360 : FVec Ideal S512x1024 .f32) (v393 : Vec Ideal S1x8x128 .f32) (v395 : Vec Ideal S1x8x128 .f32) (v397 : Vec Ideal S1x8x128 .f32) (v399 : Vec Ideal S1x8x128 .f32) (init : FVec Ideal S8x128 .f32 × FVec Ideal S8x128 .f32 × FVec Ideal S8x128 .f32 × FVec Ideal S8x128 .f32) (L0 : List (View.Piece (Elt Ideal) S4x4096x128 .f32)) (w : ℕ → Fin 4 → Fin 8 → Fin 128 → EReal)
    (hi0 : ∀ (s : Fin 8) (l : Fin 128), init.1 (ix2 s l) = w 0 0 s l)
    (hi1 : ∀ (s : Fin 8) (l : Fin 128), init.2.1 (ix2 s l) = w 0 1 s l)
    (hi2 : ∀ (s : Fin 8) (l : Fin 128), init.2.2.1 (ix2 s l) = w 0 2 s l)
    (hi3 : ∀ (s : Fin 8) (l : Fin 128), init.2.2.2 (ix2 s l) = w 0 3 s l)
    (h0 : ∀ (n : ℕ) (hn : n < 512) (s : Fin 8) (l : Fin 128), v393 (ix3 0 s l) * w n 0 s l - v397 (ix3 0 s l) * w n 2 s l + View.canon L0 (ix3 0 ⟨8 * n + s.val, by omega⟩ l) = w (n + 1) 0 s l)
    (h1 : ∀ (n : ℕ) (hn : n < 512) (s : Fin 8) (l : Fin 128), v395 (ix3 0 s l) * w n 1 s l - v399 (ix3 0 s l) * w n 3 s l + View.canon L0 (ix3 1 ⟨8 * n + s.val, by omega⟩ l) = w (n + 1) 1 s l)
    (h2 : ∀ (n : ℕ) (hn : n < 512) (s : Fin 8) (l : Fin 128), v393 (ix3 0 s l) * w n 2 s l + v397 (ix3 0 s l) * w n 0 s l + View.canon L0 (ix3 2 ⟨8 * n + s.val, by omega⟩ l) = w (n + 1) 2 s l)
    (h3 : ∀ (n : ℕ) (hn : n < 512) (s : Fin 8) (l : Fin 128), v395 (ix3 0 s l) * w n 3 s l + v399 (ix3 0 s l) * w n 1 s l + View.canon L0 (ix3 3 ⟨8 * n + s.val, by omega⟩ l) = w (n + 1) 3 s l)
    (k : ℕ) (hk : k ≤ 512) :
    (∀ (s : Fin 8) (l : Fin 128), (st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k).1.1 (ix2 s l) = w k 0 s l ∧ (st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k).1.2.1 (ix2 s l) = w k 1 s l
      ∧ (st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k).1.2.2.1 (ix2 s l) = w k 2 s l ∧ (st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k).1.2.2.2 (ix2 s l) = w k 3 s l) ∧
    (∀ (q : Fin 4) (r : Fin 4096) (l : Fin 128), View.canon ((st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k).2 ++ L0) (ix3 q r l) = if r.val < 8 * k then w (r.val / 8 + 1) q ⟨r.val % 8, by omega⟩ l else View.canon L0 (ix3 q r l)) := by
  induction k with
  | zero => exact ⟨fun s l => ⟨hi0 s l, hi1 s l, hi2 s l, hi3 s l⟩, fun q r l => by rw [if_neg (by omega)]; rfl⟩
  | succ k ih =>
    obtain ⟨ih1, ih2⟩ := ih (by omega)
    have ht : k < k0_t2_loop.trips := lt_of_lt_of_eq (by omega : k < 512) (by decide +kernel)
    have hs := st_k0_t2_succ (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init ⟨k, ht⟩
    rw [show (⟨k, ht⟩ : Fin k0_t2_loop.trips).val = k from rfl] at hs
    rw [hs]
    generalize st_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 (arg29.view.writes (Elt Ideal) arg29.view.junk L0) init k = S at ih1 ih2 ⊢
    have E0 := k0_off2_eq ⟨k, ht⟩
    have E1 := k0_off3_eq ⟨k, ht⟩
    have E2 := k0_off4_eq ⟨k, ht⟩
    have E3 := k0_off5_eq ⟨k, ht⟩
    have hl (q : Fin 4) (off : Fin 3 → ℕ) (inb) (e : off = ![q.val, 8 * k, 0]) (s : Fin 8) (l : Fin 128) : View.ld (View.canon (S.2 ++ L0)) (slabR q off inb) (ix3 0 s l) = View.canon L0 (ix3 q ⟨8 * k + s.val, by omega⟩ l) := by
      unfold View.ld
      rw [slab_emb q k (by omega) off inb e s l, ih2, if_neg (by simp)]
    have hR : tripR_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 ⟨k, ht⟩ S.1 (arg29.view.writes (Elt Ideal) (arg29.view.writes (Elt Ideal) arg29.view.junk L0) S.2)
        = (k0_pay1 (k0_pay88 v393) (k0_pay90 v397) S.1.1 S.1.2.2.1 (View.ld (View.canon (S.2 ++ L0)) (slabR 0 (k0_off2 ⟨k, ht⟩) (k0_off2_inb ⟨k, ht⟩))),
           k0_pay2 (k0_pay89 v395) (k0_pay91 v399) S.1.2.1 S.1.2.2.2 (View.ld (View.canon (S.2 ++ L0)) (slabR 1 (k0_off3 ⟨k, ht⟩) (k0_off3_inb ⟨k, ht⟩))),
           k0_pay3 (k0_pay88 v393) (k0_pay90 v397) S.1.1 S.1.2.2.1 (View.ld (View.canon (S.2 ++ L0)) (slabR 2 (k0_off4 ⟨k, ht⟩) (k0_off4_inb ⟨k, ht⟩))),
           k0_pay4 (k0_pay89 v395) (k0_pay91 v399) S.1.2.1 S.1.2.2.2 (View.ld (View.canon (S.2 ++ L0)) (slabR 3 (k0_off5 ⟨k, ht⟩) (k0_off5_inb ⟨k, ht⟩)))) := by
      unfold tripR_k0_t2 trip_k0_t2
      dsimp only
      unfold trip_k0_t2.sl.r trip_k0_t2.sl.r_1 trip_k0_t2.sl.r_2 trip_k0_t2.sl.r_3
      rw [← View.writes_append, View.readAt_writes_junk_eq_canon, View.readAt_writes_junk_eq_canon, View.readAt_writes_junk_eq_canon, View.readAt_writes_junk_eq_canon]
    have hL : tripL_k0_t2 (F := Ideal) 𝒱 c bd gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 v360 v393 v395 v397 v399 ⟨k, ht⟩ S.1 (arg29.view.writes (Elt Ideal) (arg29.view.writes (Elt Ideal) arg29.view.junk L0) S.2)
        = [⟨slabR 3 (k0_off5 ⟨k, ht⟩) (k0_off5_inb ⟨k, ht⟩), k0_pay97 (k0_pay4 (k0_pay89 v395) (k0_pay91 v399) S.1.2.1 S.1.2.2.2 (View.ld (View.canon (S.2 ++ L0)) (slabR 3 (k0_off5 ⟨k, ht⟩) (k0_off5_inb ⟨k, ht⟩))))⟩,
           ⟨slabR 2 (k0_off4 ⟨k, ht⟩) (k0_off4_inb ⟨k, ht⟩), k0_pay96 (k0_pay3 (k0_pay88 v393) (k0_pay90 v397) S.1.1 S.1.2.2.1 (View.ld (View.canon (S.2 ++ L0)) (slabR 2 (k0_off4 ⟨k, ht⟩) (k0_off4_inb ⟨k, ht⟩))))⟩,
           ⟨slabR 1 (k0_off3 ⟨k, ht⟩) (k0_off3_inb ⟨k, ht⟩), k0_pay6 (k0_pay89 v395) (k0_pay91 v399) S.1.2.1 S.1.2.2.2 (View.ld (View.canon (S.2 ++ L0)) (slabR 1 (k0_off3 ⟨k, ht⟩) (k0_off3_inb ⟨k, ht⟩)))⟩,
           ⟨slabR 0 (k0_off2 ⟨k, ht⟩) (k0_off2_inb ⟨k, ht⟩), k0_pay5 (k0_pay88 v393) (k0_pay90 v397) S.1.1 S.1.2.2.1 (View.ld (View.canon (S.2 ++ L0)) (slabR 0 (k0_off2 ⟨k, ht⟩) (k0_off2_inb ⟨k, ht⟩)))⟩] := by
      unfold tripL_k0_t2 trip_k0_t2
      dsimp only
      unfold trip_k0_t2.sl.r_2 trip_k0_t2.sl.r_3
      rw [← View.writes_append, View.readAt_writes_junk_eq_canon, View.readAt_writes_junk_eq_canon, View.readAt_writes_junk_eq_canon, View.readAt_writes_junk_eq_canon]
    have K0 (s : Fin 8) (l : Fin 128) : k0_pay1 (k0_pay88 v393) (k0_pay90 v397) S.1.1 S.1.2.2.1 (View.ld (View.canon (S.2 ++ L0)) (slabR 0 (k0_off2 ⟨k, ht⟩) (k0_off2_inb ⟨k, ht⟩))) (ix2 s l) = w (k + 1) 0 s l := by
      refine (pay1_at _ _ _ _ _ s l).trans ?_
      rw [hl 0 _ _ E0, (ih1 s l).1, (ih1 s l).2.2.1, h0 k (by omega)]
    have K1 (s : Fin 8) (l : Fin 128) : k0_pay2 (k0_pay89 v395) (k0_pay91 v399) S.1.2.1 S.1.2.2.2 (View.ld (View.canon (S.2 ++ L0)) (slabR 1 (k0_off3 ⟨k, ht⟩) (k0_off3_inb ⟨k, ht⟩))) (ix2 s l) = w (k + 1) 1 s l := by
      refine (pay2_at _ _ _ _ _ s l).trans ?_
      rw [hl 1 _ _ E1, (ih1 s l).2.1, (ih1 s l).2.2.2, h1 k (by omega)]
    have K2 (s : Fin 8) (l : Fin 128) : k0_pay3 (k0_pay88 v393) (k0_pay90 v397) S.1.1 S.1.2.2.1 (View.ld (View.canon (S.2 ++ L0)) (slabR 2 (k0_off4 ⟨k, ht⟩) (k0_off4_inb ⟨k, ht⟩))) (ix2 s l) = w (k + 1) 2 s l := by
      refine (pay3_at _ _ _ _ _ s l).trans ?_
      rw [hl 2 _ _ E2, (ih1 s l).1, (ih1 s l).2.2.1, h2 k (by omega)]
    have K3 (s : Fin 8) (l : Fin 128) : k0_pay4 (k0_pay89 v395) (k0_pay91 v399) S.1.2.1 S.1.2.2.2 (View.ld (View.canon (S.2 ++ L0)) (slabR 3 (k0_off5 ⟨k, ht⟩) (k0_off5_inb ⟨k, ht⟩))) (ix2 s l) = w (k + 1) 3 s l := by
      refine (pay4_at _ _ _ _ _ s l).trans ?_
      rw [hl 3 _ _ E3, (ih1 s l).2.1, (ih1 s l).2.2.2, h3 k (by omega)]
    have hb : ∀ i : Fin 8, 8 * k + i.val < 4096 := fun i => by omega
    refine ⟨fun s l => ?_, fun q r l => ?_⟩
    · dsimp only
      rw [hR]
      exact ⟨K0 s l, K1 s l, K2 s l, K3 s l⟩
    · refine Eq.trans (congrArg (fun L => View.canon ((L ++ S.2) ++ L0) (ix3 q r l)) hL) ?_
      change View.canon (four ⟨k, ht⟩ _ _ _ _ (S.2 ++ L0)) (ix3 q r l) = _
      by_cases hr : r.val < 8 * k ∨ 8 * k + 8 ≤ r.val
      · refine (four_out ⟨k, ht⟩ _ _ _ _ _ q r l hr).trans ?_
        refine (ih2 q r l).trans ?_
        by_cases h1 : r.val < 8 * k
        · rw [if_pos h1, if_pos (by omega)]
        · rw [if_neg h1, if_neg (by omega)]
      · obtain ⟨s, rfl⟩ : ∃ s : Fin 8, r = ⟨8 * k + s.val, hb s⟩ := ⟨⟨r.val - 8 * k, by omega⟩, Fin.ext (by show r.val = 8 * k + (r.val - 8 * k); omega)⟩
        rw [if_pos (by show 8 * k + s.val < 8 * (k + 1); omega)]
        have e1 : (8 * k + s.val) / 8 = k := by omega
        have e2 : ∀ p, (⟨(8 * k + s.val) % 8, p⟩ : Fin 8) = s := fun p => Fin.ext (by show (8 * k + s.val) % 8 = s.val; omega)
        have er : ∀ q, w ((⟨8 * k + s.val, hb s⟩ : Fin 4096).val / 8 + 1) q ⟨(⟨8 * k + s.val, hb s⟩ : Fin 4096).val % 8, by omega⟩ l = w (k + 1) q s l := by
          intro q
          show w ((8 * k + s.val) / 8 + 1) q ⟨(8 * k + s.val) % 8, _⟩ l = _
          rw [e1, e2]
        rw [er]
        have hk' : (⟨k, ht⟩ : Fin k0_t2_loop.trips).val < 512 := by show k < 512; omega
        match q with
        | 0 => exact (four_0 ⟨k, ht⟩ _ _ _ _ _ hk' s l).trans ((pay5_at _ _ _ _ _ s l).trans (K0 s l))
        | 1 => exact (four_1 ⟨k, ht⟩ _ _ _ _ _ hk' s l).trans ((pay6_at _ _ _ _ _ s l).trans (K1 s l))
        | 2 => exact (four_2 ⟨k, ht⟩ _ _ _ _ _ hk' s l).trans ((pay96_at _ s l).trans (K2 s l))
        | 3 => exact (four_3 ⟨k, ht⟩ _ _ _ _ _ hk' s l).trans ((pay97_at _ s l).trans (K3 s l))

end Cert.KernelIdeal.Final

end
-- ==== Proof.KOut.lean ====
/- What one grid step of the mixer leaves, as functions of the blocks it reads and of what the step before it left. -/
module

public import proofs.«01_k».proof.Proof.KLoop1
public import proofs.«01_k».proof.Proof.KLoop2

@[expose] public section

set_option maxRecDepth 65536
set_option maxHeartbeats 2000000

noncomputable section

namespace Cert.KernelIdeal.Final

open Idealize.ShloMosaic Idealize.ShloMosaic.TcCoe Cert.KernelIdeal Cert.KernelIdeal.Gen

/-- What a grid step reads: its blocks of the inputs, and the kept rows, the row and the state it continues from. -/
structure Blk where
  b0 : Vec Ideal S512x1024 .f32
  b4 : Vec Ideal S1x1024 .f32
  b5 : Vec Ideal S1024x1536 .bf16
  b6 : Vec Ideal S4x512 .f32
  b7 : Vec Ideal S1x512 .f32
  b8 : Vec Ideal S2x256x512 .bf16
  b9 : Vec Ideal S2x512 .f32
  b10 : Vec Ideal S1x512 .f32
  b11 : Vec Ideal S2x8x128 .f32
  b12 : Vec Ideal S2x8x128 .f32
  b13 : Vec Ideal S4x128x1024 .bf16
  b14 : Vec Ideal S16x256x128 .bf16
  b15 : Vec Ideal S1x512 .f32
  b16 : Vec Ideal S512x512 .bf16
  b17 : Vec Ideal S1x512 .f32
  b18 : Vec Ideal S1x512 .f32
  b19 : Vec Ideal S1x512 .f32
  b20 : Vec Ideal S1024x1024 .bf16
  cp : Vec Ideal S1x8x512 .f32
  lp : Vec Ideal S1x512 .f32
  sp : Vec Ideal S1x4x8x128 .f32

/-- The rows the convolution reads: the kept rows, then the rows of the step. -/
def xpL (X : Blk) : List (View.Piece (Elt Ideal) S1x520x512 .f32) :=
  [⟨Rect.unit (s := S1x520x512) ![0, 8, 0] S1x512x512.size inb_S1x520x512_S1x512x512_0_8_0, k0_pay14 X.b0 X.b4 X.b5⟩, ⟨Rect.unit (s := S1x520x512) ![0, 0, 0] S1x8x512.size inb_S1x520x512_S1x8x512_0_0_0, k0_pay13 X.cp⟩]

/-- The convolved rows. -/
def xcV (X : Blk) :=
  (k0_pay15 (k0_pay10 X.b0 X.b4 X.b5) X.b6 X.b7 ((View.whole cc0_scratch0).readCov (xpL X) (Rect.unit (s := S1x520x512) ![0, 5, 0] S1x512x512.size inb_S1x520x512_S1x512x512_0_5_0).toLoadRect) ((View.whole cc0_scratch0).readCov (xpL X) (Rect.unit (s := S1x520x512) ![0, 6, 0] S1x512x512.size inb_S1x520x512_S1x512x512_0_6_0).toLoadRect) ((View.whole cc0_scratch0).readCov (xpL X) (Rect.unit (s := S1x520x512) ![0, 7, 0] S1x512x512.size inb_S1x520x512_S1x512x512_0_7_0).toLoadRect))

/-- The decays as written. -/
def aL (X : Blk) : List (View.Piece (Elt Ideal) S512x512 .f32) :=
  [⟨Rect.unit (s := S512x512) ![0, 256] S512x256.size inb_S512x512_S512x256_0_256, k0_pay31 (k0_pay20 (k0_pay18 X.b10) (k0_pay19 X.b10)) (k0_pay21 (xcV X)) (View.ld X.b8 (Rect.unit (s := S2x256x512) ![1, 0, 0] S1x256x512.size inb_S2x256x512_S1x256x512_1_0_0)) (View.ld X.b9 (Rect.unit (s := S2x512) ![0, 256] S1x256.size inb_S2x512_S1x256_0_256))⟩, ⟨Rect.unit (s := S512x512) ![0, 0] S512x256.size inb_S512x512_S512x256_0_0, k0_pay25 (xcV X) (k0_pay18 X.b10) (k0_pay19 X.b10) (View.ld X.b8 (Rect.unit (s := S2x256x512) ![0, 0, 0] S1x256x512.size inb_S2x256x512_S1x256x512_0_0_0)) (View.ld X.b9 (Rect.unit (s := S2x512) ![0, 0] S1x256.size inb_S2x512_S1x256_0_0))⟩]

/-- The inputs of the recurrence as written. -/
def bL (X : Blk) : List (View.Piece (Elt Ideal) S512x512 .f32) :=
  [⟨Rect.unit (s := S512x512) ![0, 256] S512x256.size inb_S512x512_S512x256_0_256, k0_pay32 (xcV X) (k0_pay20 (k0_pay18 X.b10) (k0_pay19 X.b10)) (k0_pay21 (xcV X)) (View.ld X.b8 (Rect.unit (s := S2x256x512) ![1, 0, 0] S1x256x512.size inb_S2x256x512_S1x256x512_1_0_0)) (View.ld X.b9 (Rect.unit (s := S2x512) ![0, 256] S1x256.size inb_S2x512_S1x256_0_256)) (View.ld X.b9 (Rect.unit (s := S2x512) ![1, 256] S1x256.size inb_S2x512_S1x256_1_256))⟩, ⟨Rect.unit (s := S512x512) ![0, 0] S512x256.size inb_S512x512_S512x256_0_0, k0_pay27 (k0_pay26 (xcV X) (k0_pay18 X.b10) (k0_pay19 X.b10) (View.ld X.b8 (Rect.unit (s := S2x256x512) ![0, 0, 0] S1x256x512.size inb_S2x256x512_S1x256x512_0_0_0)) (View.ld X.b9 (Rect.unit (s := S2x512) ![0, 0] S1x256.size inb_S2x512_S1x256_0_0)) (View.ld X.b9 (Rect.unit (s := S2x512) ![1, 0] S1x256.size inb_S2x512_S1x256_1_0)))⟩]

/-- The decays. -/
def aV (X : Blk) : Vec Ideal S512x512 .f32 :=
  ((View.whole cc0_scratch1).readCov (aL X) (Rect.unit (s := S512x512) ![0, 0] S512x512.size inb_S512x512_S512x512_0_0).toLoadRect)

/-- The inputs of the recurrence. -/
def bV (X : Blk) : Vec Ideal S512x512 .f32 :=
  ((View.whole cc0_scratch2).readCov (bL X) (Rect.unit (s := S512x512) ![0, 0] S512x512.size inb_S512x512_S512x512_0_0).toLoadRect)

/-- The decays over the rows of a tile, as written. -/
def aL1 (X : Blk) : List (View.Piece (Elt Ideal) S512x512 .f32) :=
  ⟨(Rect.unit (s := S512x512) ![0, 0] S512x512.size inb_S512x512_S512x512_0_0), k0_pay40 (k0_pay36 (k0_pay33 (aV X))) (k0_pay37 (k0_pay33 (aV X)))⟩ :: (aL X)

/-- The recurrence inside a tile, as written. -/
def bL1 (X : Blk) : List (View.Piece (Elt Ideal) S512x512 .f32) :=
  ⟨(Rect.unit (s := S512x512) ![0, 0] S512x512.size inb_S512x512_S512x512_0_0), k0_pay41 (k0_pay35 (k0_pay33 (aV X)) (bV X)) (k0_pay36 (k0_pay33 (aV X))) (k0_pay38 (k0_pay33 (aV X)) (bV X)) (iota .tc S64x8x512 32 [1] iota_S64x8x512_d1_w32) k0_pay39⟩ :: (bL X)

/-- The loop of the linear recurrence. -/
def st1 (c : Dev nD) (t : Fin cfg0.N) (X : Blk) :=
  st_k0_t1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) (k0_pay11 X.b0 X.b4 X.b5) (k0_pay35 (k0_pay33 (aV X)) (bV X)) (k0_pay36 (k0_pay33 (aV X))) (k0_pay37 (k0_pay33 (aV X))) (k0_pay38 (k0_pay33 (aV X)) (bV X)) (iota .tc S64x8x512 32 [1] iota_S64x8x512_d1_w32) k0_pay39 ((View.whole cc0_scratch1).writes (Elt Ideal) (View.whole cc0_scratch1).junk (aL1 X)) ((View.whole cc0_scratch2).writes (Elt Ideal) (View.whole cc0_scratch2).junk (bL1 X)) (k0_pay42 X.lp) (Scf.trips (0#32) (Scalar.addi 0#32 64#32) 1#32)

/-- The inputs of the state space, as written. -/
def sL (X : Blk) : List (View.Piece (Elt Ideal) S4x4096x128 .f32) :=
  [⟨{ off := ![3, 7, 0], size := S1x512x128.size, stride := ![1, 8, 1], inb := inb_S4x4096x128_S1x512x128_3_7_0_s_1_8_1, stride_pos := spos_1_8_1 }, k0_pay87 (k0_pay79 (k0_pay78 (k0_pay49 (k0_pay12 X.b0 X.b4 X.b5))) (View.ld X.b13 (Rect.unit (s := S4x128x1024) ![3, 0, 0] S1x128x1024.size inb_S4x128x1024_S1x128x1024_3_0_0)))⟩,
    ⟨{ off := ![1, 7, 0], size := S1x512x128.size, stride := ![1, 8, 1], inb := inb_S4x4096x128_S1x512x128_1_7_0_s_1_8_1, stride_pos := spos_1_8_1 }, k0_pay86 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![3, 6, 0], size := S1x512x128.size, stride := ![1, 8, 1], inb := inb_S4x4096x128_S1x512x128_3_6_0_s_1_8_1, stride_pos := spos_1_8_1 }, k0_pay85 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![1, 6, 0], size := S1x512x128.size, stride := ![1, 8, 1], inb := inb_S4x4096x128_S1x512x128_1_6_0_s_1_8_1, stride_pos := spos_1_8_1 }, k0_pay84 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![3, 5, 0], size := S1x512x128.size, stride := ![1, 8, 1], inb := inb_S4x4096x128_S1x512x128_3_5_0_s_1_8_1, stride_pos := spos_1_8_1 }, k0_pay83 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![1, 5, 0], size := S1x512x128.size, stride := ![1, 8, 1], inb := inb_S4x4096x128_S1x512x128_1_5_0_s_1_8_1, stride_pos := spos_1_8_1 }, k0_pay82 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![3, 4, 0], size := S1x512x128.size, stride := ![1, 8, 1], inb := inb_S4x4096x128_S1x512x128_3_4_0_s_1_8_1, stride_pos := spos_1_8_1 }, k0_pay81 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![1, 4, 0], size := S1x512x128.size, stride := ![1, 8, 1], inb := inb_S4x4096x128_S1x512x128_1_4_0_s_1_8_1, stride_pos := spos_1_8_1 }, k0_pay80 (k0_pay78 (k0_pay49 (k0_pay12 X.b0 X.b4 X.b5))) (View.ld X.b13 (Rect.unit (s := S4x128x1024) ![3, 0, 0] S1x128x1024.size inb_S4x128x1024_S1x128x1024_3_0_0))⟩,
    ⟨{ off := ![3, 3, 0], size := S1x512x128.size, stride := ![1, 8, 1], inb := inb_S4x4096x128_S1x512x128_3_3_0_s_1_8_1, stride_pos := spos_1_8_1 }, k0_pay77 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![1, 3, 0], size := S1x512x128.size, stride := ![1, 8, 1], inb := inb_S4x4096x128_S1x512x128_1_3_0_s_1_8_1, stride_pos := spos_1_8_1 }, k0_pay76 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![3, 2, 0], size := S1x512x128.size, stride := ![1, 8, 1], inb := inb_S4x4096x128_S1x512x128_3_2_0_s_1_8_1, stride_pos := spos_1_8_1 }, k0_pay75 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![1, 2, 0], size := S1x512x128.size, stride := ![1, 8, 1], inb := inb_S4x4096x128_S1x512x128_1_2_0_s_1_8_1, stride_pos := spos_1_8_1 }, k0_pay74 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![3, 1, 0], size := S1x512x128.size, stride := ![1, 8, 1], inb := inb_S4x4096x128_S1x512x128_3_1_0_s_1_8_1, stride_pos := spos_1_8_1 }, k0_pay73 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![1, 1, 0], size := S1x512x128.size, stride := ![1, 8, 1], inb := inb_S4x4096x128_S1x512x128_1_1_0_s_1_8_1, stride_pos := spos_1_8_1 }, k0_pay72 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![3, 0, 0], size := S1x512x128.size, stride := ![1, 8, 1], inb := inb_S4x4096x128_S1x512x128_3_0_0_s_1_8_1, stride_pos := spos_1_8_1 }, k0_pay71 (k0_pay69 (k0_pay49 (k0_pay12 X.b0 X.b4 X.b5)) (View.ld X.b13 (Rect.unit (s := S4x128x1024) ![2, 0, 0] S1x128x1024.size inb_S4x128x1024_S1x128x1024_2_0_0)))⟩,
    ⟨{ off := ![1, 0, 0], size := S1x512x128.size, stride := ![1, 8, 1], inb := inb_S4x4096x128_S1x512x128_1_0_0_s_1_8_1, stride_pos := spos_1_8_1 }, k0_pay70 (k0_pay49 (k0_pay12 X.b0 X.b4 X.b5)) (View.ld X.b13 (Rect.unit (s := S4x128x1024) ![2, 0, 0] S1x128x1024.size inb_S4x128x1024_S1x128x1024_2_0_0))⟩,
    ⟨{ off := ![2, 7, 0], size := S1x512x128.size, stride := ![1, 8, 1], inb := inb_S4x4096x128_S1x512x128_2_7_0_s_1_8_1, stride_pos := spos_1_8_1 }, k0_pay68 (k0_pay59 (k0_pay49 (k0_pay12 X.b0 X.b4 X.b5)) (View.ld X.b13 (Rect.unit (s := S4x128x1024) ![1, 0, 0] S1x128x1024.size inb_S4x128x1024_S1x128x1024_1_0_0)))⟩,
    ⟨{ off := ![0, 7, 0], size := S1x512x128.size, stride := ![1, 8, 1], inb := inb_S4x4096x128_S1x512x128_0_7_0_s_1_8_1, stride_pos := spos_1_8_1 }, k0_pay67 (k0_pay59 (k0_pay49 (k0_pay12 X.b0 X.b4 X.b5)) (View.ld X.b13 (Rect.unit (s := S4x128x1024) ![1, 0, 0] S1x128x1024.size inb_S4x128x1024_S1x128x1024_1_0_0)))⟩,
    ⟨{ off := ![2, 6, 0], size := S1x512x128.size, stride := ![1, 8, 1], inb := inb_S4x4096x128_S1x512x128_2_6_0_s_1_8_1, stride_pos := spos_1_8_1 }, k0_pay66 (k0_pay59 (k0_pay49 (k0_pay12 X.b0 X.b4 X.b5)) (View.ld X.b13 (Rect.unit (s := S4x128x1024) ![1, 0, 0] S1x128x1024.size inb_S4x128x1024_S1x128x1024_1_0_0)))⟩,
    ⟨{ off := ![0, 6, 0], size := S1x512x128.size, stride := ![1, 8, 1], inb := inb_S4x4096x128_S1x512x128_0_6_0_s_1_8_1, stride_pos := spos_1_8_1 }, k0_pay65 (k0_pay59 (k0_pay49 (k0_pay12 X.b0 X.b4 X.b5)) (View.ld X.b13 (Rect.unit (s := S4x128x1024) ![1, 0, 0] S1x128x1024.size inb_S4x128x1024_S1x128x1024_1_0_0)))⟩,
    ⟨{ off := ![2, 5, 0], size := S1x512x128.size, stride := ![1, 8, 1], inb := inb_S4x4096x128_S1x512x128_2_5_0_s_1_8_1, stride_pos := spos_1_8_1 }, k0_pay64 (k0_pay59 (k0_pay49 (k0_pay12 X.b0 X.b4 X.b5)) (View.ld X.b13 (Rect.unit (s := S4x128x1024) ![1, 0, 0] S1x128x1024.size inb_S4x128x1024_S1x128x1024_1_0_0)))⟩,
    ⟨{ off := ![0, 5, 0], size := S1x512x128.size, stride := ![1, 8, 1], inb := inb_S4x4096x128_S1x512x128_0_5_0_s_1_8_1, stride_pos := spos_1_8_1 }, k0_pay63 (k0_pay62 (k0_pay49 (k0_pay12 X.b0 X.b4 X.b5)) (View.ld X.b13 (Rect.unit (s := S4x128x1024) ![1, 0, 0] S1x128x1024.size inb_S4x128x1024_S1x128x1024_1_0_0)))⟩,
    ⟨{ off := ![2, 4, 0], size := S1x512x128.size, stride := ![1, 8, 1], inb := inb_S4x4096x128_S1x512x128_2_4_0_s_1_8_1, stride_pos := spos_1_8_1 }, k0_pay61 (k0_pay49 (k0_pay12 X.b0 X.b4 X.b5)) (View.ld X.b13 (Rect.unit (s := S4x128x1024) ![1, 0, 0] S1x128x1024.size inb_S4x128x1024_S1x128x1024_1_0_0))⟩,
    ⟨{ off := ![0, 4, 0], size := S1x512x128.size, stride := ![1, 8, 1], inb := inb_S4x4096x128_S1x512x128_0_4_0_s_1_8_1, stride_pos := spos_1_8_1 }, k0_pay60 (k0_pay49 (k0_pay12 X.b0 X.b4 X.b5)) (View.ld X.b13 (Rect.unit (s := S4x128x1024) ![1, 0, 0] S1x128x1024.size inb_S4x128x1024_S1x128x1024_1_0_0))⟩,
    ⟨{ off := ![2, 3, 0], size := S1x512x128.size, stride := ![1, 8, 1], inb := inb_S4x4096x128_S1x512x128_2_3_0_s_1_8_1, stride_pos := spos_1_8_1 }, k0_pay58 (k0_pay50 (k0_pay12 X.b0 X.b4 X.b5) (View.ld X.b13 (Rect.unit (s := S4x128x1024) ![0, 0, 0] S1x128x1024.size inb_S4x128x1024_S1x128x1024_0_0_0)))⟩,
    ⟨{ off := ![0, 3, 0], size := S1x512x128.size, stride := ![1, 8, 1], inb := inb_S4x4096x128_S1x512x128_0_3_0_s_1_8_1, stride_pos := spos_1_8_1 }, k0_pay57 (k0_pay50 (k0_pay12 X.b0 X.b4 X.b5) (View.ld X.b13 (Rect.unit (s := S4x128x1024) ![0, 0, 0] S1x128x1024.size inb_S4x128x1024_S1x128x1024_0_0_0)))⟩,
    ⟨{ off := ![2, 2, 0], size := S1x512x128.size, stride := ![1, 8, 1], inb := inb_S4x4096x128_S1x512x128_2_2_0_s_1_8_1, stride_pos := spos_1_8_1 }, k0_pay56 (k0_pay50 (k0_pay12 X.b0 X.b4 X.b5) (View.ld X.b13 (Rect.unit (s := S4x128x1024) ![0, 0, 0] S1x128x1024.size inb_S4x128x1024_S1x128x1024_0_0_0)))⟩,
    ⟨{ off := ![0, 2, 0], size := S1x512x128.size, stride := ![1, 8, 1], inb := inb_S4x4096x128_S1x512x128_0_2_0_s_1_8_1, stride_pos := spos_1_8_1 }, k0_pay55 (k0_pay50 (k0_pay12 X.b0 X.b4 X.b5) (View.ld X.b13 (Rect.unit (s := S4x128x1024) ![0, 0, 0] S1x128x1024.size inb_S4x128x1024_S1x128x1024_0_0_0)))⟩,
    ⟨{ off := ![2, 1, 0], size := S1x512x128.size, stride := ![1, 8, 1], inb := inb_S4x4096x128_S1x512x128_2_1_0_s_1_8_1, stride_pos := spos_1_8_1 }, k0_pay54 (k0_pay12 X.b0 X.b4 X.b5) (View.ld X.b13 (Rect.unit (s := S4x128x1024) ![0, 0, 0] S1x128x1024.size inb_S4x128x1024_S1x128x1024_0_0_0))⟩,
    ⟨{ off := ![0, 1, 0], size := S1x512x128.size, stride := ![1, 8, 1], inb := inb_S4x4096x128_S1x512x128_0_1_0_s_1_8_1, stride_pos := spos_1_8_1 }, k0_pay53 (k0_pay12 X.b0 X.b4 X.b5) (View.ld X.b13 (Rect.unit (s := S4x128x1024) ![0, 0, 0] S1x128x1024.size inb_S4x128x1024_S1x128x1024_0_0_0))⟩,
    ⟨{ off := ![2, 0, 0], size := S1x512x128.size, stride := ![1, 8, 1], inb := inb_S4x4096x128_S1x512x128_2_0_0_s_1_8_1, stride_pos := spos_1_8_1 }, k0_pay52 (k0_pay12 X.b0 X.b4 X.b5) (View.ld X.b13 (Rect.unit (s := S4x128x1024) ![0, 0, 0] S1x128x1024.size inb_S4x128x1024_S1x128x1024_0_0_0))⟩,
    ⟨{ off := ![0, 0, 0], size := S1x512x128.size, stride := ![1, 8, 1], inb := inb_S4x4096x128_S1x512x128_0_0_0_s_1_8_1, stride_pos := spos_1_8_1 }, k0_pay51 (k0_pay12 X.b0 X.b4 X.b5) (View.ld X.b13 (Rect.unit (s := S4x128x1024) ![0, 0, 0] S1x128x1024.size inb_S4x128x1024_S1x128x1024_0_0_0))⟩]

/-- The loop of the state space. -/
def st2 (c : Dev nD) (t : Fin cfg0.N) (X : Blk) :=
  st_k0_t2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) (k0_pay79 (k0_pay78 (k0_pay49 (k0_pay12 X.b0 X.b4 X.b5))) (View.ld X.b13 (Rect.unit (s := S4x128x1024) ![3, 0, 0] S1x128x1024.size inb_S4x128x1024_S1x128x1024_3_0_0))) (View.ld X.b11 (Rect.unit (s := S2x8x128) ![0, 0, 0] S1x8x128.size inb_S2x8x128_S1x8x128_0_0_0)) (View.ld X.b11 (Rect.unit (s := S2x8x128) ![1, 0, 0] S1x8x128.size inb_S2x8x128_S1x8x128_1_0_0)) (View.ld X.b12 (Rect.unit (s := S2x8x128) ![0, 0, 0] S1x8x128.size inb_S2x8x128_S1x8x128_0_0_0)) (View.ld X.b12 (Rect.unit (s := S2x8x128) ![1, 0, 0] S1x8x128.size inb_S2x8x128_S1x8x128_1_0_0)) ((View.whole cc0_scratch3).writes (Elt Ideal) (View.whole cc0_scratch3).junk (sL X)) (k0_pay92 (View.ld X.sp (Rect.unit (s := S1x4x8x128) ![0, 0, 0, 0] S1x1x8x128.size inb_S1x4x8x128_S1x1x8x128_0_0_0_0)), k0_pay93 (View.ld X.sp (Rect.unit (s := S1x4x8x128) ![0, 1, 0, 0] S1x1x8x128.size inb_S1x4x8x128_S1x1x8x128_0_1_0_0)), k0_pay94 (View.ld X.sp (Rect.unit (s := S1x4x8x128) ![0, 2, 0, 0] S1x1x8x128.size inb_S1x4x8x128_S1x1x8x128_0_2_0_0)), k0_pay95 (View.ld X.sp (Rect.unit (s := S1x4x8x128) ![0, 3, 0, 0] S1x1x8x128.size inb_S1x4x8x128_S1x1x8x128_0_3_0_0))) (Scf.trips (0#32) (Scalar.addi 0#32 512#32) 1#32)

/-- The kept rows. -/
def convO (X : Blk) : Vec Ideal S1x8x512 .f32 :=
  k0_pay16 ((View.whole cc0_scratch0).readCov (xpL X) (Rect.unit (s := S1x520x512) ![0, 512, 0] S1x8x512.size inb_S1x520x512_S1x8x512_0_512_0).toLoadRect)

/-- The row. -/
def lruO (c : Dev nD) (t : Fin cfg0.N) (X : Blk) : Vec Ideal S1x512 .f32 :=
  k0_pay46 (st1 c t X).1

/-- The state. -/
def ssmO (c : Dev nD) (t : Fin cfg0.N) (X : Blk) (L : List (View.Piece (Elt Ideal) S1x4x8x128 .f32)) : Vec Ideal S1x4x8x128 .f32 :=
  View.canon ([⟨Rect.unit (s := S1x4x8x128) ![0, 3, 0, 0] S1x1x8x128.size inb_S1x4x8x128_S1x1x8x128_0_3_0_0, k0_pay101 (st2 c t X).1.2.2.2⟩, ⟨Rect.unit (s := S1x4x8x128) ![0, 2, 0, 0] S1x1x8x128.size inb_S1x4x8x128_S1x1x8x128_0_2_0_0, k0_pay100 (st2 c t X).1.2.2.1⟩, ⟨Rect.unit (s := S1x4x8x128) ![0, 1, 0, 0] S1x1x8x128.size inb_S1x4x8x128_S1x1x8x128_0_1_0_0, k0_pay99 (st2 c t X).1.2.1⟩, ⟨Rect.unit (s := S1x4x8x128) ![0, 0, 0, 0] S1x1x8x128.size inb_S1x4x8x128_S1x1x8x128_0_0_0_0, k0_pay98 (st2 c t X).1.1⟩] ++ L)

/-- The states, read back. -/
def sRd (c : Dev nD) (t : Fin cfg0.N) (X : Blk) (q s : ℕ) (inb : ∀ a, S1x512x128.size a = 0 ∨ (![q, s, 0] : Fin 3 → ℕ) a + (![1, 8, 1] : Fin 3 → ℕ) a * (S1x512x128.size a - 1) < S4x4096x128.size a) : Vec Ideal S1x512x128 .f32 :=
  (View.whole cc0_scratch3).readAt (Elt Ideal) (⟨![q, s, 0], S1x512x128.size, ![1, 8, 1], inb⟩ : LoadRect S4x4096x128) ((View.whole cc0_scratch3).writes (Elt Ideal) (View.whole cc0_scratch3).junk ((st2 c t X).2 ++ sL X))

/-- The recurrence, read back. -/
def bRd (c : Dev nD) (t : Fin cfg0.N) (X : Blk) : Vec Ideal S512x512 .f32 :=
  (View.whole cc0_scratch2).readCov ((st1 c t X).2 ++ bL1 X) (Rect.unit (s := S512x512) ![0, 0] S512x512.size inb_S512x512_S512x512_0_0).toLoadRect

/-- The recurrence's norm. -/
def hV (c : Dev nD) (t : Fin cfg0.N) (X : Blk) :=
  (k0_pay48 (k0_pay47 (k0_pay11 X.b0 X.b4 X.b5) (bRd c t X)) X.b18)

/-- Columns of the outputs of the state space. -/
def y104 (c : Dev nD) (t : Fin cfg0.N) (X : Blk) :=
  k0_pay104 (k0_pay102 (sRd c t X 0 0 inb_S4x4096x128_S1x512x128_0_0_0_s_1_8_1) (sRd c t X 2 0 inb_S4x4096x128_S1x512x128_2_0_0_s_1_8_1) (View.ld X.b14 (Rect.unit (s := S16x256x128) ![0, 0, 0] S1x256x128.size inb_S16x256x128_S1x256x128_0_0_0))) (k0_pay103 (sRd c t X 0 1 inb_S4x4096x128_S1x512x128_0_1_0_s_1_8_1) (sRd c t X 2 1 inb_S4x4096x128_S1x512x128_2_1_0_s_1_8_1)) (View.ld X.b14 (Rect.unit (s := S16x256x128) ![1, 0, 0] S1x256x128.size inb_S16x256x128_S1x256x128_1_0_0)) (sRd c t X 0 2 inb_S4x4096x128_S1x512x128_0_2_0_s_1_8_1) (sRd c t X 2 2 inb_S4x4096x128_S1x512x128_2_2_0_s_1_8_1) (View.ld X.b14 (Rect.unit (s := S16x256x128) ![2, 0, 0] S1x256x128.size inb_S16x256x128_S1x256x128_2_0_0)) (sRd c t X 0 3 inb_S4x4096x128_S1x512x128_0_3_0_s_1_8_1) (sRd c t X 2 3 inb_S4x4096x128_S1x512x128_2_3_0_s_1_8_1) (View.ld X.b14 (Rect.unit (s := S16x256x128) ![3, 0, 0] S1x256x128.size inb_S16x256x128_S1x256x128_3_0_0))

/-- Columns of the outputs of the state space. -/
def y108 (c : Dev nD) (t : Fin cfg0.N) (X : Blk) :=
  k0_pay108 (k0_pay106 (k0_pay105 (sRd c t X 0 4 inb_S4x4096x128_S1x512x128_0_4_0_s_1_8_1) (sRd c t X 2 4 inb_S4x4096x128_S1x512x128_2_4_0_s_1_8_1)) (View.ld X.b14 (Rect.unit (s := S16x256x128) ![4, 0, 0] S1x256x128.size inb_S16x256x128_S1x256x128_4_0_0)) (sRd c t X 0 5 inb_S4x4096x128_S1x512x128_0_5_0_s_1_8_1) (sRd c t X 2 5 inb_S4x4096x128_S1x512x128_2_5_0_s_1_8_1) (View.ld X.b14 (Rect.unit (s := S16x256x128) ![5, 0, 0] S1x256x128.size inb_S16x256x128_S1x256x128_5_0_0)) (sRd c t X 0 6 inb_S4x4096x128_S1x512x128_0_6_0_s_1_8_1) (sRd c t X 2 6 inb_S4x4096x128_S1x512x128_2_6_0_s_1_8_1) (View.ld X.b14 (Rect.unit (s := S16x256x128) ![6, 0, 0] S1x256x128.size inb_S16x256x128_S1x256x128_6_0_0))) (k0_pay107 (sRd c t X 0 7 inb_S4x4096x128_S1x512x128_0_7_0_s_1_8_1) (sRd c t X 2 7 inb_S4x4096x128_S1x512x128_2_7_0_s_1_8_1)) (View.ld X.b14 (Rect.unit (s := S16x256x128) ![7, 0, 0] S1x256x128.size inb_S16x256x128_S1x256x128_7_0_0))

/-- Columns of the outputs of the state space. -/
def y111 (c : Dev nD) (t : Fin cfg0.N) (X : Blk) :=
  k0_pay111 (k0_pay109 (sRd c t X 1 0 inb_S4x4096x128_S1x512x128_1_0_0_s_1_8_1) (sRd c t X 3 0 inb_S4x4096x128_S1x512x128_3_0_0_s_1_8_1) (View.ld X.b14 (Rect.unit (s := S16x256x128) ![8, 0, 0] S1x256x128.size inb_S16x256x128_S1x256x128_8_0_0)) (sRd c t X 1 1 inb_S4x4096x128_S1x512x128_1_1_0_s_1_8_1) (sRd c t X 3 1 inb_S4x4096x128_S1x512x128_3_1_0_s_1_8_1) (View.ld X.b14 (Rect.unit (s := S16x256x128) ![9, 0, 0] S1x256x128.size inb_S16x256x128_S1x256x128_9_0_0))) (k0_pay110 (sRd c t X 1 2 inb_S4x4096x128_S1x512x128_1_2_0_s_1_8_1) (sRd c t X 3 2 inb_S4x4096x128_S1x512x128_3_2_0_s_1_8_1)) (View.ld X.b14 (Rect.unit (s := S16x256x128) ![10, 0, 0] S1x256x128.size inb_S16x256x128_S1x256x128_10_0_0)) (sRd c t X 1 3 inb_S4x4096x128_S1x512x128_1_3_0_s_1_8_1) (sRd c t X 3 3 inb_S4x4096x128_S1x512x128_3_3_0_s_1_8_1) (View.ld X.b14 (Rect.unit (s := S16x256x128) ![11, 0, 0] S1x256x128.size inb_S16x256x128_S1x256x128_11_0_0))

/-- Columns of the outputs of the state space. -/
def y112 (c : Dev nD) (t : Fin cfg0.N) (X : Blk) :=
  k0_pay112 (sRd c t X 1 4 inb_S4x4096x128_S1x512x128_1_4_0_s_1_8_1) (sRd c t X 3 4 inb_S4x4096x128_S1x512x128_3_4_0_s_1_8_1) (View.ld X.b14 (Rect.unit (s := S16x256x128) ![12, 0, 0] S1x256x128.size inb_S16x256x128_S1x256x128_12_0_0))

/-- The gated outputs. -/
def y114 (c : Dev nD) (t : Fin cfg0.N) (X : Blk) :=
  k0_pay114 (k0_pay12 X.b0 X.b4 X.b5) (y104 c t X) (y108 c t X) (y111 c t X) (y112 c t X) (k0_pay113 (sRd c t X 1 5 inb_S4x4096x128_S1x512x128_1_5_0_s_1_8_1) (sRd c t X 3 5 inb_S4x4096x128_S1x512x128_3_5_0_s_1_8_1)) (View.ld X.b14 (Rect.unit (s := S16x256x128) ![13, 0, 0] S1x256x128.size inb_S16x256x128_S1x256x128_13_0_0)) (sRd c t X 1 6 inb_S4x4096x128_S1x512x128_1_6_0_s_1_8_1) (sRd c t X 3 6 inb_S4x4096x128_S1x512x128_3_6_0_s_1_8_1) (View.ld X.b14 (Rect.unit (s := S16x256x128) ![14, 0, 0] S1x256x128.size inb_S16x256x128_S1x256x128_14_0_0)) (sRd c t X 1 7 inb_S4x4096x128_S1x512x128_1_7_0_s_1_8_1) (sRd c t X 3 7 inb_S4x4096x128_S1x512x128_3_7_0_s_1_8_1) (View.ld X.b14 (Rect.unit (s := S16x256x128) ![15, 0, 0] S1x256x128.size inb_S16x256x128_S1x256x128_15_0_0)) X.b15

/-- Their gates. -/
def y115 (c : Dev nD) (t : Fin cfg0.N) (X : Blk) :=
  k0_pay115 (k0_pay12 X.b0 X.b4 X.b5) (y104 c t X) (y108 c t X) (y111 c t X) (y112 c t X) (k0_pay113 (sRd c t X 1 5 inb_S4x4096x128_S1x512x128_1_5_0_s_1_8_1) (sRd c t X 3 5 inb_S4x4096x128_S1x512x128_3_5_0_s_1_8_1)) (View.ld X.b14 (Rect.unit (s := S16x256x128) ![13, 0, 0] S1x256x128.size inb_S16x256x128_S1x256x128_13_0_0)) (sRd c t X 1 6 inb_S4x4096x128_S1x512x128_1_6_0_s_1_8_1) (sRd c t X 3 6 inb_S4x4096x128_S1x512x128_3_6_0_s_1_8_1) (View.ld X.b14 (Rect.unit (s := S16x256x128) ![14, 0, 0] S1x256x128.size inb_S16x256x128_S1x256x128_14_0_0)) (sRd c t X 1 7 inb_S4x4096x128_S1x512x128_1_7_0_s_1_8_1) (sRd c t X 3 7 inb_S4x4096x128_S1x512x128_3_7_0_s_1_8_1) (View.ld X.b14 (Rect.unit (s := S16x256x128) ![15, 0, 0] S1x256x128.size inb_S16x256x128_S1x256x128_15_0_0)) X.b15

/-- The rows of the result. -/
def yO (c : Dev nD) (t : Fin cfg0.N) (X : Blk) : Vec Ideal S512x1024 .f32 :=
  k0_pay116 X.b0 (hV c t X) (y114 c t X) (y115 c t X) X.b16 X.b17 X.b19 (View.ld X.b20 (Rect.unit (s := S1024x1024) ![0, 0] S512x1024.size inb_S1024x1024_S512x1024_0_0)) (View.ld X.b20 (Rect.unit (s := S1024x1024) ![512, 0] S512x1024.size inb_S1024x1024_S512x1024_512_0))

variable (m : (ℓ : Loc nD τ sig) → Buf (Elt Ideal) ℓ)

/-- What a grid step reads. -/
def blkOf (c : Dev nD) (t : Fin cfg0.N) (cp : Vec Ideal S1x8x512 .f32) (lp : Vec Ideal S1x512 .f32) (sp : Vec Ideal S1x4x8x128 .f32) : Blk := ⟨iblk m c 0 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, cp, lp, sp⟩

end Cert.KernelIdeal.Final

end
-- ==== Proof.KStep.lean ====
/- What the steps of the mixer leave is what the blocks they read give. -/
module
public import proofs.«01_k».proof.Proof.KOut
@[expose] public section
set_option maxRecDepth 65536
set_option maxHeartbeats 2000000
noncomputable section
namespace Cert.KernelIdeal.Final
open Idealize.ShloMosaic Idealize.ShloMosaic.TcCoe Cert.KernelIdeal Cert.KernelIdeal.Gen
variable (m : (ℓ : Loc nD τ sig) → Buf (Elt Ideal) ℓ)

/-- A part of an array written whole, read back. -/
theorem sp_whole {κ} {ms : Space} (v : View sig κ ms S1x4x8x128 .f32) (P : Vec Ideal S1x4x8x128 .f32) (inb) (off : Fin 4 → ℕ) (inb') :
    v.readCov (Val := Elt Ideal) [⟨Rect.unit (s := S1x4x8x128) ![0, 0, 0, 0] ![1, 4, 8, 128] inb, P⟩] (Rect.unit (s := S1x4x8x128) off ![1, 1, 8, 128] inb').toLoadRect
      = View.ld P (Rect.unit (s := S1x4x8x128) off ![1, 1, 8, 128] inb') := by
  rw [View.readCov_eq_canon']
  funext j
  have e : ∀ i : S1x4x8x128.Idx, (Rect.unit (s := S1x4x8x128) ![0, 0, 0, 0] ![1, 4, 8, 128] inb).emb i = i := by
    intro i
    funext a
    apply Fin.ext
    show ![0, 0, 0, 0] a + 1 * (i a).val = (i a).val
    fin_cases a <;> simp
  have h := View.canon_cons_emb (Val := Elt Ideal) (e := .f32) (Rect.unit (s := S1x4x8x128) ![0, 0, 0, 0] ![1, 4, 8, 128] inb) P [] ((Rect.unit (s := S1x4x8x128) off ![1, 1, 8, 128] inb').idx j)
  rw [e] at h
  exact h

/-- At a later block the convolution's state written is the block's function of the states the block before left. -/
theorem conv_B_aux (c : Dev nD) (t : Fin cfg0.N) (h : ¬ t.val % 32 = 0) (Z) (hZ : convO (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) = Z) : (outsAt0 m c t.val t.isLt).2.1 = Z := by
  rw [outsAt0_B m c t h]
  frame_out
  refine Eq.trans ?_ hZ
  clear hZ
  unfold convO
  dsimp only [blkOf, aL1, bL1, aV, bV, aL, bL, xcV, xpL]

/-- What a step leaves, by the blocks it reads. -/
theorem conv_B (c : Dev nD) (t : Fin cfg0.N) (h : ¬ t.val % 32 = 0) : (outsAt0 m c t.val t.isLt).2.1 = convO (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) := conv_B_aux m c t h _ rfl

/-- At a later block the RG-LRU state written is the block's function of the states the block before left. -/
theorem lru_B_aux (c : Dev nD) (t : Fin cfg0.N) (h : ¬ t.val % 32 = 0) (Z) (hZ : lruO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) = Z) : (outsAt0 m c t.val t.isLt).2.2.1 = Z := by
  rw [outsAt0_B m c t h]
  frame_out
  refine Eq.trans ?_ hZ
  clear hZ
  unfold lruO st1
  dsimp only [blkOf, aL1, bL1, aV, bV, aL, bL, xcV, xpL]

/-- What a step leaves, by the blocks it reads. -/
theorem lru_B (c : Dev nD) (t : Fin cfg0.N) (h : ¬ t.val % 32 = 0) : (outsAt0 m c t.val t.isLt).2.2.1 = lruO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) := lru_B_aux m c t h _ rfl

/-- At a later block the S5 state written is the block's function of the states the block before left. -/
theorem ssm_B_aux (c : Dev nD) (t : Fin cfg0.N) (h : ¬ t.val % 32 = 0) (Z) (hZ : ssmO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) [] = Z) : (outsAt0 m c t.val t.isLt).2.2.2 = Z := by
  rw [outsAt0_B m c t h]
  frame_out
  refine Eq.trans ?_ hZ
  clear hZ
  unfold ssmO st2
  dsimp only [List.cons_append, List.nil_append, List.append_nil, blkOf, aL1, bL1, aV, bV, aL, bL, xcV, xpL, sL]

/-- What a step leaves, by the blocks it reads. -/
theorem ssm_B (c : Dev nD) (t : Fin cfg0.N) (h : ¬ t.val % 32 = 0) : (outsAt0 m c t.val t.isLt).2.2.2 = ssmO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) [] := ssm_B_aux m c t h _ rfl

/-- At a later block the rows written are the block's function of the states the block before left. -/
theorem y_B_aux (c : Dev nD) (t : Fin cfg0.N) (h : ¬ t.val % 32 = 0) (Z) (hZ : yO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) = Z) : (outsAt0 m c t.val t.isLt).1 = Z := by
  rw [outsAt0_B m c t h]
  frame_out
  refine Eq.trans ?_ hZ
  clear hZ
  unfold yO hV y114 y115 y104 y108 y111 y112 sRd bRd st1 st2
  dsimp only [blkOf, aL1, bL1, aV, bV, aL, bL, xcV, xpL, sL]

/-- What a step leaves, by the blocks it reads. -/
theorem y_B (c : Dev nD) (t : Fin cfg0.N) (h : ¬ t.val % 32 = 0) : (outsAt0 m c t.val t.isLt).1 = yO c t (blkOf m c t (outsAt0 m c (t.val - 1) (Nat.lt_of_le_of_lt (Nat.sub_le ..) t.isLt)).2.1 (outsAt0 m c (t.val - 1) (Nat.lt_of_le_of_lt (Nat.sub_le ..) t.isLt)).2.2.1 (outsAt0 m c (t.val - 1) (Nat.lt_of_le_of_lt (Nat.sub_le ..) t.isLt)).2.2.2) := y_B_aux m c t h _ rfl

/-- At the first block the convolution's state written is the block's function of the arguments' states. -/
theorem conv_A_aux (c : Dev nD) (t : Fin cfg0.N) (h : t.val % 32 = 0) (Z) (hZ : convO (blkOf m c t (k0_pay7 (iblk m c 1 t)) (iblk m c 2 t) (k0_pay8 (iblk m c 3 t))) = Z) : (outsAt0 m c t.val t.isLt).2.1 = Z := by
  rw [outsAt0_A m c t h]
  frame_out
  refine Eq.trans ?_ hZ
  clear hZ
  unfold convO
  dsimp only [blkOf, aL1, bL1, aV, bV, aL, bL, xcV, xpL]

/-- What a step leaves, by the blocks it reads. -/
theorem conv_A (c : Dev nD) (t : Fin cfg0.N) (h : t.val % 32 = 0) : (outsAt0 m c t.val t.isLt).2.1 = convO (blkOf m c t (k0_pay7 (iblk m c 1 t)) (iblk m c 2 t) (k0_pay8 (iblk m c 3 t))) := conv_A_aux m c t h _ rfl

/-- At the first block the RG-LRU state written is the block's function of the arguments' states. -/
theorem lru_A_aux (c : Dev nD) (t : Fin cfg0.N) (h : t.val % 32 = 0) (Z) (hZ : lruO c t (blkOf m c t (k0_pay7 (iblk m c 1 t)) (iblk m c 2 t) (k0_pay8 (iblk m c 3 t))) = Z) : (outsAt0 m c t.val t.isLt).2.2.1 = Z := by
  rw [outsAt0_A m c t h]
  frame_out
  refine Eq.trans ?_ hZ
  clear hZ
  unfold lruO st1
  dsimp only [blkOf, aL1, bL1, aV, bV, aL, bL, xcV, xpL]

/-- What a step leaves, by the blocks it reads. -/
theorem lru_A (c : Dev nD) (t : Fin cfg0.N) (h : t.val % 32 = 0) : (outsAt0 m c t.val t.isLt).2.2.1 = lruO c t (blkOf m c t (k0_pay7 (iblk m c 1 t)) (iblk m c 2 t) (k0_pay8 (iblk m c 3 t))) := lru_A_aux m c t h _ rfl

/-- At the first block the S5 state written is the block's function of the arguments' states. -/
theorem ssm_A_aux (c : Dev nD) (t : Fin cfg0.N) (h : t.val % 32 = 0) (Z) (hZ : ssmO c t (blkOf m c t (k0_pay7 (iblk m c 1 t)) (iblk m c 2 t) (k0_pay8 (iblk m c 3 t))) [⟨Rect.unit (s := S1x4x8x128) ![0, 0, 0, 0] S1x4x8x128.size inb_S1x4x8x128_S1x4x8x128_0_0_0_0, k0_pay8 (iblk m c 3 t)⟩] = Z) : (outsAt0 m c t.val t.isLt).2.2.2 = Z := by
  rw [outsAt0_A m c t h]
  frame_out
  simp only [sp_whole]
  refine Eq.trans ?_ hZ
  clear hZ
  unfold ssmO st2
  dsimp only [List.cons_append, List.nil_append, List.append_nil, blkOf, aL1, bL1, aV, bV, aL, bL, xcV, xpL, sL]

/-- What a step leaves, by the blocks it reads. -/
theorem ssm_A (c : Dev nD) (t : Fin cfg0.N) (h : t.val % 32 = 0) : (outsAt0 m c t.val t.isLt).2.2.2 = ssmO c t (blkOf m c t (k0_pay7 (iblk m c 1 t)) (iblk m c 2 t) (k0_pay8 (iblk m c 3 t))) [⟨Rect.unit (s := S1x4x8x128) ![0, 0, 0, 0] S1x4x8x128.size inb_S1x4x8x128_S1x4x8x128_0_0_0_0, k0_pay8 (iblk m c 3 t)⟩] := ssm_A_aux m c t h _ rfl

/-- At the first block the rows written are the block's function of the arguments' states. -/
theorem y_A_aux (c : Dev nD) (t : Fin cfg0.N) (h : t.val % 32 = 0) (Z) (hZ : yO c t (blkOf m c t (k0_pay7 (iblk m c 1 t)) (iblk m c 2 t) (k0_pay8 (iblk m c 3 t))) = Z) : (outsAt0 m c t.val t.isLt).1 = Z := by
  rw [outsAt0_A m c t h]
  frame_out
  simp only [sp_whole]
  refine Eq.trans ?_ hZ
  clear hZ
  unfold yO hV y114 y115 y104 y108 y111 y112 sRd bRd st1 st2
  dsimp only [blkOf, aL1, bL1, aV, bV, aL, bL, xcV, xpL, sL]

/-- What a step leaves, by the blocks it reads. -/
theorem y_A (c : Dev nD) (t : Fin cfg0.N) (h : t.val % 32 = 0) : (outsAt0 m c t.val t.isLt).1 = yO c t (blkOf m c t (k0_pay7 (iblk m c 1 t)) (iblk m c 2 t) (k0_pay8 (iblk m c 3 t))) := y_A_aux m c t h _ rfl

end Cert.KernelIdeal.Final

end
-- ==== Proof.MixDefs.lean ====
/- What the reference of the mixer computes, stage by stage, as arrays; and which stage every buffer of its run holds. -/
module

public import proofs.«01_k».proof.Proof.RefRun

@[expose] public section

set_option maxRecDepth 16384

noncomputable section

namespace Cert.ReferenceIdeal.Stage

open Idealize.ShloMosaic Idealize.ShloMosaic.TcCoe Idealize.ShloMosaic.StableHlo Cert.ReferenceIdeal Cert.ReferenceIdeal.Gen Cert.ReferenceIdeal.Value

/-- The projection of the normed rows. -/
def refZ (x : FVec Ideal S16384x1024 .f32) (g : FVec Ideal S1024 .f32) (w : FVec Ideal S1024x1536 .f32) : FVec Ideal S16384x1536 .f32 :=
  (Host.dotGeneral dot_S16384x1024_S1024x1536_S16384x1536_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w)

/-- The columns that enter the convolution. -/
def refXl (z : FVec Ideal S16384x1536 .f32) : FVec Ideal S16384x512 .f32 :=
  (extractStridedSlice S16384x512 ![0, 0] z slices_S16384x1536_S16384x512_0_0)

/-- The columns that gate the linear recurrence. -/
def refGl (z : FVec Ideal S16384x1536 .f32) : FVec Ideal S16384x512 .f32 :=
  (extractStridedSlice S16384x512 ![0, 512] z slices_S16384x1536_S16384x512_0_512)

/-- The columns that enter the state space. -/
def refUs (z : FVec Ideal S16384x1536 .f32) : FVec Ideal S16384x512 .f32 :=
  (extractStridedSlice S16384x512 ![0, 1024] z slices_S16384x1536_S16384x512_0_1024)

/-- The three rows kept from before, then the rows of the sequence. -/
def refXp (conv : FVec Ideal S1x3x512 .f32) (xl : FVec Ideal S16384x512 .f32) : FVec Ideal S16387x512 .f32 :=
  (concatenate S16387x512 0 [⟨S3x512, (shapeCast S3x512 conv shapeCasts_S1x3x512_S3x512)⟩, ⟨S16384x512, xl⟩] concatenates_S3x512_S16384x512_S16387x512_d0)

/-- The causal convolution. -/
def refXc (xp : FVec Ideal S16387x512 .f32) (cw : FVec Ideal S4x512 .f32) (cb : FVec Ideal S512 .f32) : FVec Ideal S16384x512 .f32 :=
  (addf (addf (addf (addf (broadcastInDim S16384x512 ![0, 1] bcast_S1x512_S16384x512_0_1 (broadcastInDim S1x512 ![1] bcast_S512_S1x512_1 cb)) (mulf (extractStridedSlice S16384x512 ![0, 0] xp slices_S16387x512_S16384x512_0_0) (broadcastInDim S16384x512 ![0, 1] bcast_S1x512_S16384x512_0_1 (broadcastInDim S1x512 ![1] bcast_S512_S1x512_1 (shapeCast S512 (extractStridedSlice S1x512 ![0, 0] cw slices_S4x512_S1x512_0_0) shapeCasts_S1x512_S512))))) (mulf (extractStridedSlice S16384x512 ![1, 0] xp slices_S16387x512_S16384x512_1_0) (broadcastInDim S16384x512 ![0, 1] bcast_S1x512_S16384x512_0_1 (broadcastInDim S1x512 ![1] bcast_S512_S1x512_1 (shapeCast S512 (extractStridedSlice S1x512 ![1, 0] cw slices_S4x512_S1x512_1_0) shapeCasts_S1x512_S512))))) (mulf (extractStridedSlice S16384x512 ![2, 0] xp slices_S16387x512_S16384x512_2_0) (broadcastInDim S16384x512 ![0, 1] bcast_S1x512_S16384x512_0_1 (broadcastInDim S1x512 ![1] bcast_S512_S1x512_1 (shapeCast S512 (extractStridedSlice S1x512 ![2, 0] cw slices_S4x512_S1x512_2_0) shapeCasts_S1x512_S512))))) (mulf (extractStridedSlice S16384x512 ![3, 0] xp slices_S16387x512_S16384x512_3_0) (broadcastInDim S16384x512 ![0, 1] bcast_S1x512_S16384x512_0_1 (broadcastInDim S1x512 ![1] bcast_S512_S1x512_1 (shapeCast S512 (extractStridedSlice S1x512 ![3, 0] cw slices_S4x512_S1x512_3_0) shapeCasts_S1x512_S512)))))

/-- A gate: the head's projection under the logistic. -/
def refGate (xc : FVec Ideal S16384x512 .f32) (w : FVec Ideal S8x64x64 .f32) (b : FVec Ideal S512 .f32) : FVec Ideal S16384x512 .f32 :=
  (Host.divf (broadcastInDim S16384x512 ![] bcast_S_S16384x512 (constant S_ .f32 0x3F800000#32)) (addf (broadcastInDim S16384x512 ![] bcast_S_S16384x512 (constant S_ .f32 0x3F800000#32)) (Host.exp (Host.negf (addf (shapeCast S16384x512 (transpose S16384x8x64 [2, 0, 1] (Host.dotGeneral dot_S8x64x64_S16384x8x64_S8x64x16384_1_2_2_0_0_1 none w (shapeCast S16384x8x64 xc shapeCasts_S16384x512_S16384x8x64)) transposes_S8x64x16384_S16384x8x64_2_0_1) shapeCasts_S16384x8x64_S16384x512) (broadcastInDim S16384x512 ![0, 1] bcast_S1x512_S16384x512_0_1 (broadcastInDim S1x512 ![1] bcast_S512_S1x512_1 b)))))))

/-- The softplus of the negated decay. -/
def refSp (lam : FVec Ideal S512 .f32) : FVec Ideal S512 .f32 :=
  select (cmpf .une (subf (Host.negf lam) (broadcastInDim S512 ![] bcast_S_S512 (constant S_ .f32 0x00000000#32))) (subf (Host.negf lam) (broadcastInDim S512 ![] bcast_S_S512 (constant S_ .f32 0x00000000#32)))) (addf (Host.negf lam) (broadcastInDim S512 ![] bcast_S_S512 (constant S_ .f32 0x00000000#32))) (addf (maximumf (Host.negf lam) (broadcastInDim S512 ![] bcast_S_S512 (constant S_ .f32 0x00000000#32))) (Host.log1p (Host.exp (Host.negf (Host.absf (subf (Host.negf lam) (broadcastInDim S512 ![] bcast_S_S512 (constant S_ .f32 0x00000000#32))))))))

/-- The logarithm of the decay. -/
def refLa (r : FVec Ideal S16384x512 .f32) (sp : FVec Ideal S512 .f32) : FVec Ideal S16384x512 .f32 :=
  (mulf (mulf (broadcastInDim S16384x512 ![] bcast_S_S16384x512 (constant S_ .f32 0xC1000000#32)) r) (broadcastInDim S16384x512 ![0, 1] bcast_S1x512_S16384x512_0_1 (broadcastInDim S1x512 ![1] bcast_S512_S1x512_1 sp)))

/-- The decay. -/
def refA (la : FVec Ideal S16384x512 .f32) : FVec Ideal S16384x512 .f32 :=
  (Host.exp la)

/-- What enters the linear recurrence. -/
def refB (la : FVec Ideal S16384x512 .f32) (ig : FVec Ideal S16384x512 .f32) (xc : FVec Ideal S16384x512 .f32) : FVec Ideal S16384x512 .f32 :=
  (mulf (Host.sqrt (Host.negf (Host.expm1 (mulf (broadcastInDim S16384x512 ![] bcast_S_S16384x512 (constant S_ .f32 0x40000000#32)) la)))) (mulf ig xc))

/-- What enters one part of the state space. -/
def refBu (us : FVec Ideal S16384x512 .f32) (bb : FVec Ideal S32x16x64 .f32) : FVec Ideal S16384x32x64 .f32 :=
  (transpose S16384x32x64 [2, 0, 1] (Host.dotGeneral dot_S32x16x64_S16384x32x16_S32x64x16384_1_2_2_0_0_1 none bb (shapeCast S16384x32x16 us shapeCasts_S16384x512_S16384x32x16)) transposes_S32x64x16384_S16384x32x64_2_0_1)

/-- The gated rows of the linear recurrence. -/
def refYlru (h : FVec Ideal S16384x512 .f32) (gl : FVec Ideal S16384x512 .f32) : FVec Ideal S16384x512 .f32 :=
  (mulf h (mulf gl (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf gl (mulf (broadcastInDim S16384x512 ![] bcast_S_S16384x512 (constant S_ .f32 0x3D372713#32)) (mulf (mulf gl gl) gl)))))))))

/-- What leaves the state space. -/
def refYs (sr : FVec Ideal S16384x32x64 .f32) (si : FVec Ideal S16384x32x64 .f32) (cre : FVec Ideal S32x16x64 .f32) (cim : FVec Ideal S32x16x64 .f32) (dk : FVec Ideal S512 .f32) (us : FVec Ideal S16384x512 .f32) : FVec Ideal S16384x512 .f32 :=
  (addf (shapeCast S16384x512 (addf (transpose S16384x32x16 [1, 0, 2] (Host.dotGeneral dot_S16384x32x64_S32x16x64_S32x16384x16_2_2_0_1_1_0 none sr cre) transposes_S32x16384x16_S16384x32x16_1_0_2) (transpose S16384x32x16 [1, 0, 2] (Host.dotGeneral dot_S16384x32x64_S32x16x64_S32x16384x16_2_2_0_1_1_0 none si (Host.negf cim)) transposes_S32x16384x16_S16384x32x16_1_0_2)) shapeCasts_S16384x32x16_S16384x512) (mulf (broadcastInDim S16384x512 ![0, 1] bcast_S1x512_S16384x512_0_1 (broadcastInDim S1x512 ![1] bcast_S512_S1x512_1 dk)) us))

/-- The gated rows of the state space. -/
def refYssm (ys : FVec Ideal S16384x512 .f32) (w : FVec Ideal S512x512 .f32) (b : FVec Ideal S512 .f32) : FVec Ideal S16384x512 .f32 :=
  (mulf (mulf ys (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf ys (mulf (broadcastInDim S16384x512 ![] bcast_S_S16384x512 (constant S_ .f32 0x3D372713#32)) (mulf (mulf ys ys) ys)))))))) (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x512_S512x512_S16384x512_1_0_0_1_n_n none (mulf ys (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf ys (mulf (broadcastInDim S16384x512 ![] bcast_S_S16384x512 (constant S_ .f32 0x3D372713#32)) (mulf (mulf ys ys) ys)))))))) w) (broadcastInDim S16384x512 ![0, 1] bcast_S1x512_S16384x512_0_1 (broadcastInDim S1x512 ![1] bcast_S512_S1x512_1 b))))))))

/-- The norm of one group. -/
def refN (y : FVec Ideal S16384x512 .f32) (g : FVec Ideal S512 .f32) : FVec Ideal S16384x512 .f32 :=
  (mulf (mulf y (broadcastInDim S16384x512 ![0, 1] bcast_S16384x1_S16384x512_0_1 (Host.rsqrt (addf (Host.divf (broadcastInDim S16384x1 ![0] bcast_S16384_S16384x1_0 (Host.reduceAdd (mulf y y) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g)))

/-- The projection of both groups, with the rows themselves. -/
def refY (x : FVec Ideal S16384x1024 .f32) (n1 : FVec Ideal S16384x512 .f32) (n2 : FVec Ideal S16384x512 .f32) (w : FVec Ideal S1024x1024 .f32) : FVec Ideal S16384x1024 .f32 :=
  (addf x (Host.dotGeneral dot_S16384x1024_S1024x1024_S16384x1024_1_0_0_1_n_n none (concatenate S16384x1024 1 [⟨S16384x512, n1⟩, ⟨S16384x512, n2⟩] concatenates_S16384x512_S16384x512_S16384x1024_d1) w))

/-- The last eight rows before the convolution. -/
def refConv (xp : FVec Ideal S16387x512 .f32) : FVec Ideal S1x8x512 .f32 :=
  (broadcastInDim S1x8x512 ![1, 2] bcast_S8x512_S1x8x512_1_2 (extractStridedSlice S8x512 ![16379, 0] xp slices_S16387x512_S8x512_16379_0))

/-- The last row of the linear recurrence. -/
def refLru (h : FVec Ideal S512 .f32) : FVec Ideal S1x512 .f32 :=
  (broadcastInDim S1x512 ![1] bcast_S512_S1x512_1 h)

/-- The last state of the state space. -/
def refSsm (sr : FVec Ideal S32x64 .f32) (si : FVec Ideal S32x64 .f32) : FVec Ideal S1x4x8x128 .f32 :=
  (shapeCast S1x4x8x128 (concatenate S2x32x64 0 [⟨S1x32x64, (broadcastInDim S1x32x64 ![1, 2] bcast_S32x64_S1x32x64_1_2 sr)⟩, ⟨S1x32x64, (broadcastInDim S1x32x64 ![1, 2] bcast_S32x64_S1x32x64_1_2 si)⟩] concatenates_S1x32x64_S1x32x64_S2x32x64_d0) shapeCasts_S2x32x64_S1x4x8x128)

end Cert.ReferenceIdeal.Stage

end
-- ==== Proof.MixEntry.lean ====
/- Which stage of the reference every buffer holds at the loop's entry and at the end. -/
module

public import proofs.«01_k».proof.Proof.MixDefs

@[expose] public section

set_option maxRecDepth 16384
set_option maxHeartbeats 4000000

noncomputable section

namespace Cert.ReferenceIdeal.Stage

open Idealize.ShloMosaic Idealize.ShloMosaic.TcCoe Idealize.ShloMosaic.StableHlo Cert.ReferenceIdeal Cert.ReferenceIdeal.Gen Cert.ReferenceIdeal.Value

variable (m : (ℓ : Loc nD τ sig) → Buf (Elt Ideal) ℓ) (c : Dev nD)

/-- What a buffer holds when the loop is entered. -/
abbrev ent (r : Ref sig .tc) := entryContents preI m c (Proc.devRef .tc r)

/-- The projection, of the arguments. -/
abbrev Z : FVec Ideal S16384x1536 .f32 := refZ (m ((c : Thread nD τ).loc main_arg0)) (m ((c : Thread nD τ).loc main_arg5)) (m ((c : Thread nD τ).loc main_arg6))
/-- The rows kept and the rows of the sequence, of the arguments. -/
abbrev XP : FVec Ideal S16387x512 .f32 := refXp (m ((c : Thread nD τ).loc main_arg1)) (refXl (Z m c))
/-- The convolution, of the arguments. -/
abbrev XC : FVec Ideal S16384x512 .f32 := refXc (XP m c) (m ((c : Thread nD τ).loc main_arg7)) (m ((c : Thread nD τ).loc main_arg8))
/-- The logarithm of the decay, of the arguments. -/
abbrev LA : FVec Ideal S16384x512 .f32 := refLa (refGate (XC m c) (m ((c : Thread nD τ).loc main_arg9)) (m ((c : Thread nD τ).loc main_arg10))) (refSp (m ((c : Thread nD τ).loc main_arg13)))
/-- What enters the linear recurrence, of the arguments. -/
abbrev B : FVec Ideal S16384x512 .f32 := refB (LA m c) (refGate (XC m c) (m ((c : Thread nD τ).loc main_arg11)) (m ((c : Thread nD τ).loc main_arg12))) (XC m c)

/-- The gate's columns at the entry. -/
theorem ent_gl : ent m c main_v15 = refGl (Z m c) := by
  simp only [ent, entryContents, afterL_cons, afterL_nil]; after_reads_simp; rfl

/-- The state space's columns at the entry. -/
theorem ent_us : ent m c main_v16 = refUs (Z m c) := by
  simp only [ent, entryContents, afterL_cons, afterL_nil]; after_reads_simp; rfl

/-- The convolution's rows at the entry. -/
theorem ent_xp : ent m c main_v18 = XP m c := by
  simp only [ent, entryContents, afterL_cons, afterL_nil]; after_reads_simp; rfl

/-- The convolution at the entry. -/
theorem ent_xc : ent m c main_v48 = XC m c := by
  simp only [ent, entryContents, afterL_cons, afterL_nil]; after_reads_simp; rfl

/-- The decay at the entry. -/
theorem ent_0 : ent m c main_v100_0 = refA (LA m c) := by
  simp only [ent, entryContents, afterL_cons, afterL_nil]; after_reads_simp; rfl

/-- What enters the linear recurrence, at the entry. -/
theorem ent_1 : ent m c main_v100_1 = B m c := by
  simp only [ent, entryContents, afterL_cons, afterL_nil]; after_reads_simp; rfl

/-- What enters the real part, at the entry. -/
theorem ent_2 : ent m c main_v100_2 = refBu (refUs (Z m c)) (m ((c : Thread nD τ).loc main_arg16)) := by
  simp only [ent, entryContents, afterL_cons, afterL_nil]; after_reads_simp; rfl

/-- What enters the imaginary part, at the entry. -/
theorem ent_3 : ent m c main_v100_3 = refBu (refUs (Z m c)) (m ((c : Thread nD τ).loc main_arg17)) := by
  simp only [ent, entryContents, afterL_cons, afterL_nil]; after_reads_simp; rfl

/-- The real factor at the entry. -/
theorem ent_4 : ent m c main_v100_4 = (m ((c : Thread nD τ).loc main_arg14)) := by
  simp only [ent, entryContents, afterL_cons, afterL_nil]; after_reads_simp; rfl

/-- The imaginary factor at the entry. -/
theorem ent_5 : ent m c main_v100_5 = (m ((c : Thread nD τ).loc main_arg15)) := by
  simp only [ent, entryContents, afterL_cons, afterL_nil]; after_reads_simp; rfl

/-- The counter at the entry. -/
theorem ent_6 : ent m c main_v100_6 = constantI S_ 32 0#32 := by
  simp only [ent, entryContents, afterL_cons, afterL_nil]; after_reads_simp; rfl

/-- The row the linear recurrence starts from. -/
theorem ent_7 : ent m c main_v100_7 = shapeCast S512 (m ((c : Thread nD τ).loc main_arg2)) shapeCasts_S1x512_S512 := by
  simp only [ent, entryContents, afterL_cons, afterL_nil]; after_reads_simp; rfl

/-- The real part the state space starts from. -/
theorem ent_8 : ent m c main_v100_8 = shapeCast S32x64 (m ((c : Thread nD τ).loc main_arg3)) shapeCasts_S1x32x64_S32x64 := by
  simp only [ent, entryContents, afterL_cons, afterL_nil]; after_reads_simp; rfl

/-- The imaginary part the state space starts from. -/
theorem ent_9 : ent m c main_v100_9 = shapeCast S32x64 (m ((c : Thread nD τ).loc main_arg4)) shapeCasts_S1x32x64_S32x64 := by
  simp only [ent, entryContents, afterL_cons, afterL_nil]; after_reads_simp; rfl

/-- The kept rows after the last operations. -/
theorem post_conv (V : Valuation τ sig (Elt Ideal)) : after hostOps0_3 V (Proc.devRef .tc main_v180) =
    refConv (V (Proc.devRef .tc main_v18)) := by
  after_reads_simp; rfl

/-- The kept state of the linear recurrence after the last operations. -/
theorem post_lru (V : Valuation τ sig (Elt Ideal)) : after hostOps0_3 V (Proc.devRef .tc main_v181) =
    refLru (V (Proc.devRef .tc main_v100_7)) := by
  after_reads_simp; rfl

/-- The kept state of the state space after the last operations. -/
theorem post_ssm (V : Valuation τ sig (Elt Ideal)) : after hostOps0_3 V (Proc.devRef .tc main_v185) =
    refSsm (V (Proc.devRef .tc main_v100_8)) (V (Proc.devRef .tc main_v100_9)) := by
  after_reads_simp; rfl

/-- The rows after the last operations. -/
theorem post_y (V : Valuation τ sig (Elt Ideal)) : after hostOps0_3 V (Proc.devRef .tc main_v178) =
    refY (V (Proc.devRef .tc main_arg0)) (refN (refYlru (V (Proc.devRef .tc main_v100_10)) (V (Proc.devRef .tc main_v15))) (V (Proc.devRef .tc main_arg23))) (refN (refYssm (refYs (V (Proc.devRef .tc main_v100_11)) (V (Proc.devRef .tc main_v100_12)) (V (Proc.devRef .tc main_arg18)) (V (Proc.devRef .tc main_arg19)) (V (Proc.devRef .tc main_arg20)) (V (Proc.devRef .tc main_v16))) (V (Proc.devRef .tc main_arg21)) (V (Proc.devRef .tc main_arg22))) (V (Proc.devRef .tc main_arg24))) (V (Proc.devRef .tc main_arg25)) := by
  after_reads_simp; rfl

end Cert.ReferenceIdeal.Stage

end
-- ==== Proof.MixScan.lean ====
/- The two recurrences of the mixer's reference, as recursions over the time steps: what its loop carries after every number of trips. -/
module

public import proofs.«01_k».proof.Proof.MixEntry
public import proofs.«01_k».proof.Proof.FfnRow
public import Idealize.ShloMosaic.Lib.DynamicIndex
public import Idealize.ShloMosaic.Lib.Pipeline.Value

@[expose] public section

set_option maxRecDepth 16384
set_option maxHeartbeats 1000000

noncomputable section

namespace Cert.ReferenceIdeal.Stage

open Idealize.ShloMosaic Idealize.ShloMosaic.TcCoe Idealize.ShloMosaic.StableHlo Cert.ReferenceIdeal Cert.ReferenceIdeal.Gen Cert.ReferenceIdeal.Value

/-- The time step with a number. -/
def tm (n : ℕ) : Fin 16384 := ⟨n % 16384, Nat.mod_lt _ (by decide)⟩

/-- A step's number below 16384 is itself. -/
theorem tm_eq {n : ℕ} (h : n < 16384) : tm n = ⟨n, h⟩ := Fin.ext (Nat.mod_eq_of_lt h)

/-- The linear recurrence before a time step. -/
def Hs (a b : FVec Ideal S16384x512 .f32) (h0 : FVec Ideal S512 .f32) : ℕ → Fin 512 → EReal
  | 0 => fun j => h0 (ix1 j)
  | n + 1 => fun j => a (ix2 (tm n) j) * Hs a b h0 n j + b (ix2 (tm n) j)

/-- The two parts of the state space before a time step. -/
def Ss (lr li s0 s1 : FVec Ideal S32x64 .f32) (ur ui : FVec Ideal S16384x32x64 .f32) : ℕ → Fin 32 → Fin 64 → EReal × EReal
  | 0 => fun g p => (s0 (ix2 g p), s1 (ix2 g p))
  | n + 1 => fun g p => (lr (ix2 g p) * (Ss lr li s0 s1 ur ui n g p).1 - li (ix2 g p) * (Ss lr li s0 s1 ur ui n g p).2 + ur (ix3 (tm n) g p),
      lr (ix2 g p) * (Ss lr li s0 s1 ur ui n g p).2 + li (ix2 g p) * (Ss lr li s0 s1 ur ui n g p).1 + ui (ix3 (tm n) g p))

/-- A step's number as a signed integer. -/
theorem toInt_num {k : ℕ} (hk : k < 16384) : (BitVec.ofNat 32 k).toInt = (k : Int) := by
  have h : (BitVec.ofNat 32 k).toNat = k := by rw [BitVec.toNat_ofNat]; exact Nat.mod_eq_of_lt (by omega)
  rw [BitVec.toInt_eq_toNat_of_lt (by omega), h]

/-- A row taken out of an array at a number. -/
theorem row_slice (x : FVec Ideal S16384x512 .f32) (k : ℕ) (hk : k < 16384) (j : Fin 512) :
    shapeCast S512 (Host.dynamicSlice S1x512 x (fun q => (((![constantI S_ 32 (BitVec.ofNat 32 k), constantI S_ 32 0#32] : Fin 2 → (⟨S_, .i32⟩ : BufTy).Contents (Elt Ideal))) q (Shape.Idx.first h_S_)).toInt) sliceFits_S16384x512_S1x512) shapeCasts_S1x512_S512 (ix1 j)
    = x (ix2 (tm k) j) := by
  have hoff : S16384x512.Slices ![k, 0] S1x512 := ⟨rfl, fun a => by fin_cases a <;> simp <;> omega⟩
  rw [Host.dynamicSlice_eq_extractStridedSlice S1x512 x _ ![k, 0] _ hoff, tm_eq hk]
  · pointwise []
  · intro a; fin_cases a
    · exact toInt_num hk
    · rfl

/-- A block taken out of an array at a number. -/
theorem blk_slice (x : FVec Ideal S16384x32x64 .f32) (k : ℕ) (hk : k < 16384) (g : Fin 32) (p : Fin 64) :
    shapeCast S32x64 (Host.dynamicSlice S1x32x64 x (fun q => (((![constantI S_ 32 (BitVec.ofNat 32 k), constantI S_ 32 0#32, constantI S_ 32 0#32] : Fin 3 → (⟨S_, .i32⟩ : BufTy).Contents (Elt Ideal))) q (Shape.Idx.first h_S_)).toInt) sliceFits_S16384x32x64_S1x32x64) shapeCasts_S1x32x64_S32x64 (ix2 g p)
    = x (ix3 (tm k) g p) := by
  have hoff : S16384x32x64.Slices ![k, 0, 0] S1x32x64 := ⟨rfl, fun a => by fin_cases a <;> simp <;> omega⟩
  rw [Host.dynamicSlice_eq_extractStridedSlice S1x32x64 x _ ![k, 0, 0] _ hoff, tm_eq hk]
  · pointwise []
  · intro a; fin_cases a
    · exact toInt_num hk
    · rfl
    · rfl

/-- A row put into an array at a number. -/
theorem row_update (x : FVec Ideal S16384x512 .f32) (u : FVec Ideal S512 .f32) (k : ℕ) (hk : k < 16384) (n : Fin 16384) (j : Fin 512) :
    Host.dynamicUpdateSlice x (broadcastInDim S1x512 ![1] bcast_S512_S1x512_1 u) (fun q => (((![constantI S_ 32 (BitVec.ofNat 32 k), constantI S_ 32 0#32] : Fin 2 → (⟨S_, .i32⟩ : BufTy).Contents (Elt Ideal))) q (Shape.Idx.first h_S_)).toInt) updateFits_S16384x512_S1x512 (ix2 n j)
    = if n.val = k then u (ix1 j) else x (ix2 n j) := by
  have hoff : S16384x512.Slices ![k, 0] S1x512 := ⟨rfl, fun a => by fin_cases a <;> simp <;> omega⟩
  rw [Host.dynamicUpdateSlice_eq_updateSlice _ _ _ _ ![k, 0] _ hoff]
  · by_cases h : n.val = k
    · subst h; pointwise []
      exact dif_pos ⟨le_rfl, Nat.lt_succ_self _⟩
    · rw [if_neg h]; pointwise []
      split <;> first | rfl | (exfalso; omega)
  · intro a; fin_cases a
    · show (min (max (BitVec.ofNat 32 k).toInt 0) ((16384 - 1 : ℕ) : Int)).toNat = k
      rw [toInt_num hk]; omega
    · rfl

/-- A block put into an array at a number. -/
theorem blk_update (x : FVec Ideal S16384x32x64 .f32) (u : FVec Ideal S32x64 .f32) (k : ℕ) (hk : k < 16384) (n : Fin 16384) (g : Fin 32) (p : Fin 64) :
    Host.dynamicUpdateSlice x (broadcastInDim S1x32x64 ![1, 2] bcast_S32x64_S1x32x64_1_2 u) (fun q => (((![constantI S_ 32 (BitVec.ofNat 32 k), constantI S_ 32 0#32, constantI S_ 32 0#32] : Fin 3 → (⟨S_, .i32⟩ : BufTy).Contents (Elt Ideal))) q (Shape.Idx.first h_S_)).toInt) updateFits_S16384x32x64_S1x32x64 (ix3 n g p)
    = if n.val = k then u (ix2 g p) else x (ix3 n g p) := by
  have hoff : S16384x32x64.Slices ![k, 0, 0] S1x32x64 := ⟨rfl, fun a => by fin_cases a <;> simp <;> omega⟩
  rw [Host.dynamicUpdateSlice_eq_updateSlice _ _ _ _ ![k, 0, 0] _ hoff]
  · by_cases h : n.val = k
    · subst h; pointwise []
      exact dif_pos ⟨le_rfl, Nat.lt_succ_self _⟩
    · rw [if_neg h]; pointwise []
      split <;> first | rfl | (exfalso; omega)
  · intro a; fin_cases a
    · show (min (max (BitVec.ofNat 32 k).toInt 0) ((16384 - 1 : ℕ) : Int)).toNat = k
      rw [toInt_num hk]; omega
    · rfl
    · rfl

variable (m : (ℓ : Loc nD τ sig) → Buf (Elt Ideal) ℓ) (c : Dev nD)

/-- The linear recurrence of the arguments, before a time step. -/
abbrev HN : ℕ → Fin 512 → EReal := Hs (refA (LA m c)) (B m c) (shapeCast S512 (m ((c : Thread nD τ).loc main_arg2)) shapeCasts_S1x512_S512)

/-- The state space of the arguments, before a time step. -/
abbrev SN : ℕ → Fin 32 → Fin 64 → EReal × EReal :=
  Ss (m ((c : Thread nD τ).loc main_arg14)) (m ((c : Thread nD τ).loc main_arg15))
    (shapeCast S32x64 (m ((c : Thread nD τ).loc main_arg3)) shapeCasts_S1x32x64_S32x64)
    (shapeCast S32x64 (m ((c : Thread nD τ).loc main_arg4)) shapeCasts_S1x32x64_S32x64)
    (refBu (refUs (Z m c)) (m ((c : Thread nD τ).loc main_arg16))) (refBu (refUs (Z m c)) (m ((c : Thread nD τ).loc main_arg17)))

/-- What the loop carries after a number of trips. -/
abbrev VK (k : ℕ) (r : Ref sig .tc) := STEP^[k] (entryContents preI m c) (Proc.devRef .tc r)

/-- The loop's variable 0 is never changed. -/
theorem inv_0 : ∀ k, VK m c k main_v100_0 = entryContents preI m c (Proc.devRef .tc main_v100_0)
  | 0 => rfl
  | k + 1 => by rw [VK, Function.iterate_succ_apply', STEP_main_v100_0]; exact inv_0 k

/-- The loop's variable 1 is never changed. -/
theorem inv_1 : ∀ k, VK m c k main_v100_1 = entryContents preI m c (Proc.devRef .tc main_v100_1)
  | 0 => rfl
  | k + 1 => by rw [VK, Function.iterate_succ_apply', STEP_main_v100_1]; exact inv_1 k

/-- The loop's variable 2 is never changed. -/
theorem inv_2 : ∀ k, VK m c k main_v100_2 = entryContents preI m c (Proc.devRef .tc main_v100_2)
  | 0 => rfl
  | k + 1 => by rw [VK, Function.iterate_succ_apply', STEP_main_v100_2]; exact inv_2 k

/-- The loop's variable 3 is never changed. -/
theorem inv_3 : ∀ k, VK m c k main_v100_3 = entryContents preI m c (Proc.devRef .tc main_v100_3)
  | 0 => rfl
  | k + 1 => by rw [VK, Function.iterate_succ_apply', STEP_main_v100_3]; exact inv_3 k

/-- The loop's variable 4 is never changed. -/
theorem inv_4 : ∀ k, VK m c k main_v100_4 = entryContents preI m c (Proc.devRef .tc main_v100_4)
  | 0 => rfl
  | k + 1 => by rw [VK, Function.iterate_succ_apply', STEP_main_v100_4]; exact inv_4 k

/-- The loop's variable 5 is never changed. -/
theorem inv_5 : ∀ k, VK m c k main_v100_5 = entryContents preI m c (Proc.devRef .tc main_v100_5)
  | 0 => rfl
  | k + 1 => by rw [VK, Function.iterate_succ_apply', STEP_main_v100_5]; exact inv_5 k

/-- The counter counts the trips. -/
theorem inv_6 : ∀ k, VK m c k main_v100_6 = constantI S_ 32 (BitVec.ofNat 32 k)
  | 0 => ent_6 m c
  | k + 1 => by
    rw [VK, Function.iterate_succ_apply', STEP_main_v100_6]
    unfold step_main_v100_6
    show id (addi (VK m c k main_v100_6) (constantI S_ 32 1#32)) = _
    rw [inv_6 k]
    funext i
    show BitVec.ofNat 32 k + 1#32 = BitVec.ofNat 32 (k + 1)
    rw [BitVec.ofNat_add]

/-- The carried row is the linear recurrence. -/
theorem inv_7 (k : ℕ) (hk : k ≤ 16384) (j : Fin 512) :
    (show FVec Ideal S512 .f32 from VK m c k main_v100_7) (ix1 j) = HN m c k j := by
  induction k generalizing j with
  | zero => show (show FVec Ideal S512 .f32 from ent m c main_v100_7) (ix1 j) = _; rw [ent_7]; rfl
  | succ k ih =>
    have hk' : k < 16384 := by omega
    have e : (show FVec Ideal S512 .f32 from VK m c (k + 1) main_v100_7) = res_main_while0b_v191 (STEP^[k] (entryContents preI m c)) := by
      show VK m c (k + 1) main_v100_7 = _
      rw [VK, Function.iterate_succ_apply', STEP_main_v100_7]; rfl
    rw [e]; unfold res_main_while0b_v191
    rw [show STEP^[k] (entryContents preI m c) (Proc.devRef .tc main_v100_6) = _ from inv_6 m c k,
      show STEP^[k] (entryContents preI m c) (Proc.devRef .tc main_v100_0) = _ from (inv_0 m c k).trans (ent_0 m c),
      show STEP^[k] (entryContents preI m c) (Proc.devRef .tc main_v100_1) = _ from (inv_1 m c k).trans (ent_1 m c)]
    exact congrArg₂ (fun a b : EReal => a + b) (congrArg₂ (fun a b : EReal => a * b) (row_slice _ k hk' j) (ih (by omega) j)) (row_slice _ k hk' j)

/-- The carried blocks are the state space. -/
theorem inv_89 (k : ℕ) (hk : k ≤ 16384) (g : Fin 32) (p : Fin 64) :
    (show FVec Ideal S32x64 .f32 from VK m c k main_v100_8) (ix2 g p) = (SN m c k g p).1
    ∧ (show FVec Ideal S32x64 .f32 from VK m c k main_v100_9) (ix2 g p) = (SN m c k g p).2 := by
  induction k generalizing g p with
  | zero =>
    constructor
    · show (show FVec Ideal S32x64 .f32 from ent m c main_v100_8) (ix2 g p) = _; rw [ent_8]; rfl
    · show (show FVec Ideal S32x64 .f32 from ent m c main_v100_9) (ix2 g p) = _; rw [ent_9]; rfl
  | succ k ih =>
    have hk' : k < 16384 := by omega
    have h6 : STEP^[k] (entryContents preI m c) (Proc.devRef .tc main_v100_6) = _ := inv_6 m c k
    have h4 : STEP^[k] (entryContents preI m c) (Proc.devRef .tc main_v100_4) = _ := (inv_4 m c k).trans (ent_4 m c)
    have h5 : STEP^[k] (entryContents preI m c) (Proc.devRef .tc main_v100_5) = _ := (inv_5 m c k).trans (ent_5 m c)
    constructor
    · have e : (show FVec Ideal S32x64 .f32 from VK m c (k + 1) main_v100_8) = res_main_while0b_v195 (STEP^[k] (entryContents preI m c)) := by
        show VK m c (k + 1) main_v100_8 = _
        rw [VK, Function.iterate_succ_apply', STEP_main_v100_8]; rfl
      rw [e]; unfold res_main_while0b_v195
      rw [h6, h4, h5, show STEP^[k] (entryContents preI m c) (Proc.devRef .tc main_v100_2) = _ from (inv_2 m c k).trans (ent_2 m c)]
      exact congrArg₂ (fun a b : EReal => a + b) (congrArg₂ (fun a b : EReal => a - b)
        (congrArg (fun a : EReal => (show FVec Ideal S32x64 .f32 from m ((c : Thread nD τ).loc main_arg14)) (ix2 g p) * a) (ih (by omega) g p).1)
        (congrArg (fun a : EReal => (show FVec Ideal S32x64 .f32 from m ((c : Thread nD τ).loc main_arg15)) (ix2 g p) * a) (ih (by omega) g p).2)) (blk_slice _ k hk' g p)
    · have e : (show FVec Ideal S32x64 .f32 from VK m c (k + 1) main_v100_9) = res_main_while0b_v199 (STEP^[k] (entryContents preI m c)) := by
        show VK m c (k + 1) main_v100_9 = _
        rw [VK, Function.iterate_succ_apply', STEP_main_v100_9]; rfl
      rw [e]; unfold res_main_while0b_v199
      rw [h6, h4, h5, show STEP^[k] (entryContents preI m c) (Proc.devRef .tc main_v100_3) = _ from (inv_3 m c k).trans (ent_3 m c)]
      exact congrArg₂ (fun a b : EReal => a + b) (congrArg₂ (fun a b : EReal => a + b)
        (congrArg (fun a : EReal => (show FVec Ideal S32x64 .f32 from m ((c : Thread nD τ).loc main_arg14)) (ix2 g p) * a) (ih (by omega) g p).2)
        (congrArg (fun a : EReal => (show FVec Ideal S32x64 .f32 from m ((c : Thread nD τ).loc main_arg15)) (ix2 g p) * a) (ih (by omega) g p).1)) (blk_slice _ k hk' g p)

/-- The rows kept by the loop are the linear recurrence after their steps. -/
theorem inv_10 (k : ℕ) (hk : k ≤ 16384) (n : Fin 16384) (hn : n.val < k) (j : Fin 512) :
    (show FVec Ideal S16384x512 .f32 from VK m c k main_v100_10) (ix2 n j) = HN m c (n.val + 1) j := by
  induction k with
  | zero => omega
  | succ k ih =>
    have e : (show FVec Ideal S16384x512 .f32 from VK m c (k + 1) main_v100_10) = step_main_v100_10 (STEP^[k] (entryContents preI m c)) := by
      show VK m c (k + 1) main_v100_10 = _
      rw [VK, Function.iterate_succ_apply', STEP_main_v100_10]
    rw [e]; unfold step_main_v100_10
    rw [show STEP^[k] (entryContents preI m c) (Proc.devRef .tc main_v100_6) = _ from inv_6 m c k]
    refine (row_update _ _ k (by omega) n j).trans ?_
    by_cases h : n.val = k
    · rw [if_pos h, h, ← inv_7 m c (k + 1) hk j]
      show _ = (show FVec Ideal S512 .f32 from VK m c (k + 1) main_v100_7) (ix1 j)
      rw [VK, Function.iterate_succ_apply', STEP_main_v100_7]; rfl
    · rw [if_neg h]; exact ih (by omega) (by omega)

/-- The blocks kept by the loop are the real part after their steps. -/
theorem inv_11 (k : ℕ) (hk : k ≤ 16384) (n : Fin 16384) (hn : n.val < k) (g : Fin 32) (p : Fin 64) :
    (show FVec Ideal S16384x32x64 .f32 from VK m c k main_v100_11) (ix3 n g p) = (SN m c (n.val + 1) g p).1 := by
  induction k with
  | zero => omega
  | succ k ih =>
    have e : (show FVec Ideal S16384x32x64 .f32 from VK m c (k + 1) main_v100_11) = step_main_v100_11 (STEP^[k] (entryContents preI m c)) := by
      show VK m c (k + 1) main_v100_11 = _
      rw [VK, Function.iterate_succ_apply', STEP_main_v100_11]
    rw [e]; unfold step_main_v100_11
    rw [show STEP^[k] (entryContents preI m c) (Proc.devRef .tc main_v100_6) = _ from inv_6 m c k]
    refine (blk_update _ _ k (by omega) n g p).trans ?_
    by_cases h : n.val = k
    · rw [if_pos h, h, ← (inv_89 m c (k + 1) hk g p).1]
      show _ = (show FVec Ideal S32x64 .f32 from VK m c (k + 1) main_v100_8) (ix2 g p)
      rw [VK, Function.iterate_succ_apply', STEP_main_v100_8]; rfl
    · rw [if_neg h]; exact ih (by omega) (by omega)

/-- The blocks kept by the loop are the imaginary part after their steps. -/
theorem inv_12 (k : ℕ) (hk : k ≤ 16384) (n : Fin 16384) (hn : n.val < k) (g : Fin 32) (p : Fin 64) :
    (show FVec Ideal S16384x32x64 .f32 from VK m c k main_v100_12) (ix3 n g p) = (SN m c (n.val + 1) g p).2 := by
  induction k with
  | zero => omega
  | succ k ih =>
    have e : (show FVec Ideal S16384x32x64 .f32 from VK m c (k + 1) main_v100_12) = step_main_v100_12 (STEP^[k] (entryContents preI m c)) := by
      show VK m c (k + 1) main_v100_12 = _
      rw [VK, Function.iterate_succ_apply', STEP_main_v100_12]
    rw [e]; unfold step_main_v100_12
    rw [show STEP^[k] (entryContents preI m c) (Proc.devRef .tc main_v100_6) = _ from inv_6 m c k]
    refine (blk_update _ _ k (by omega) n g p).trans ?_
    by_cases h : n.val = k
    · rw [if_pos h, h, ← (inv_89 m c (k + 1) hk g p).2]
      show _ = (show FVec Ideal S32x64 .f32 from VK m c (k + 1) main_v100_9) (ix2 g p)
      rw [VK, Function.iterate_succ_apply', STEP_main_v100_9]; rfl
    · rw [if_neg h]; exact ih (by omega) (by omega)

/-- The linear recurrence after the last step. -/
def HL : FVec Ideal S512 .f32 := fun i => HN m c 16384 (i 0)
/-- The linear recurrence after every step. -/
def HA : FVec Ideal S16384x512 .f32 := fun i => HN m c ((i 0).val + 1) (i 1)
/-- The real part after the last step. -/
def RL : FVec Ideal S32x64 .f32 := fun i => (SN m c 16384 (i 0) (i 1)).1
/-- The imaginary part after the last step. -/
def IL : FVec Ideal S32x64 .f32 := fun i => (SN m c 16384 (i 0) (i 1)).2
/-- The real part after every step. -/
def RA : FVec Ideal S16384x32x64 .f32 := fun i => (SN m c ((i 0).val + 1) (i 1) (i 2)).1
/-- The imaginary part after every step. -/
def IA : FVec Ideal S16384x32x64 .f32 := fun i => (SN m c ((i 0).val + 1) (i 1) (i 2)).2

/-- What the device holds when the loop has ended. -/
abbrev VE : Valuation τ sig (Elt Ideal) := after condOps (atK m 16384 c)

/-- A carried buffer at the loop's end. -/
theorem end_carried (r : Ref sig .tc) (h : r ∈ carriedRefs) : VE m c (Proc.devRef .tc r) = VK m c 16384 r :=
  (cond_keeps _ r h).trans (atK_agree m c 16384 r h)

/-- A buffer no trip writes, at the loop's end. -/
theorem end_keep (r : Ref sig .tc) (h : r ∉ Fold.tripW) : VE m c (Proc.devRef .tc r) = ent m c r :=
  (Fold.cond_keep _ r h).trans (Fold.trips_keep m c r h 16384)

/-- After the loop: the last RG-LRU state. -/
theorem end_7 : VE m c (Proc.devRef .tc main_v100_7) = HL m c := by
  rw [end_carried m c main_v100_7 (by simp)]; funext y; idx_vars y; exact inv_7 m c 16384 le_rfl y0
/-- After the loop: the last S5 state's real part. -/
theorem end_8 : VE m c (Proc.devRef .tc main_v100_8) = RL m c := by
  rw [end_carried m c main_v100_8 (by simp)]; funext y; idx_vars y; exact (inv_89 m c 16384 le_rfl y0 y1).1
/-- After the loop: the last S5 state's imaginary part. -/
theorem end_9 : VE m c (Proc.devRef .tc main_v100_9) = IL m c := by
  rw [end_carried m c main_v100_9 (by simp)]; funext y; idx_vars y; exact (inv_89 m c 16384 le_rfl y0 y1).2
/-- After the loop: the array of the RG-LRU states. -/
theorem end_10 : VE m c (Proc.devRef .tc main_v100_10) = HA m c := by
  rw [end_carried m c main_v100_10 (by simp)]; funext y; idx_vars y; exact inv_10 m c 16384 le_rfl y0 y0.isLt y1
/-- After the loop: the array of the S5 states' real parts. -/
theorem end_11 : VE m c (Proc.devRef .tc main_v100_11) = RA m c := by
  rw [end_carried m c main_v100_11 (by simp)]; funext y; idx_vars y; exact inv_11 m c 16384 le_rfl y0 y0.isLt y1 y2
/-- After the loop: the array of the S5 states' imaginary parts. -/
theorem end_12 : VE m c (Proc.devRef .tc main_v100_12) = IA m c := by
  rw [end_carried m c main_v100_12 (by simp)]; funext y; idx_vars y; exact inv_12 m c 16384 le_rfl y0 y0.isLt y1 y2

/-- What the reference leaves in a buffer. -/
abbrev FIN (r : Ref sig .tc) := finalContents condOps preI bodyI postI 16384 m c (Proc.devRef .tc r)

/-- The reference's kept rows before the convolution. -/
theorem fin_conv : FIN m c main_v180 = refConv (XP m c) := by
  show after hostOps0_3 (VE m c) (Proc.devRef .tc main_v180) = _
  rw [post_conv, end_keep m c main_v18 (by decide +kernel), ent_xp]

/-- The reference's last row of the linear recurrence. -/
theorem fin_lru : FIN m c main_v181 = refLru (HL m c) := by
  show after hostOps0_3 (VE m c) (Proc.devRef .tc main_v181) = _
  rw [post_lru, end_7]

/-- The reference's last state of the state space. -/
theorem fin_ssm : FIN m c main_v185 = refSsm (RL m c) (IL m c) := by
  show after hostOps0_3 (VE m c) (Proc.devRef .tc main_v185) = _
  rw [post_ssm, end_8, end_9]

/-- An argument at the loop's end. -/
theorem end_arg (r : Ref sig .tc) (h : r ∉ Fold.tripW) (h' : r ∉ Fold.preW) : VE m c (Proc.devRef .tc r) = m ((c : Thread nD τ).loc r) :=
  (end_keep m c r h).trans (Fold.entry_keep m c r h')

/-- The reference's rows. -/
theorem fin_y : FIN m c main_v178 = refY (m ((c : Thread nD τ).loc main_arg0))
    (refN (refYlru (HA m c) (refGl (Z m c))) (m ((c : Thread nD τ).loc main_arg23)))
    (refN (refYssm (refYs (RA m c) (IA m c) (m ((c : Thread nD τ).loc main_arg18)) (m ((c : Thread nD τ).loc main_arg19)) (m ((c : Thread nD τ).loc main_arg20)) (refUs (Z m c)))
      (m ((c : Thread nD τ).loc main_arg21)) (m ((c : Thread nD τ).loc main_arg22))) (m ((c : Thread nD τ).loc main_arg24)))
    (m ((c : Thread nD τ).loc main_arg25)) := by
  show after hostOps0_3 (VE m c) (Proc.devRef .tc main_v178) = _
  rw [post_y, end_10, end_11, end_12, end_keep m c main_v15 (by decide +kernel), ent_gl, end_keep m c main_v16 (by decide +kernel), ent_us,
    end_arg m c main_arg0 (by decide +kernel) (by decide +kernel), end_arg m c main_arg23 (by decide +kernel) (by decide +kernel),
    end_arg m c main_arg18 (by decide +kernel) (by decide +kernel), end_arg m c main_arg19 (by decide +kernel) (by decide +kernel),
    end_arg m c main_arg20 (by decide +kernel) (by decide +kernel), end_arg m c main_arg21 (by decide +kernel) (by decide +kernel),
    end_arg m c main_arg22 (by decide +kernel) (by decide +kernel), end_arg m c main_arg24 (by decide +kernel) (by decide +kernel),
    end_arg m c main_arg25 (by decide +kernel) (by decide +kernel)]

end Cert.ReferenceIdeal.Stage

end
-- ==== Proof.MixRef.lean ====
/- The entries of the stages of the mixer's reference. -/
module

public import proofs.«01_k».proof.Proof.MixDefs
public import proofs.«01_k».proof.Proof.FfnRow

@[expose] public section

set_option maxRecDepth 16384

noncomputable section

namespace Cert.ReferenceIdeal.Stage

open Idealize.ShloMosaic Idealize.ShloMosaic.TcCoe Cert.ReferenceIdeal Cert.ReferenceIdeal.Gen

/-- The gelu of a number, by its tanh form. -/
def gelu1 (y : EReal) : EReal :=
  y * (Ideal.ofBits .f32 0x3F000000#32 * (1 + Ideal.tanh (Ideal.ofBits .f32 0x3F4C422A#32 * (y + Ideal.ofBits .f32 0x3D372713#32 * (y * y * y)))))

/-- The softplus of the negated number. -/
def sp1 (y : EReal) : EReal := max (-y) 0 + Ideal.log1p (Ideal.exp (-FloatOps.absf (F := Ideal) (φ := .f32) (-y)))

/-- The root-mean-square norm of a row of 512 numbers, times a gain. -/
def norm5 (row g : Fin 512 → EReal) (k : Fin 512) : EReal :=
  row k * Ideal.rsqrt (Ideal.div (∑ l : Fin 512, row l * row l) (Ideal.ofBits .f32 0x44000000#32)
    + Ideal.ofBits .f32 0x358637BD#32) * g k

variable (x h gl us ys : FVec Ideal S16384x512 .f32) (r : Fin 16384) (j : Fin 512)

/-- The reference's normed input projection, at a point. -/
theorem refZ_at (x : FVec Ideal S16384x1024 .f32) (g : FVec Ideal S1024 .f32) (w : FVec Ideal S1024x1536 .f32) (j : Fin 1536) :
    refZ x g w (ix2 r j) = ∑ k : Fin 1024, Cert.FfnRow.normAt (fun k => x (ix2 r k)) (fun k => g (ix1 k)) k * w (ix2 k j) := by
  unfold Cert.FfnRow.normAt
  pointwise [refZ]

/-- The reference's convolution's part of the projection, at a point. -/
theorem refXl_at (z : FVec Ideal S16384x1536 .f32) : refXl z (ix2 r j) = z (ix2 r ⟨j.val, by omega⟩) := by
  pointwise [refXl]

/-- The reference's gate's part of the projection, at a point. -/
theorem refGl_at (z : FVec Ideal S16384x1536 .f32) : refGl z (ix2 r j) = z (ix2 r ⟨512 + j.val, by omega⟩) := by
  pointwise [refGl]

/-- The reference's S5 part of the projection, at a point. -/
theorem refUs_at (z : FVec Ideal S16384x1536 .f32) : refUs z (ix2 r j) = z (ix2 r ⟨1024 + j.val, by omega⟩) := by
  pointwise [refUs]

/-- The reference's convolution's input, at a point. -/
theorem refXp_at (conv : FVec Ideal S1x3x512 .f32) (n : Fin 16387) :
    refXp conv x (ix2 n j) = if _h : n.val < 3 then conv (ix3 0 ⟨n.val, by omega⟩ j) else x (ix2 ⟨n.val - 3, by omega⟩ j) := by
  pointwise [refXp]

/-- The reference's convolution, at a point. -/
theorem refXc_at (xp : FVec Ideal S16387x512 .f32) (cw : FVec Ideal S4x512 .f32) (cb : FVec Ideal S512 .f32) :
    refXc xp cw cb (ix2 r j) = cb (ix1 j) + xp (ix2 ⟨r.val, by omega⟩ j) * cw (ix2 0 j) + xp (ix2 ⟨1 + r.val, by omega⟩ j) * cw (ix2 1 j)
      + xp (ix2 ⟨2 + r.val, by omega⟩ j) * cw (ix2 2 j) + xp (ix2 ⟨3 + r.val, by omega⟩ j) * cw (ix2 3 j) := by
  pointwise [refXc]

/-- The reference's gates, at a point. -/
theorem refGate_at (w : FVec Ideal S8x64x64 .f32) (b : FVec Ideal S512 .f32) :
    refGate x w b (ix2 r j) = Ideal.logistic (∑ k : Fin 64, w (ix3 ⟨j.val / 64, by omega⟩ k ⟨j.val % 64, by omega⟩) * x (ix2 r ⟨j.val / 64 * 64 + k.val, by omega⟩) + b (ix1 j)) := by
  pointwise [refGate]
  try rfl

/-- The reference's softplus, at a point. -/
theorem refSp_at (b : FVec Ideal S512 .f32) : refSp b (ix1 j) = sp1 (b (ix1 j)) := by
  unfold sp1
  pointwise [refSp]
  exact if_neg (fun h => h rfl)

/-- The reference's exponent, at a point. -/
theorem refLa_at (b : FVec Ideal S512 .f32) :
    refLa x b (ix2 r j) = Ideal.ofBits .f32 0xC1000000#32 * x (ix2 r j) * b (ix1 j) := by
  pointwise [refLa]

/-- The reference's factor, at a point. -/
theorem refA_at : refA x (ix2 r j) = Ideal.exp (x (ix2 r j)) := by
  pointwise [refA]

/-- The reference's term, at a point. -/
theorem refB_at : refB x h gl (ix2 r j) =
    Ideal.sqrt (-(Ideal.exp (Ideal.ofBits .f32 0x40000000#32 * x (ix2 r j)) - 1)) * (h (ix2 r j) * gl (ix2 r j)) := by
  pointwise [refB]

/-- The reference's S5 input product, at a point. -/
theorem refBu_at (bb : FVec Ideal S32x16x64 .f32) (g : Fin 32) (p : Fin 64) :
    refBu us bb (ix3 r g p) = ∑ k : Fin 16, bb (ix3 g k p) * us (ix2 r ⟨g.val * 16 + k.val, by omega⟩) := by
  pointwise [refBu]

/-- The reference's gated RG-LRU output, at a point. -/
theorem refYlru_at : refYlru h gl (ix2 r j) = h (ix2 r j) * gelu1 (gl (ix2 r j)) := by
  unfold gelu1
  pointwise [refYlru]

/-- The reference's S5 output, at a point. -/
theorem refYs_at (sr si : FVec Ideal S16384x32x64 .f32) (cr ci : FVec Ideal S32x16x64 .f32) (d : FVec Ideal S512 .f32) :
    refYs sr si cr ci d us (ix2 r j) = ∑ k : Fin 64, sr (ix3 r ⟨j.val / 16, by omega⟩ k) * cr (ix3 ⟨j.val / 16, by omega⟩ ⟨j.val % 16, by omega⟩ k)
      + ∑ k : Fin 64, si (ix3 r ⟨j.val / 16, by omega⟩ k) * -ci (ix3 ⟨j.val / 16, by omega⟩ ⟨j.val % 16, by omega⟩ k)
      + d (ix1 j) * us (ix2 r j) := by
  pointwise [refYs]

/-- The reference's gated S5 output, at a point. -/
theorem refYssm_at (w : FVec Ideal S512x512 .f32) (b : FVec Ideal S512 .f32) :
    refYssm ys w b (ix2 r j) = gelu1 (ys (ix2 r j)) * Ideal.logistic (∑ k : Fin 512, gelu1 (ys (ix2 r k)) * w (ix2 k j) + b (ix1 j)) := by
  unfold gelu1
  pointwise [refYssm]
  try rfl

/-- The reference's norm of one group, at a point. -/
theorem refN_at (g : FVec Ideal S512 .f32) :
    refN x g (ix2 r j) = norm5 (fun k => x (ix2 r k)) (fun k => g (ix1 k)) j := by
  unfold norm5
  pointwise [refN]

/-- The reference's output rows, at a point. -/
theorem refY_at (j : Fin 1024) (w : FVec Ideal S1024x1024 .f32) (x' : FVec Ideal S16384x1024 .f32) :
    refY x' h gl w (ix2 r j) = x' (ix2 r j) + (∑ k : Fin 512, h (ix2 r k) * w (ix2 ⟨k.val, by omega⟩ j) + ∑ k : Fin 512, gl (ix2 r k) * w (ix2 ⟨512 + k.val, by omega⟩ j)) := by
  pointwise [refY]

/-- The reference's last rows of the convolution's input, at a point. -/
theorem refConv_at (xp : FVec Ideal S16387x512 .f32) (a : Fin 8) : refConv xp (ix3 0 a j) = xp (ix2 ⟨16379 + a.val, by omega⟩ j) := by
  pointwise [refConv]

/-- The reference's last RG-LRU state, at a point. -/
theorem refLru_at (h : FVec Ideal S512 .f32) : refLru h (ix2 0 j) = h (ix1 j) := by
  pointwise [refLru]

/-- The reference's last S5 state, at a point. -/
theorem refSsm_at (sr si : FVec Ideal S32x64 .f32) (k : Fin 4) (s : Fin 8) (l : Fin 128) :
    refSsm sr si (ix4 0 k s l) = if _h : k.val / 2 < 1 then sr (ix2 ⟨k.val % 2 * 16 + s.val * 2 + l.val / 64, by omega⟩ ⟨l.val % 64, by omega⟩)
      else si (ix2 ⟨k.val % 2 * 16 + s.val * 2 + l.val / 64, by omega⟩ ⟨l.val % 64, by omega⟩) := by
  pointwise [refSsm]

end Cert.ReferenceIdeal.Stage

end
-- ==== Proof.MixArgs.lean ====
/- The stages of the reference as functions of the arguments alone. -/
module

public import proofs.«01_k».proof.Proof.MixScan
public import proofs.«01_k».proof.Proof.MixRef

@[expose] public section

noncomputable section

namespace Cert.ReferenceIdeal.Stage

open Idealize.ShloMosaic Idealize.ShloMosaic.TcCoe Cert.ReferenceIdeal Cert.ReferenceIdeal.Gen

/-- The arguments of the mixer. -/
structure Args where
  a0 : FVec Ideal S16384x1024 .f32
  a1 : FVec Ideal S1x3x512 .f32
  a2 : FVec Ideal S1x512 .f32
  a3 : FVec Ideal S1x32x64 .f32
  a4 : FVec Ideal S1x32x64 .f32
  a5 : FVec Ideal S1024 .f32
  a6 : FVec Ideal S1024x1536 .f32
  a7 : FVec Ideal S4x512 .f32
  a8 : FVec Ideal S512 .f32
  a9 : FVec Ideal S8x64x64 .f32
  a10 : FVec Ideal S512 .f32
  a11 : FVec Ideal S8x64x64 .f32
  a12 : FVec Ideal S512 .f32
  a13 : FVec Ideal S512 .f32
  a14 : FVec Ideal S32x64 .f32
  a15 : FVec Ideal S32x64 .f32
  a16 : FVec Ideal S32x16x64 .f32
  a17 : FVec Ideal S32x16x64 .f32
  a18 : FVec Ideal S32x16x64 .f32
  a19 : FVec Ideal S32x16x64 .f32
  a20 : FVec Ideal S512 .f32
  a21 : FVec Ideal S512x512 .f32
  a22 : FVec Ideal S512 .f32
  a23 : FVec Ideal S512 .f32
  a24 : FVec Ideal S512 .f32
  a25 : FVec Ideal S1024x1024 .f32

namespace Args

variable (A : Args)

/-- The projection. -/
def z : FVec Ideal S16384x1536 .f32 := refZ A.a0 A.a5 A.a6
/-- The rows kept and the rows of the sequence. -/
def xp : FVec Ideal S16387x512 .f32 := refXp A.a1 (refXl A.z)
/-- The convolution. -/
def xc : FVec Ideal S16384x512 .f32 := refXc A.xp A.a7 A.a8
/-- The logarithm of the decay. -/
def la : FVec Ideal S16384x512 .f32 := refLa (refGate A.xc A.a9 A.a10) (refSp A.a13)
/-- What enters the linear recurrence. -/
def b : FVec Ideal S16384x512 .f32 := refB A.la (refGate A.xc A.a11 A.a12) A.xc
/-- The linear recurrence before a time step. -/
def hn : ℕ → Fin 512 → EReal := Hs (refA A.la) A.b (shapeCast S512 A.a2 shapeCasts_S1x512_S512)
/-- The state space before a time step. -/
def sn : ℕ → Fin 32 → Fin 64 → EReal × EReal :=
  Ss A.a14 A.a15 (shapeCast S32x64 A.a3 shapeCasts_S1x32x64_S32x64) (shapeCast S32x64 A.a4 shapeCasts_S1x32x64_S32x64)
    (refBu (refUs A.z) A.a16) (refBu (refUs A.z) A.a17)
/-- The linear recurrence after the last step. -/
def hl : FVec Ideal S512 .f32 := fun i => A.hn 16384 (i 0)
/-- The linear recurrence after every step. -/
def ha : FVec Ideal S16384x512 .f32 := fun i => A.hn ((i 0).val + 1) (i 1)
/-- The two parts of the state after the last step. -/
def rl : FVec Ideal S32x64 .f32 := fun i => (A.sn 16384 (i 0) (i 1)).1
/-- The last S5 state's imaginary part. -/
def il : FVec Ideal S32x64 .f32 := fun i => (A.sn 16384 (i 0) (i 1)).2
/-- The two parts of the state after every step. -/
def ra : FVec Ideal S16384x32x64 .f32 := fun i => (A.sn ((i 0).val + 1) (i 1) (i 2)).1
/-- All S5 states' imaginary parts. -/
def ia : FVec Ideal S16384x32x64 .f32 := fun i => (A.sn ((i 0).val + 1) (i 1) (i 2)).2
/-- The kept rows the mixer returns. -/
def oConv : FVec Ideal S1x8x512 .f32 := refConv A.xp
/-- The row of the recurrence it returns. -/
def oLru : FVec Ideal S1x512 .f32 := refLru A.hl
/-- The state it returns. -/
def oSsm : FVec Ideal S1x4x8x128 .f32 := refSsm A.rl A.il
/-- The rows it returns. -/
def oY : FVec Ideal S16384x1024 .f32 := refY A.a0 (refN (refYlru A.ha (refGl A.z)) A.a23)
  (refN (refYssm (refYs A.ra A.ia A.a18 A.a19 A.a20 (refUs A.z)) A.a21 A.a22) A.a24) A.a25

end Args

variable (m : (ℓ : Loc nD τ sig) → Buf (Elt Ideal) ℓ) (c : Dev nD)

/-- The arguments a memory holds. -/
def argsOf : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25)⟩

/-- The reference ends with the last rows of the convolution's input of its arguments. -/
theorem fin_conv' : FIN m c main_v180 = (argsOf m c).oConv := fin_conv m c
/-- The reference ends with the last RG-LRU state of its arguments. -/
theorem fin_lru' : FIN m c main_v181 = (argsOf m c).oLru := fin_lru m c
/-- The reference ends with the last S5 state of its arguments. -/
theorem fin_ssm' : FIN m c main_v185 = (argsOf m c).oSsm := fin_ssm m c
/-- The reference ends with the rows of its arguments. -/
theorem fin_y' : FIN m c main_v178 = (argsOf m c).oY := fin_y m c

end Cert.ReferenceIdeal.Stage

end
-- ==== Proof.KVal1.lean ====
/- The projected rows of one grid step, the rows its convolution reads, and the convolved rows, at an index. -/
module

public import proofs.«01_k».proof.Proof.KOut

@[expose] public section

set_option maxRecDepth 16384

noncomputable section

namespace Cert.KernelIdeal.Final

open Idealize.ShloMosaic Idealize.ShloMosaic.TcCoe Cert.KernelIdeal Cert.KernelIdeal.Gen

/-- A row of the step, normed and projected. -/
def zR (X : Blk) (r : Fin 512) (j : Fin 1536) : EReal :=
  ∑ k : Fin 1024, Cert.FfnRow.normAt (fun k => X.b0 (ix2 r k)) (fun k => X.b4 (ix2 0 k)) k * X.b5 (ix2 k j)

/-- The convolution's part of the normed input projection, as one sum. -/
theorem pay10_gen (b0 : Vec Ideal S512x1024 .f32) (b4 : Vec Ideal S1x1024 .f32) (b5 : Vec Ideal S1024x1536 .bf16) (r : Fin 512) (j : Fin 512) :
    k0_pay10 b0 b4 b5 (ix2 r j) = ∑ k : Fin 1024, Cert.FfnRow.normAt (fun k => b0 (ix2 r k)) (fun k => b4 (ix2 0 k)) k * b5 (ix2 k ⟨j.val, by omega⟩) := by
  unfold Cert.FfnRow.normAt
  pointwise [k0_pay10, k0_pay9]

/-- The RG-LRU gate's part of the normed input projection, as one sum. -/
theorem pay11_gen (b0 : Vec Ideal S512x1024 .f32) (b4 : Vec Ideal S1x1024 .f32) (b5 : Vec Ideal S1024x1536 .bf16) (r : Fin 512) (j : Fin 512) :
    k0_pay11 b0 b4 b5 (ix2 r j) = ∑ k : Fin 1024, Cert.FfnRow.normAt (fun k => b0 (ix2 r k)) (fun k => b4 (ix2 0 k)) k * b5 (ix2 k ⟨512 + j.val, by omega⟩) := by
  unfold Cert.FfnRow.normAt
  pointwise [k0_pay11, k0_pay9]

/-- The S5 part of the normed input projection, as one sum. -/
theorem pay12_gen (b0 : Vec Ideal S512x1024 .f32) (b4 : Vec Ideal S1x1024 .f32) (b5 : Vec Ideal S1024x1536 .bf16) (r : Fin 512) (j : Fin 512) :
    k0_pay12 b0 b4 b5 (ix2 r j) = ∑ k : Fin 1024, Cert.FfnRow.normAt (fun k => b0 (ix2 r k)) (fun k => b4 (ix2 0 k)) k * b5 (ix2 k ⟨1024 + j.val, by omega⟩) := by
  unfold Cert.FfnRow.normAt
  pointwise [k0_pay12, k0_pay9]

/-- The convolution's part with a leading axis of one. -/
theorem pay14_gen (b0 : Vec Ideal S512x1024 .f32) (b4 : Vec Ideal S1x1024 .f32) (b5 : Vec Ideal S1024x1536 .bf16) (r : Fin 512) (j : Fin 512) :
    k0_pay14 b0 b4 b5 (ix3 0 r j) = k0_pay10 b0 b4 b5 (ix2 r j) := by
  unfold k0_pay14
  generalize k0_pay10 b0 b4 b5 = q
  pointwise []

/-- The carried rows as they are. -/
theorem pay13_gen (q : Vec Ideal S1x8x512 .f32) (a : Fin 8) (j : Fin 512) : k0_pay13 q (ix3 0 a j) = q (ix3 0 a j) := by
  pointwise [k0_pay13]

/-- The rows to carry as they are. -/
theorem pay16_gen (q : Vec Ideal S1x8x512 .f32) (a : Fin 8) (j : Fin 512) : k0_pay16 q (ix3 0 a j) = q (ix3 0 a j) := by
  pointwise [k0_pay16]

/-- The first state's rows as they are. -/
theorem pay7_gen (q : Vec Ideal S1x8x512 .f32) (a : Fin 8) (j : Fin 512) : k0_pay7 q (ix3 0 a j) = q (ix3 0 a j) := by
  pointwise [k0_pay7]

/-- The convolution at a point: the bias and four products. -/
theorem pay15_gen (xl : FVec Ideal S512x512 .f32) (cw : Vec Ideal S4x512 .f32) (cb : Vec Ideal S1x512 .f32) (p q s : Vec Ideal S1x512x512 .f32) (r j : Fin 512) :
    k0_pay15 xl cw cb p q s (ix2 r j) = cb (ix2 0 j) + xl (ix2 r j) * cw (ix2 3 j) + p (ix3 0 r j) * cw (ix2 0 j) + q (ix3 0 r j) * cw (ix2 1 j) + s (ix3 0 r j) * cw (ix2 2 j) := by
  pointwise [k0_pay15]

/-- A row the convolution reads. -/
def xpv (X : Blk) (i : ℕ) (j : Fin 512) : EReal :=
  if i < 8 then X.cp (ix3 0 ⟨i % 8, Nat.mod_lt _ (by decide)⟩ j) else zR X ⟨(i - 8) % 512, Nat.mod_lt _ (by decide)⟩ ⟨j.val, by omega⟩

/-- The rectangle of the eight carried rows. -/
abbrev lowR : Rect S1x520x512 := Rect.unit (s := S1x520x512) ![0, 0, 0] S1x8x512.size inb_S1x520x512_S1x8x512_0_0_0
/-- The rectangle of the block's rows after them. -/
abbrev highR : Rect S1x520x512 := Rect.unit (s := S1x520x512) ![0, 8, 0] S1x512x512.size inb_S1x520x512_S1x512x512_0_8_0

/-- Where a carried row lies. -/
theorem low_emb (a : Fin 8) (j : Fin 512) : lowR.emb (ix3 0 a j) = ix3 0 ⟨a.val, by omega⟩ j := by
  funext b
  fin_cases b
  · rfl
  · apply Fin.ext; show 0 + 1 * a.val = a.val; omega
  · apply Fin.ext; show 0 + 1 * j.val = j.val; omega

/-- Where a row of the block lies. -/
theorem high_emb (a : Fin 512) (j : Fin 512) : highR.emb (ix3 0 a j) = ix3 0 ⟨8 + a.val, by omega⟩ j := by
  funext b
  fin_cases b
  · rfl
  · apply Fin.ext; show 8 + 1 * a.val = 8 + a.val; omega
  · apply Fin.ext; show 0 + 1 * j.val = j.val; omega

/-- A carried row is not in the block's rectangle. -/
theorem high_not (i : Fin 520) (j : Fin 512) (h : i.val < 8) : (ix3 0 i j : S1x520x512.Idx) ∉ highR.set := by
  intro hm
  have h0 : 8 ≤ i.val := ((Rect.mem_set_unit.mp hm) 1).1
  omega

/-- Reading a carried row is reading the list without the block's piece. -/
theorem skip_high (P : Vec Ideal S1x512x512 .f32) (L : List (View.Piece (Elt Ideal) S1x520x512 .f32)) (i : Fin 520) (j : Fin 512) (h : i.val < 8) :
    View.canon (⟨highR, P⟩ :: L) (ix3 0 i j) = View.canon L (ix3 0 i j) :=
  View.canon_cons_of_not_mem _ _ (high_not i j h)

/-- The convolution's input array at a point. -/
theorem xpL_at (X : Blk) (i : Fin 520) (j : Fin 512) : View.canon (xpL X) (ix3 0 i j) = xpv X i.val j := by
  unfold xpL xpv
  by_cases h : i.val < 8
  · rw [if_pos h]
    refine (skip_high _ _ i j h).trans ?_
    have e := View.canon_cons_emb (Val := Elt Ideal) (e := .f32) lowR (k0_pay13 X.cp) [] (ix3 0 ⟨i.val, h⟩ j)
    rw [low_emb] at e
    refine e.trans ((pay13_gen _ _ _).trans ?_)
    congr 2
    exact Fin.ext (Nat.mod_eq_of_lt h).symm
  · rw [if_neg h]
    have e := View.canon_cons_emb (Val := Elt Ideal) (e := .f32) highR (k0_pay14 X.b0 X.b4 X.b5) [⟨lowR, k0_pay13 X.cp⟩] (ix3 0 ⟨(i.val - 8) % 512, Nat.mod_lt _ (by decide)⟩ j)
    rw [high_emb] at e
    have hi : (⟨8 + (i.val - 8) % 512, by omega⟩ : Fin 520) = i := Fin.ext (by show 8 + (i.val - 8) % 512 = i.val; omega)
    simp only [hi] at e
    refine e.trans ((pay14_gen _ _ _ _ _).trans ?_)
    exact pay10_gen _ _ _ _ _

/-- A window of the convolution's input array at a point. -/
theorem xp_read (X : Blk) (o : ℕ) (inb : ∀ a, (![0, o, 0] : Fin 3 → ℕ) a + S1x512x512.size a ≤ S1x520x512.size a) (r j : Fin 512) :
    (View.whole cc0_scratch0).readCov (xpL X) (Rect.unit (s := S1x520x512) ![0, o, 0] S1x512x512.size inb).toLoadRect (ix3 0 r j) = xpv X (o + r.val) j := by
  rw [View.readCov_eq_canon']
  have ho : o + 512 ≤ 520 := inb 1
  have e : (Rect.unit (s := S1x520x512) ![0, o, 0] S1x512x512.size inb).toLoadRect.idx (ix3 0 r j) = ix3 0 ⟨o + r.val, by omega⟩ j := by
    funext b
    fin_cases b
    · rfl
    · apply Fin.ext; show o + 1 * r.val = o + r.val; omega
    · apply Fin.ext; show 0 + 1 * j.val = j.val; omega
  exact (congrArg _ e).trans (xpL_at X _ j)

/-- The rows kept for the next step. -/
theorem convO_at (X : Blk) (a : Fin 8) (j : Fin 512) : convO X (ix3 0 a j) = zR X ⟨504 + a.val, by omega⟩ ⟨j.val, by omega⟩ := by
  unfold convO
  refine (pay16_gen _ a j).trans ?_
  rw [View.readCov_eq_canon']
  have e : (Rect.unit (s := S1x520x512) ![0, 512, 0] S1x8x512.size inb_S1x520x512_S1x8x512_0_512_0).toLoadRect.idx (ix3 0 a j) = ix3 0 ⟨512 + a.val, by omega⟩ j := by
    funext b
    fin_cases b
    · rfl
    · apply Fin.ext; show 512 + 1 * a.val = 512 + a.val; omega
    · apply Fin.ext; show 0 + 1 * j.val = j.val; omega
  refine (congrArg _ e).trans ((xpL_at X _ j).trans ?_)
  unfold xpv
  rw [if_neg (by show ¬ (512 + a.val < 8); omega)]
  congr 1
  exact Fin.ext (by show (512 + a.val - 8) % 512 = 504 + a.val; omega)

/-- The convolved rows. -/
theorem xcV_at (X : Blk) (r j : Fin 512) : xcV X (ix2 r j) = X.b7 (ix2 0 j) + zR X r ⟨j.val, by omega⟩ * X.b6 (ix2 3 j)
      + xpv X (5 + r.val) j * X.b6 (ix2 0 j) + xpv X (6 + r.val) j * X.b6 (ix2 1 j) + xpv X (7 + r.val) j * X.b6 (ix2 2 j) := by
  unfold xcV
  rw [pay15_gen, pay10_gen, xp_read, xp_read, xp_read]
  rfl

end Cert.KernelIdeal.Final

end
-- ==== Proof.KMath.lean ====
/- The arithmetic of the gates: signs and bounds, and the two forms of the input's factor. -/
module

public import proofs.«01_k».proof.Proof.MixRef

@[expose] public section

noncomputable section

namespace Cert.MixMath

open Idealize.ShloMosaic Cert.ReferenceIdeal.Stage

/-- The literal -8. -/
theorem bits_neg8 : Ideal.ofBits .f32 0xC1000000#32 = ((-(8 : ℝ)) : EReal) := by
  simp [Ideal.ofBits, Ideal.ieee, -EReal.coe_mul, -EReal.coe_neg]; norm_num

/-- The literal 2. -/
theorem bits_two : Ideal.ofBits .f32 0x40000000#32 = ((2 : ℝ) : EReal) := by
  simp [Ideal.ofBits, Ideal.ieee, -EReal.coe_mul]; norm_num

/-- A logistic is not negative. -/
theorem logistic_nonneg (x : EReal) : 0 ≤ Ideal.logistic x := by
  induction x with
  | bot => simp
  | top => simp
  | coe r =>
    rw [Ideal.logistic_coe]
    exact_mod_cast (by positivity : (0 : ℝ) ≤ (1 + Real.exp (-r))⁻¹)

/-- The exponential is not negative. -/
theorem exp_nonneg (x : EReal) : 0 ≤ Ideal.exp x := by
  induction x with
  | bot => simp
  | top => simp
  | coe r =>
    rw [Ideal.exp_coe]
    exact_mod_cast (Real.exp_pos r).le

/-- The logarithm of one plus a number that is not negative is not negative. -/
theorem log1p_nonneg {x : EReal} (h : 0 ≤ x) : 0 ≤ Ideal.log1p x := by
  induction x with
  | bot => simp at h
  | top => show 0 ≤ Ideal.log (1 + ⊤); rw [show (1 : EReal) + ⊤ = ⊤ from rfl]; exact le_top
  | coe r =>
    have hr : (0 : ℝ) ≤ r := by exact_mod_cast h
    show 0 ≤ Ideal.log (1 + (r : EReal))
    rw [show (1 + (r : EReal)) = ((1 + r : ℝ) : EReal) by push_cast; rfl]
    show 0 ≤ (if 1 + r ≤ 0 then (⊥ : EReal) else ((Real.log (1 + r) : ℝ) : EReal))
    rw [if_neg (by linarith)]
    exact_mod_cast Real.log_nonneg (by linarith)

/-- The softplus is not negative. -/
theorem sp1_nonneg (y : EReal) : 0 ≤ sp1 y :=
  add_nonneg (le_max_right _ _) (log1p_nonneg (exp_nonneg _))

/-- The logarithm of a decay. -/
theorem la_nonpos (r y : EReal) : Ideal.ofBits .f32 0xC1000000#32 * Ideal.logistic r * sp1 y ≤ 0 := by
  rw [bits_neg8, mul_assoc]
  have h1 : (0 : EReal) ≤ Ideal.logistic r * sp1 y := mul_nonneg (logistic_nonneg r) (sp1_nonneg y)
  rw [EReal.neg_mul]
  exact EReal.neg_le_zero.mpr (mul_nonneg (by exact_mod_cast (by norm_num : (0 : ℝ) ≤ 8)) h1)

/-- The exponential of a number that is not positive is at most one. -/
theorem exp_le_one {L : EReal} (h : L ≤ 0) : Ideal.exp L ≤ 1 := by
  induction L with
  | bot => simp
  | top => simp at h
  | coe r =>
    rw [Ideal.exp_coe]
    exact_mod_cast Real.exp_le_one_iff.mpr (by exact_mod_cast h)

/-- The two forms of one minus the square of the decay. -/
theorem factor_eq {L : EReal} (h : L ≤ 0) :
    (0 - Ideal.tanh L) * (Ideal.exp L * Ideal.exp L + 1) = -(Ideal.exp (Ideal.ofBits .f32 0x40000000#32 * L) - 1) := by
  rw [bits_two]
  induction L with
  | bot =>
    rw [EReal.coe_mul_bot_of_pos (by norm_num)]
    simp
  | top => simp at h
  | coe r =>
    rw [show ((2 : ℝ) : EReal) * (r : EReal) = ((2 * r : ℝ) : EReal) by push_cast; rfl]
    rw [Ideal.exp_coe, Ideal.exp_coe, Ideal.tanh_coe]
    have e : (0 - Real.tanh r) * (Real.exp r * Real.exp r + 1) = -(Real.exp (2 * r) - 1) := by
      rw [Real.tanh_eq_sinh_div_cosh, Real.sinh_eq, Real.cosh_eq, two_mul, Real.exp_add]
      have hp : Real.exp r ≠ 0 := (Real.exp_pos r).ne'
      rw [Real.exp_neg]
      have h2 : Real.exp r * Real.exp r + 1 ≠ 0 := by positivity
      field_simp
      ring
    exact_mod_cast congrArg (fun x : ℝ => (x : EReal)) e

end Cert.MixMath

end
-- ==== Proof.KVal2.lean ====
/- The gates of one grid step, the decays and the inputs of its recurrence, at an index. -/
module

public import proofs.«01_k».proof.Proof.KVal1
public import proofs.«01_k».proof.Proof.KMath

@[expose] public section

set_option maxRecDepth 16384

noncomputable section

namespace Cert.KernelIdeal.Final

open Idealize.ShloMosaic Idealize.ShloMosaic.TcCoe Cert.KernelIdeal Cert.KernelIdeal.Gen Cert.ReferenceIdeal.Stage

/-- Minus eight times the softplus, at a column. -/
theorem pay20_gen (lam : Vec Ideal S1x512 .f32) (j : Fin 512) :
    k0_pay20 (k0_pay18 lam) (k0_pay19 lam) (ix2 0 j) = Ideal.ofBits .f32 0xC1000000#32 * sp1 (lam (ix2 0 j)) := by
  have h : k0_pay20 (k0_pay18 lam) (k0_pay19 lam) (ix2 0 j) = Ideal.ofBits .f32 0xC1000000#32 * (max (0 - lam (ix2 0 j)) 0 + Ideal.log1p (Ideal.exp (0 - FloatOps.absf (F := Ideal) (φ := .f32) (lam (ix2 0 j))))) := by
    pointwise [k0_pay20, k0_pay19, k0_pay18, k0_pay17]
  rw [h]
  unfold sp1
  have ha : FloatOps.absf (F := Ideal) (φ := .f32) (-(lam (ix2 0 j))) = FloatOps.absf (F := Ideal) (φ := .f32) (lam (ix2 0 j)) := by
    show max (-(lam (ix2 0 j) : EReal)) (- -(lam (ix2 0 j) : EReal)) = max (lam (ix2 0 j) : EReal) (-(lam (ix2 0 j) : EReal))
    rw [neg_neg, max_comm]
  rw [ha, zero_sub, zero_sub]

/-- The gates' product of the left half, as one sum. -/
theorem pay22_gen (xc : FVec Ideal S512x512 .f32) (w : Vec Ideal S1x256x512 .bf16) (r j : Fin 512) :
    k0_pay22 xc w (ix2 r j) = ∑ x : Fin 256, xc (ix2 r ⟨x.val, by omega⟩) * w (ix3 0 x j) := by
  pointwise [k0_pay22, k0_pay21]

/-- The exponent of the left half, at a point. -/
theorem pay23_gen (xc : FVec Ideal S512x512 .f32) (p q : FVec Ideal S1x512 .f32) (w : Vec Ideal S1x256x512 .bf16) (b : Vec Ideal S1x256 .f32) (r : Fin 512) (j : Fin 256) :
    k0_pay23 xc p q w b (ix2 r j) = k0_pay20 p q (ix2 0 ⟨j.val, by omega⟩) * Ideal.logistic (k0_pay22 xc w (ix2 r ⟨j.val, by omega⟩) + b (ix2 0 j)) := by
  unfold k0_pay23
  generalize k0_pay20 p q = A
  generalize k0_pay22 xc w = B
  pointwise []

/-- The factor of the left half, at a point. -/
theorem pay25_gen (xc : FVec Ideal S512x512 .f32) (p q : FVec Ideal S1x512 .f32) (w : Vec Ideal S1x256x512 .bf16) (b : Vec Ideal S1x256 .f32) (r : Fin 512) (j : Fin 256) :
    k0_pay25 xc p q w b (ix2 r j) = Ideal.exp (k0_pay23 xc p q w b (ix2 r j)) := by
  unfold k0_pay25 k0_pay24
  generalize k0_pay23 xc p q w b = A
  pointwise []

/-- The term of the left half, at a point. -/
theorem pay27_gen (xc : FVec Ideal S512x512 .f32) (p q : FVec Ideal S1x512 .f32) (w : Vec Ideal S1x256x512 .bf16) (b d : Vec Ideal S1x256 .f32) (r : Fin 512) (j : Fin 256) :
    k0_pay27 (k0_pay26 xc p q w b d) (ix2 r j) = Ideal.sqrt ((0 - Ideal.tanh (k0_pay23 xc p q w b (ix2 r j))) * (Ideal.exp (k0_pay23 xc p q w b (ix2 r j)) * Ideal.exp (k0_pay23 xc p q w b (ix2 r j)) + 1))
      * (Ideal.logistic (k0_pay22 xc w (ix2 r ⟨256 + j.val, by omega⟩) + d (ix2 0 j)) * xc (ix2 r ⟨j.val, by omega⟩)) := by
  unfold k0_pay27 k0_pay26 k0_pay24
  generalize k0_pay23 xc p q w b = A
  generalize k0_pay22 xc w = B
  pointwise []

/-- The gates' product of the right half, as one sum. -/
theorem pay28_gen (xc : FVec Ideal S512x512 .f32) (w : Vec Ideal S1x256x512 .bf16) (r j : Fin 512) :
    k0_pay28 (k0_pay21 xc) w (ix2 r j) = ∑ x : Fin 256, xc (ix2 r ⟨256 + x.val, by omega⟩) * w (ix3 0 x j) := by
  pointwise [k0_pay28, k0_pay21]

/-- The exponent of the right half, at a point. -/
theorem pay29_gen (xc : FVec Ideal S512x512 .bf16) (p : FVec Ideal S1x512 .f32) (w : Vec Ideal S1x256x512 .bf16) (b : Vec Ideal S1x256 .f32) (r : Fin 512) (j : Fin 256) :
    k0_pay29 p xc w b (ix2 r j) = p (ix2 0 ⟨256 + j.val, by omega⟩) * Ideal.logistic (k0_pay28 xc w (ix2 r ⟨j.val, by omega⟩) + b (ix2 0 j)) := by
  unfold k0_pay29
  generalize k0_pay28 xc w = B
  pointwise []

/-- The factor of the right half, at a point. -/
theorem pay31_gen (xc : FVec Ideal S512x512 .bf16) (p : FVec Ideal S1x512 .f32) (w : Vec Ideal S1x256x512 .bf16) (b : Vec Ideal S1x256 .f32) (r : Fin 512) (j : Fin 256) :
    k0_pay31 p xc w b (ix2 r j) = Ideal.exp (k0_pay29 p xc w b (ix2 r j)) := by
  unfold k0_pay31 k0_pay30
  generalize k0_pay29 p xc w b = A
  pointwise []

/-- The term of the right half, at a point. -/
theorem pay32_gen (xf : FVec Ideal S512x512 .f32) (xc : FVec Ideal S512x512 .bf16) (p : FVec Ideal S1x512 .f32) (w : Vec Ideal S1x256x512 .bf16) (b d : Vec Ideal S1x256 .f32) (r : Fin 512) (j : Fin 256) :
    k0_pay32 xf p xc w b d (ix2 r j) = Ideal.sqrt ((0 - Ideal.tanh (k0_pay29 p xc w b (ix2 r j))) * (Ideal.exp (k0_pay29 p xc w b (ix2 r j)) * Ideal.exp (k0_pay29 p xc w b (ix2 r j)) + 1))
      * (Ideal.logistic (k0_pay28 xc w (ix2 r ⟨256 + j.val, by omega⟩) + d (ix2 0 j)) * xf (ix2 r ⟨256 + j.val, by omega⟩)) := by
  unfold k0_pay32 k0_pay30
  generalize k0_pay29 p xc w b = A
  generalize k0_pay28 xc w = B
  pointwise []

end Cert.KernelIdeal.Final

end
-- ==== Proof.KVal3.lean ====
/- The decays and the inputs of the recurrence of one grid step, over all its columns. -/
module

public import proofs.«01_k».proof.Proof.KVal2

@[expose] public section

set_option maxRecDepth 16384

noncomputable section

namespace Cert.KernelIdeal.Final

open Idealize.ShloMosaic Idealize.ShloMosaic.TcCoe Cert.KernelIdeal Cert.KernelIdeal.Gen Cert.ReferenceIdeal.Stage

/-- The recurrence gate before the logistic. -/
def gU (X : Blk) (r j : Fin 512) : EReal :=
  ∑ x : Fin 256, xcV X (ix2 r ⟨j.val / 256 * 256 + x.val, by omega⟩) * X.b8 (ix3 ⟨j.val / 256, by omega⟩ x ⟨j.val % 256, by omega⟩) + X.b9 (ix2 0 j)

/-- The input gate before the logistic. -/
def gI (X : Blk) (r j : Fin 512) : EReal :=
  ∑ x : Fin 256, xcV X (ix2 r ⟨j.val / 256 * 256 + x.val, by omega⟩) * X.b8 (ix3 ⟨j.val / 256, by omega⟩ x ⟨256 + j.val % 256, by omega⟩) + X.b9 (ix2 1 j)

/-- The logarithm of the decay. -/
def laK (X : Blk) (r j : Fin 512) : EReal := Ideal.ofBits .f32 0xC1000000#32 * Ideal.logistic (gU X r j) * sp1 (X.b10 (ix2 0 j))

/-- The rectangle of the left half's columns. -/
abbrev leftH : Rect S512x512 := Rect.unit (s := S512x512) ![0, 0] S512x256.size inb_S512x512_S512x256_0_0
/-- The rectangle of the right half's columns. -/
abbrev rightH : Rect S512x512 := Rect.unit (s := S512x512) ![0, 256] S512x256.size inb_S512x512_S512x256_0_256

/-- Where a point of the left half lies. -/
theorem left_emb (r : Fin 512) (j : Fin 256) : leftH.emb (ix2 r j) = ix2 r ⟨j.val, by omega⟩ := by
  funext b
  fin_cases b
  · apply Fin.ext; show 0 + 1 * r.val = r.val; omega
  · apply Fin.ext; show 0 + 1 * j.val = j.val; omega

/-- Where a point of the right half lies. -/
theorem right_emb (r : Fin 512) (j : Fin 256) : rightH.emb (ix2 r j) = ix2 r ⟨256 + j.val, by omega⟩ := by
  funext b
  fin_cases b
  · apply Fin.ext; show 0 + 1 * r.val = r.val; omega
  · apply Fin.ext; show 256 + 1 * j.val = 256 + j.val; omega

/-- A column of the left half is not in the right half. -/
theorem right_not (r j : Fin 512) (h : j.val < 256) : (ix2 r j : S512x512.Idx) ∉ rightH.set := by
  intro hm
  have h0 : 256 ≤ j.val := ((Rect.mem_set_unit.mp hm) 1).1
  omega

/-- Reading the left half is reading the list without the right half's piece. -/
theorem skip_right (P : Vec Ideal S512x256 .f32) (L : List (View.Piece (Elt Ideal) S512x512 .f32)) (r j : Fin 512) (h : j.val < 256) :
    View.canon (⟨rightH, P⟩ :: L) (ix2 r j) = View.canon L (ix2 r j) :=
  View.canon_cons_of_not_mem _ _ (right_not r j h)

/-- Two halves side by side. -/
theorem halves (P Q : Vec Ideal S512x256 .f32) (G : Fin 512 → Fin 512 → EReal)
    (hQ : ∀ (r : Fin 512) (j : Fin 256), Q (ix2 r j) = G r ⟨j.val, by omega⟩) (hP : ∀ (r : Fin 512) (j : Fin 256), P (ix2 r j) = G r ⟨256 + j.val, by omega⟩) (r j : Fin 512) :
    View.canon (Val := Elt Ideal) (e := .f32) [⟨rightH, P⟩, ⟨leftH, Q⟩] (ix2 r j) = G r j := by
  by_cases h : j.val < 256
  · refine (skip_right _ _ r j h).trans ?_
    have e := View.canon_cons_emb (Val := Elt Ideal) (e := .f32) leftH Q [] (ix2 r ⟨j.val, h⟩)
    rw [left_emb] at e
    exact e.trans (hQ r ⟨j.val, h⟩)
  · have e := View.canon_cons_emb (Val := Elt Ideal) (e := .f32) rightH P [⟨leftH, Q⟩] (ix2 r ⟨j.val - 256, by omega⟩)
    rw [right_emb] at e
    have hj : (⟨256 + (j.val - 256), by omega⟩ : Fin 512) = j := Fin.ext (by show 256 + (j.val - 256) = j.val; omega)
    have e2 := hP r ⟨j.val - 256, by omega⟩
    simp only [hj] at e e2
    exact e.trans e2

/-- Loading the left half's gate weights. -/
theorem ld8_0 (B : Vec Ideal S2x256x512 .bf16) (x : Fin 256) (j : Fin 512) :
    (View.ld B (Rect.unit (s := S2x256x512) ![0, 0, 0] S1x256x512.size inb_S2x256x512_S1x256x512_0_0_0) : Vec Ideal S1x256x512 .bf16) (ix3 0 x j) = B (ix3 0 x j) := by
  refine congrArg B ?_
  funext b
  fin_cases b
  · rfl
  · apply Fin.ext; show 0 + 1 * x.val = x.val; omega
  · apply Fin.ext; show 0 + 1 * j.val = j.val; omega

/-- Loading the right half's gate weights. -/
theorem ld8_1 (B : Vec Ideal S2x256x512 .bf16) (x : Fin 256) (j : Fin 512) :
    (View.ld B (Rect.unit (s := S2x256x512) ![1, 0, 0] S1x256x512.size inb_S2x256x512_S1x256x512_1_0_0) : Vec Ideal S1x256x512 .bf16) (ix3 0 x j) = B (ix3 1 x j) := by
  refine congrArg B ?_
  funext b
  fin_cases b
  · rfl
  · apply Fin.ext; show 0 + 1 * x.val = x.val; omega
  · apply Fin.ext; show 0 + 1 * j.val = j.val; omega

/-- The left half's gate product with the loaded weights. -/
theorem pay22_ld (xc : FVec Ideal S512x512 .f32) (B : Vec Ideal S2x256x512 .bf16) (r j : Fin 512) :
    k0_pay22 xc (View.ld B (Rect.unit (s := S2x256x512) ![0, 0, 0] S1x256x512.size inb_S2x256x512_S1x256x512_0_0_0)) (ix2 r j) = ∑ x : Fin 256, xc (ix2 r ⟨x.val, by omega⟩) * B (ix3 0 x j) :=
  (pay22_gen _ _ r j).trans (Finset.sum_congr rfl fun x _ => congrArg (xc (ix2 r ⟨x.val, by omega⟩) * ·) (ld8_0 B x j))

/-- The right half's gate product with the loaded weights. -/
theorem pay28_ld (xc : FVec Ideal S512x512 .f32) (B : Vec Ideal S2x256x512 .bf16) (r j : Fin 512) :
    k0_pay28 (k0_pay21 xc) (View.ld B (Rect.unit (s := S2x256x512) ![1, 0, 0] S1x256x512.size inb_S2x256x512_S1x256x512_1_0_0)) (ix2 r j) = ∑ x : Fin 256, xc (ix2 r ⟨256 + x.val, by omega⟩) * B (ix3 1 x j) :=
  (pay28_gen _ _ r j).trans (Finset.sum_congr rfl fun x _ => congrArg (xc (ix2 r ⟨256 + x.val, by omega⟩) * ·) (ld8_1 B x j))

/-- The hyperbolic tangent's form of the factor under the root is the exponential's. -/
theorem fac (X : Blk) (r j : Fin 512) : (0 - Ideal.tanh (laK X r j)) * (Ideal.exp (laK X r j) * Ideal.exp (laK X r j) + 1) = -(Ideal.exp (Ideal.ofBits .f32 0x40000000#32 * laK X r j) - 1) :=
  Cert.MixMath.factor_eq (Cert.MixMath.la_nonpos _ _)

/-- Loading half a row of the gates' biases. -/
theorem ld9 (B : Vec Ideal S2x512 .f32) (q o : ℕ) (inb : ∀ a, (![q, o] : Fin 2 → ℕ) a + S1x256.size a ≤ S2x512.size a) (j : Fin 256) (hq : q < 2) (ho : o + 256 ≤ 512) :
    (View.ld B (Rect.unit (s := S2x512) ![q, o] S1x256.size inb) : Vec Ideal S1x256 .f32) (ix2 0 j) = B (ix2 ⟨q, hq⟩ ⟨o + j.val, by omega⟩) := by
  refine congrArg B ?_
  funext b
  fin_cases b
  · apply Fin.ext; show q + 1 * 0 = q; omega
  · apply Fin.ext; show o + 1 * j.val = o + j.val; omega

/-- A column of the left half is in half 0. -/
theorem d0 (j : Fin 256) : (j.val) / 256 = 0 := by omega
/-- A column of the right half is in half 1. -/
theorem d1 (j : Fin 256) : (256 + j.val) / 256 = 1 := by omega
/-- A column of the left half, within its half. -/
theorem m0 (j : Fin 256) : j.val % 256 = j.val := by omega
/-- A column of the right half, within its half. -/
theorem m1 (j : Fin 256) : (256 + j.val) % 256 = j.val := by omega

/-- The exponent of the left half is the block's exponent. -/
theorem la_left (X : Blk) (r : Fin 512) (j : Fin 256) :
    k0_pay23 (xcV X) (k0_pay18 X.b10) (k0_pay19 X.b10) (View.ld X.b8 (Rect.unit (s := S2x256x512) ![0, 0, 0] S1x256x512.size inb_S2x256x512_S1x256x512_0_0_0)) (View.ld X.b9 (Rect.unit (s := S2x512) ![0, 0] S1x256.size inb_S2x512_S1x256_0_0)) (ix2 r j) = laK X r ⟨j.val, by omega⟩ := by
  rw [pay23_gen, pay20_gen, pay22_ld, ld9 _ _ _ _ _ (by decide) (by decide)]
  unfold laK gU
  rw [mul_assoc, mul_comm (sp1 _), ← mul_assoc]
  simp only [d0, m0, Nat.zero_mul, Nat.zero_add, Fin.zero_eta, Fin.mk_zero]
  try rfl

/-- The exponent of the right half is the block's exponent. -/
theorem la_right (X : Blk) (r : Fin 512) (j : Fin 256) :
    k0_pay29 (k0_pay20 (k0_pay18 X.b10) (k0_pay19 X.b10)) (k0_pay21 (xcV X)) (View.ld X.b8 (Rect.unit (s := S2x256x512) ![1, 0, 0] S1x256x512.size inb_S2x256x512_S1x256x512_1_0_0)) (View.ld X.b9 (Rect.unit (s := S2x512) ![0, 256] S1x256.size inb_S2x512_S1x256_0_256)) (ix2 r j) = laK X r ⟨256 + j.val, by omega⟩ := by
  rw [pay29_gen, pay20_gen, pay28_ld, ld9 _ _ _ _ _ (by decide) (by decide)]
  unfold laK gU
  rw [mul_assoc, mul_comm (sp1 _), ← mul_assoc]
  simp only [d1, m1, Nat.one_mul]
  try rfl

/-- The decay. -/
theorem aV_at (X : Blk) (r j : Fin 512) : aV X (ix2 r j) = Ideal.exp (laK X r j) := by
  unfold aV
  rw [View.readCov_eq_canon']
  have e : (Rect.unit (s := S512x512) ![0, 0] S512x512.size inb_S512x512_S512x512_0_0).toLoadRect.idx (ix2 r j) = ix2 r j := by
    funext b
    fin_cases b
    · apply Fin.ext; show 0 + 1 * r.val = r.val; omega
    · apply Fin.ext; show 0 + 1 * j.val = j.val; omega
  refine (congrArg _ e).trans ?_
  unfold aL
  refine halves _ _ (fun r j => Ideal.exp (laK X r j)) (fun r j => ?_) (fun r j => ?_) r j
  · rw [pay25_gen, la_left]
  · rw [pay31_gen, la_right]

/-- The input of the recurrence. -/
theorem bV_at (X : Blk) (r j : Fin 512) : bV X (ix2 r j) =
    Ideal.sqrt (-(Ideal.exp (Ideal.ofBits .f32 0x40000000#32 * laK X r j) - 1)) * (Ideal.logistic (gI X r j) * xcV X (ix2 r j)) := by
  unfold bV
  rw [View.readCov_eq_canon']
  have e : (Rect.unit (s := S512x512) ![0, 0] S512x512.size inb_S512x512_S512x512_0_0).toLoadRect.idx (ix2 r j) = ix2 r j := by
    funext b
    fin_cases b
    · apply Fin.ext; show 0 + 1 * r.val = r.val; omega
    · apply Fin.ext; show 0 + 1 * j.val = j.val; omega
  refine (congrArg _ e).trans ?_
  unfold bL
  refine halves _ _ (fun r j => Ideal.sqrt (-(Ideal.exp (Ideal.ofBits .f32 0x40000000#32 * laK X r j) - 1)) * (Ideal.logistic (gI X r j) * xcV X (ix2 r j))) (fun r j => ?_) (fun r j => ?_) r j
  · rw [pay27_gen, la_left, pay22_ld, ld9 _ _ _ _ _ (by decide) (by decide), fac]
    unfold gI
    simp only [d0, m0, Nat.zero_mul, Nat.zero_add, Fin.zero_eta, Fin.mk_zero]
    try rfl
  · rw [pay32_gen, la_right, pay28_ld, ld9 _ _ _ _ _ (by decide) (by decide), fac]
    unfold gI
    simp only [d1, m1, Nat.one_mul]
    try rfl

end Cert.KernelIdeal.Final

end
-- ==== Proof.KBridge.lean ====
/- What a grid step of the mixer computes, in the terms of the reference's stages. -/
module

public import proofs.«01_k».proof.Proof.MixArgs
public import proofs.«01_k».proof.Proof.KRead
public import proofs.«01_k».proof.Proof.KVal3

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

/-- The blocks of a grid step are the arguments' rows from the step's first row on, and its weights. -/
structure Rel (X : Blk) (A : Args) (T : ℕ) : Prop where
  hT : T + 512 ≤ 16384
  b0 : ∀ (r : Fin 512) (k : Fin 1024), X.b0 (ix2 r k) = A.a0 (ix2 ⟨T + r.val, by omega⟩ k)
  b4 : ∀ k : Fin 1024, X.b4 (ix2 0 k) = A.a5 (ix1 k)
  b5 : ∀ (k : Fin 1024) (j : Fin 1536), X.b5 (ix2 k j) = A.a6 (ix2 k j)
  b6 : ∀ (k : Fin 4) (j : Fin 512), X.b6 (ix2 k j) = A.a7 (ix2 k j)
  b7 : ∀ j : Fin 512, X.b7 (ix2 0 j) = A.a8 (ix1 j)
  b8 : ∀ (h : Fin 2) (i : Fin 256) (j : Fin 512), X.b8 (ix3 h i j) = wGate A.a9 A.a11 (ix3 h i j)
  b9a : ∀ j : Fin 512, X.b9 (ix2 0 j) = A.a10 (ix1 j)
  b9x : ∀ j : Fin 512, X.b9 (ix2 1 j) = A.a12 (ix1 j)
  b10 : ∀ j : Fin 512, X.b10 (ix2 0 j) = A.a13 (ix1 j)
  b11 : ∀ (h : Fin 2) (s : Fin 8) (l : Fin 128), X.b11 (ix3 h s l) = A.a14 (ix2 ⟨h.val * 16 + s.val * 2 + l.val / 64, by omega⟩ ⟨l.val % 64, by omega⟩)
  b12 : ∀ (h : Fin 2) (s : Fin 8) (l : Fin 128), X.b12 (ix3 h s l) = A.a15 (ix2 ⟨h.val * 16 + s.val * 2 + l.val / 64, by omega⟩ ⟨l.val % 64, by omega⟩)
  b13 : ∀ (q : Fin 4) (i : Fin 128) (j : Fin 1024), X.b13 (ix3 q i j) = wIn A.a16 A.a17 (ix3 q i j)
  b14 : ∀ (s : Fin 16) (i : Fin 256) (j : Fin 128), X.b14 (ix3 s i j) = wOut A.a18 A.a19 (ix3 s i j)
  b15 : ∀ j : Fin 512, X.b15 (ix2 0 j) = A.a20 (ix1 j)
  b16 : ∀ k j : Fin 512, X.b16 (ix2 k j) = A.a21 (ix2 k j)
  b17 : ∀ j : Fin 512, X.b17 (ix2 0 j) = A.a22 (ix1 j)
  b18 : ∀ j : Fin 512, X.b18 (ix2 0 j) = A.a23 (ix1 j)
  b19 : ∀ j : Fin 512, X.b19 (ix2 0 j) = A.a24 (ix1 j)
  b20 : ∀ k j : Fin 1024, X.b20 (ix2 k j) = A.a25 (ix2 k j)

section Step

variable {X : Blk} {A : Args} {T : ℕ} (R : Rel X A T)

include R

/-- The projection of the step's rows. -/
theorem z_eq (r : Fin 512) (j : Fin 1536) (h : T + r.val < 16384) : zR X r j = A.z (ix2 ⟨T + r.val, h⟩ j) := by
  unfold zR Args.z
  rw [refZ_at]
  have e1 : (fun k => X.b0 (ix2 r k)) = fun k => A.a0 (ix2 ⟨T + r.val, h⟩ k) := funext fun k => R.b0 r k
  have e2 : (fun k => X.b4 (ix2 0 k)) = fun k => A.a5 (ix1 k) := funext fun k => R.b4 k
  refine Finset.sum_congr rfl fun k _ => ?_
  rw [e1, e2, R.b5]

/-- The rows kept, and the step's rows, as the convolution reads them. -/
theorem xp_eq (hcp : ∀ (k : Fin 3) (j : Fin 512), X.cp (ix3 0 ⟨5 + k.val, by omega⟩ j) = A.xp (ix2 ⟨T + k.val, by have := R.hT; omega⟩ j))
    (k : ℕ) (hk : k < 515) (j : Fin 512) (h : T + k < 16387) : xpv X (5 + k) j = A.xp (ix2 ⟨T + k, h⟩ j) := by
  unfold xpv
  by_cases h3 : k < 3
  · have hlt : 5 + k < 8 := by omega
    rw [if_pos hlt]
    have e := hcp ⟨k, h3⟩ j
    have e8 : (⟨(5 + k) % 8, by omega⟩ : Fin 8) = ⟨5 + k, by omega⟩ := Fin.ext (Nat.mod_eq_of_lt hlt)
    rw [e8]
    exact e
  · have hlt : ¬ 5 + k < 8 := by omega
    rw [if_neg hlt]
    have hT := R.hT
    have e5 : (⟨(5 + k - 8) % 512, by omega⟩ : Fin 512) = ⟨k - 3, by omega⟩ := Fin.ext (by show (5 + k - 8) % 512 = k - 3; omega)
    rw [e5, z_eq R ⟨k - 3, by omega⟩ _ (by show T + (k - 3) < 16384; omega)]
    unfold Args.xp
    rw [refXp_at, dif_neg (by show ¬ T + k < 3; omega), refXl_at]
    have e6 : (⟨T + (k - 3), by omega⟩ : Fin 16384) = ⟨T + k - 3, by omega⟩ := Fin.ext (by show T + (k - 3) = T + k - 3; omega)
    exact congrArg (fun u => A.z (ix2 u _)) e6

variable (hcp : ∀ (k : Fin 3) (j : Fin 512), X.cp (ix3 0 ⟨5 + k.val, by omega⟩ j) = A.xp (ix2 ⟨T + k.val, by have := R.hT; omega⟩ j))

include hcp

/-- The convolution of the step's rows. -/
theorem xc_eq (r j : Fin 512) (h : T + r.val < 16384) : xcV X (ix2 r j) = A.xc (ix2 ⟨T + r.val, h⟩ j) := by
  have hT := R.hT
  rw [xcV_at]
  unfold Args.xc
  rw [refXc_at, R.b7, R.b6, R.b6, R.b6, R.b6]
  have x0 : xpv X (5 + r.val) j = A.xp (ix2 ⟨T + r.val, by omega⟩ j) := xp_eq R hcp r.val (by omega) j (by omega)
  have x1 : xpv X (6 + r.val) j = A.xp (ix2 ⟨1 + (T + r.val), by omega⟩ j) := by
    have e := xp_eq R hcp (1 + r.val) (by omega) j (by omega)
    rw [show 5 + (1 + r.val) = 6 + r.val by omega] at e
    exact e.trans (congrArg (fun u => A.xp (ix2 u j)) (Fin.ext (by show T + (1 + r.val) = 1 + (T + r.val); omega)))
  have x2 : xpv X (7 + r.val) j = A.xp (ix2 ⟨2 + (T + r.val), by omega⟩ j) := by
    have e := xp_eq R hcp (2 + r.val) (by omega) j (by omega)
    rw [show 5 + (2 + r.val) = 7 + r.val by omega] at e
    exact e.trans (congrArg (fun u => A.xp (ix2 u j)) (Fin.ext (by show T + (2 + r.val) = 2 + (T + r.val); omega)))
  have x3 : zR X r ⟨j.val, by omega⟩ = A.xp (ix2 ⟨3 + (T + r.val), by omega⟩ j) := by
    have e := xp_eq R hcp (3 + r.val) (by omega) j (by omega)
    unfold xpv at e
    rw [if_neg (by omega)] at e
    have e5 : (⟨(5 + (3 + r.val) - 8) % 512, by omega⟩ : Fin 512) = r := Fin.ext (by show (5 + (3 + r.val) - 8) % 512 = r.val; omega)
    rw [e5] at e
    exact e.trans (congrArg (fun u => A.xp (ix2 u j)) (Fin.ext (by show T + (3 + r.val) = 3 + (T + r.val); omega)))
  rw [x0, x1, x2, x3]
  ac_rfl

/-- The kernel's recurrence gate at a row of the block is the reference's gate at that row of the array. -/
theorem gU_eq (r j : Fin 512) (h : T + r.val < 16384) :
    Ideal.logistic (gU X r j) = refGate A.xc A.a9 A.a10 (ix2 ⟨T + r.val, h⟩ j) := by
  rw [refGate_at]
  unfold gU
  refine congrArg Ideal.logistic ?_
  rw [R.b9a]
  refine congrArg (· + A.a10 (ix1 j)) ?_
  have g := gate_sum A.a9 ⟨j.val / 256, by omega⟩ (fun x => xcV X (ix2 r ⟨j.val / 256 * 256 + x.val, by omega⟩)) ⟨j.val % 256, by omega⟩
    (fun x => X.b8 (ix3 ⟨j.val / 256, by omega⟩ x ⟨j.val % 256, by omega⟩)) (fun i => (R.b8 _ _ _).trans (wGate_at A.a9 A.a11 ⟨j.val / 256, by omega⟩ i ⟨j.val % 256, by omega⟩).1)
  refine g.trans (Finset.sum_congr rfl fun k _ => ?_)
  rw [mul_comm]
  refine congrArg₂ (· * ·) ?_ ?_
  · refine congrArg A.a9 ?_
    funext b
    fin_cases b
    · apply Fin.ext; show j.val / 256 * 4 + j.val % 256 / 64 = j.val / 64; omega
    · rfl
    · apply Fin.ext; show j.val % 256 % 64 = j.val % 64; omega
  · have e : (⟨j.val / 256 * 256 + (j.val % 256 / 64 * 64 + k.val), by omega⟩ : Fin 512) = ⟨j.val / 64 * 64 + k.val, by omega⟩ :=
      Fin.ext (by show j.val / 256 * 256 + (j.val % 256 / 64 * 64 + k.val) = j.val / 64 * 64 + k.val; omega)
    exact (congrArg (fun u => xcV X (ix2 r u)) e).trans (xc_eq R hcp r _ h)

/-- The kernel's input gate at a row of the block is the reference's gate at that row of the array. -/
theorem gI_eq (r j : Fin 512) (h : T + r.val < 16384) :
    Ideal.logistic (gI X r j) = refGate A.xc A.a11 A.a12 (ix2 ⟨T + r.val, h⟩ j) := by
  rw [refGate_at]
  unfold gI
  refine congrArg Ideal.logistic ?_
  rw [R.b9x]
  refine congrArg (· + A.a12 (ix1 j)) ?_
  have g := gate_sum A.a11 ⟨j.val / 256, by omega⟩ (fun x => xcV X (ix2 r ⟨j.val / 256 * 256 + x.val, by omega⟩)) ⟨j.val % 256, by omega⟩
    (fun x => X.b8 (ix3 ⟨j.val / 256, by omega⟩ x ⟨256 + j.val % 256, by omega⟩)) (fun i => (R.b8 _ _ _).trans (wGate_at A.a9 A.a11 ⟨j.val / 256, by omega⟩ i ⟨j.val % 256, by omega⟩).2)
  refine g.trans (Finset.sum_congr rfl fun k _ => ?_)
  rw [mul_comm]
  refine congrArg₂ (· * ·) ?_ ?_
  · refine congrArg A.a11 ?_
    funext b
    fin_cases b
    · apply Fin.ext; show j.val / 256 * 4 + j.val % 256 / 64 = j.val / 64; omega
    · rfl
    · apply Fin.ext; show j.val % 256 % 64 = j.val % 64; omega
  · have e : (⟨j.val / 256 * 256 + (j.val % 256 / 64 * 64 + k.val), by omega⟩ : Fin 512) = ⟨j.val / 64 * 64 + k.val, by omega⟩ :=
      Fin.ext (by show j.val / 256 * 256 + (j.val % 256 / 64 * 64 + k.val) = j.val / 64 * 64 + k.val; omega)
    exact (congrArg (fun u => xcV X (ix2 r u)) e).trans (xc_eq R hcp r _ h)

/-- The kernel's exponent at a row of the block is the reference's at that row of the array. -/
theorem laK_eq (r j : Fin 512) (h : T + r.val < 16384) : laK X r j = A.la (ix2 ⟨T + r.val, h⟩ j) := by
  unfold laK Args.la
  rw [refLa_at, refSp_at, gU_eq R hcp r j h, R.b10]

/-- The recurrence's steps are those of the reference. -/
theorem hn_step (r j : Fin 512) : A.hn (T + (r.val + 1)) j = aV X (ix2 r j) * A.hn (T + r.val) j + bV X (ix2 r j) := by
  have h : T + r.val < 16384 := by have := R.hT; omega
  rw [aV_at, bV_at, laK_eq R hcp r j h, gI_eq R hcp r j h, xc_eq R hcp r j h]
  show refA A.la (ix2 (tm (T + r.val)) j) * A.hn (T + r.val) j + A.b (ix2 (tm (T + r.val)) j) = _
  rw [tm_eq h, refA_at]
  unfold Args.b
  rw [refB_at]

end Step

variable (m : (ℓ : Loc nD τ sig) → Buf (Elt Ideal) ℓ) (c : Dev nD)

/-- The arguments the kernel's memory holds. -/
def argsK : Args := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25)⟩

end Cert.KernelIdeal.Final
-- ==== Proof.KRel.lean ====
/- Every grid step of the mixer reads the arguments' rows and weights. -/
module

public import proofs.«01_k».proof.Proof.MixArgs
public import proofs.«01_k».proof.Proof.KRead
public import proofs.«01_k».proof.Proof.KBridge

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

variable (m : (ℓ : Loc nD τ sig) → Buf (Elt Ideal) ℓ) (c : Dev nD) (t : Fin cfg0.N) (cp : Vec Ideal S1x8x512 .f32) (lp : Vec Ideal S1x512 .f32) (sp : Vec Ideal S1x4x8x128 .f32)

/-- A block's 512 rows are rows of the array. -/
theorem t_lt : t.val * 512 + 512 ≤ 16384 := by
  have h : t.val < 32 := lt_of_lt_of_eq t.isLt (by decide)
  omega

/-- The block's rows of the layer's input are the argument's. -/
theorem rel_b0 : ∀ (r : Fin 512) (k : Fin 1024), (blkOf m c t cp lp sp).b0 (ix2 r k) = (argsK m c).a0 (ix2 ⟨t.val * 512 + r.val, by have := t_lt t; omega⟩ k) := by
  intro r k
  exact read0 m c t r k _

/-- The block's first norm's gain is the argument's. -/
theorem rel_b4 : ∀ k : Fin 1024, (blkOf m c t cp lp sp).b4 (ix2 0 k) = (argsK m c).a5 (ix1 k) := by
  intro k
  exact read4 m c t k

/-- The block's input projection is the argument's. -/
theorem rel_b5 : ∀ (k : Fin 1024) (j : Fin 1536), (blkOf m c t cp lp sp).b5 (ix2 k j) = (argsK m c).a6 (ix2 k j) := by
  intro k j
  exact read5 m c t k j

/-- The block's convolution's weights are the argument's. -/
theorem rel_b6 : ∀ (k : Fin 4) (j : Fin 512), (blkOf m c t cp lp sp).b6 (ix2 k j) = (argsK m c).a7 (ix2 k j) := by
  intro k j
  exact read6 m c t k j

/-- The block's convolution's bias is the argument's. -/
theorem rel_b7 : ∀ j : Fin 512, (blkOf m c t cp lp sp).b7 (ix2 0 j) = (argsK m c).a8 (ix1 j) := by
  intro j
  exact read7 m c t j

/-- The block's gates' weights are the argument's. -/
theorem rel_b8 : ∀ (h : Fin 2) (i : Fin 256) (j : Fin 512), (blkOf m c t cp lp sp).b8 (ix3 h i j) = wGate (argsK m c).a9 (argsK m c).a11 (ix3 h i j) := by
  intro h i j
  exact read8 m c t h i j

/-- The block's recurrence gate bias is the argument's. -/
theorem rel_b9a : ∀ j : Fin 512, (blkOf m c t cp lp sp).b9 (ix2 0 j) = (argsK m c).a10 (ix1 j) := by
  intro j
  exact (read9 m c t 0 j).trans (dif_pos (by decide))

/-- The block's input gate bias is the argument's. -/
theorem rel_b9x : ∀ j : Fin 512, (blkOf m c t cp lp sp).b9 (ix2 1 j) = (argsK m c).a12 (ix1 j) := by
  intro j
  exact (read9 m c t 1 j).trans (dif_neg (by decide))

/-- The block's RG-LRU parameter is the argument's. -/
theorem rel_b10 : ∀ j : Fin 512, (blkOf m c t cp lp sp).b10 (ix2 0 j) = (argsK m c).a13 (ix1 j) := by
  intro j
  exact read10 m c t j

/-- The block's real part of the discretised S5 transition is the argument's. -/
theorem rel_b11 : ∀ (h : Fin 2) (s : Fin 8) (l : Fin 128), (blkOf m c t cp lp sp).b11 (ix3 h s l) = (argsK m c).a14 (ix2 ⟨h.val * 16 + s.val * 2 + l.val / 64, by omega⟩ ⟨l.val % 64, by omega⟩) := by
  intro h s l
  exact read11 m c t h s l

/-- The block's imaginary part of the discretised S5 transition is the argument's. -/
theorem rel_b12 : ∀ (h : Fin 2) (s : Fin 8) (l : Fin 128), (blkOf m c t cp lp sp).b12 (ix3 h s l) = (argsK m c).a15 (ix2 ⟨h.val * 16 + s.val * 2 + l.val / 64, by omega⟩ ⟨l.val % 64, by omega⟩) := by
  intro h s l
  exact read12 m c t h s l

/-- The block's S5 input weights are the argument's. -/
theorem rel_b13 : ∀ (q : Fin 4) (i : Fin 128) (j : Fin 1024), (blkOf m c t cp lp sp).b13 (ix3 q i j) = wIn (argsK m c).a16 (argsK m c).a17 (ix3 q i j) := by
  intro q i j
  exact read13 m c t q i j

/-- The block's S5 output weights are the argument's. -/
theorem rel_b14 : ∀ (s : Fin 16) (i : Fin 256) (j : Fin 128), (blkOf m c t cp lp sp).b14 (ix3 s i j) = wOut (argsK m c).a18 (argsK m c).a19 (ix3 s i j) := by
  intro s i j
  exact read14 m c t s i j

/-- The block's S5 skip weights are the argument's. -/
theorem rel_b15 : ∀ j : Fin 512, (blkOf m c t cp lp sp).b15 (ix2 0 j) = (argsK m c).a20 (ix1 j) := by
  intro j
  exact read15 m c t j

/-- The block's output gate's weights are the argument's. -/
theorem rel_b16 : ∀ k j : Fin 512, (blkOf m c t cp lp sp).b16 (ix2 k j) = (argsK m c).a21 (ix2 k j) := by
  intro k j
  exact read16 m c t k j

/-- The block's output gate's bias is the argument's. -/
theorem rel_b17 : ∀ j : Fin 512, (blkOf m c t cp lp sp).b17 (ix2 0 j) = (argsK m c).a22 (ix1 j) := by
  intro j
  exact read17 m c t j

/-- The block's RG-LRU norm's gain is the argument's. -/
theorem rel_b18 : ∀ j : Fin 512, (blkOf m c t cp lp sp).b18 (ix2 0 j) = (argsK m c).a23 (ix1 j) := by
  intro j
  exact read18 m c t j

/-- The block's S5 norm's gain is the argument's. -/
theorem rel_b19 : ∀ j : Fin 512, (blkOf m c t cp lp sp).b19 (ix2 0 j) = (argsK m c).a24 (ix1 j) := by
  intro j
  exact read19 m c t j

/-- The block's output projection is the argument's. -/
theorem rel_b20 : ∀ k j : Fin 1024, (blkOf m c t cp lp sp).b20 (ix2 k j) = (argsK m c).a25 (ix2 k j) := by
  intro k j
  exact read20 m c t k j

/-- Every grid step's blocks are the arguments' rows and weights. -/
theorem rel : Rel (blkOf m c t cp lp sp) (argsK m c) (t.val * 512) where
  hT := t_lt t
  b0 := rel_b0 m c t cp lp sp
  b4 := rel_b4 m c t cp lp sp
  b5 := rel_b5 m c t cp lp sp
  b6 := rel_b6 m c t cp lp sp
  b7 := rel_b7 m c t cp lp sp
  b8 := rel_b8 m c t cp lp sp
  b9a := rel_b9a m c t cp lp sp
  b9x := rel_b9x m c t cp lp sp
  b10 := rel_b10 m c t cp lp sp
  b11 := rel_b11 m c t cp lp sp
  b12 := rel_b12 m c t cp lp sp
  b13 := rel_b13 m c t cp lp sp
  b14 := rel_b14 m c t cp lp sp
  b15 := rel_b15 m c t cp lp sp
  b16 := rel_b16 m c t cp lp sp
  b17 := rel_b17 m c t cp lp sp
  b18 := rel_b18 m c t cp lp sp
  b19 := rel_b19 m c t cp lp sp
  b20 := rel_b20 m c t cp lp sp

end Cert.KernelIdeal.Final

end
-- ==== Proof.KIn0.lean ====
/- The inputs of the state space, element by element: half 0. -/
module

public import proofs.«01_k».proof.Proof.KVal1

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen

variable (us : FVec Ideal S512x512 .f32) (W : Vec Ideal S1x128x1024 .bf16) (r : Fin 512) (l : Fin 128)

/-- The S5 input product stored in slab 0, row 0 of eight, as one sum. -/
theorem in_0_0 : (k0_pay51 us W : FVec Ideal S1x512x128 .f32) (ix3 0 r l) = ∑ i : Fin 128, us (ix2 r ⟨0 + i.val, by omega⟩) * W (ix3 0 i ⟨0 + l.val, by omega⟩) := by
  unfold k0_pay51
  try simp only [k0_pay79, k0_pay78, k0_pay69, k0_pay62, k0_pay59, k0_pay50, k0_pay49]
  pointwise []

/-- The S5 input product stored in slab 0, row 1 of eight, as one sum. -/
theorem in_0_1 : (k0_pay53 us W : FVec Ideal S1x512x128 .f32) (ix3 0 r l) = ∑ i : Fin 128, us (ix2 r ⟨0 + i.val, by omega⟩) * W (ix3 0 i ⟨256 + l.val, by omega⟩) := by
  unfold k0_pay53
  try simp only [k0_pay79, k0_pay78, k0_pay69, k0_pay62, k0_pay59, k0_pay50, k0_pay49]
  pointwise []

/-- The S5 input product stored in slab 0, row 2 of eight, as one sum. -/
theorem in_0_2 : (k0_pay55 (k0_pay50 us W) : FVec Ideal S1x512x128 .f32) (ix3 0 r l) = ∑ i : Fin 128, us (ix2 r ⟨0 + i.val, by omega⟩) * W (ix3 0 i ⟨512 + l.val, by omega⟩) := by
  unfold k0_pay55
  try simp only [k0_pay79, k0_pay78, k0_pay69, k0_pay62, k0_pay59, k0_pay50, k0_pay49]
  pointwise []

/-- The S5 input product stored in slab 0, row 3 of eight, as one sum. -/
theorem in_0_3 : (k0_pay57 (k0_pay50 us W) : FVec Ideal S1x512x128 .f32) (ix3 0 r l) = ∑ i : Fin 128, us (ix2 r ⟨0 + i.val, by omega⟩) * W (ix3 0 i ⟨768 + l.val, by omega⟩) := by
  unfold k0_pay57
  try simp only [k0_pay79, k0_pay78, k0_pay69, k0_pay62, k0_pay59, k0_pay50, k0_pay49]
  pointwise []

/-- The S5 input product stored in slab 0, row 4 of eight, as one sum. -/
theorem in_0_4 : (k0_pay60 (k0_pay49 us) W : FVec Ideal S1x512x128 .f32) (ix3 0 r l) = ∑ i : Fin 128, us (ix2 r ⟨128 + i.val, by omega⟩) * W (ix3 0 i ⟨0 + l.val, by omega⟩) := by
  unfold k0_pay60
  try simp only [k0_pay79, k0_pay78, k0_pay69, k0_pay62, k0_pay59, k0_pay50, k0_pay49]
  pointwise []

/-- The S5 input product stored in slab 0, row 5 of eight, as one sum. -/
theorem in_0_5 : (k0_pay63 (k0_pay62 (k0_pay49 us) W) : FVec Ideal S1x512x128 .f32) (ix3 0 r l) = ∑ i : Fin 128, us (ix2 r ⟨128 + i.val, by omega⟩) * W (ix3 0 i ⟨256 + l.val, by omega⟩) := by
  unfold k0_pay63
  try simp only [k0_pay79, k0_pay78, k0_pay69, k0_pay62, k0_pay59, k0_pay50, k0_pay49]
  pointwise []

/-- The S5 input product stored in slab 0, row 6 of eight, as one sum. -/
theorem in_0_6 : (k0_pay65 (k0_pay59 (k0_pay49 us) W) : FVec Ideal S1x512x128 .f32) (ix3 0 r l) = ∑ i : Fin 128, us (ix2 r ⟨128 + i.val, by omega⟩) * W (ix3 0 i ⟨512 + l.val, by omega⟩) := by
  unfold k0_pay65
  try simp only [k0_pay79, k0_pay78, k0_pay69, k0_pay62, k0_pay59, k0_pay50, k0_pay49]
  pointwise []

/-- The S5 input product stored in slab 0, row 7 of eight, as one sum. -/
theorem in_0_7 : (k0_pay67 (k0_pay59 (k0_pay49 us) W) : FVec Ideal S1x512x128 .f32) (ix3 0 r l) = ∑ i : Fin 128, us (ix2 r ⟨128 + i.val, by omega⟩) * W (ix3 0 i ⟨768 + l.val, by omega⟩) := by
  unfold k0_pay67
  try simp only [k0_pay79, k0_pay78, k0_pay69, k0_pay62, k0_pay59, k0_pay50, k0_pay49]
  pointwise []

/-- The S5 input product stored in slab 2, row 0 of eight, as one sum. -/
theorem in_2_0 : (k0_pay52 us W : FVec Ideal S1x512x128 .f32) (ix3 0 r l) = ∑ i : Fin 128, us (ix2 r ⟨0 + i.val, by omega⟩) * W (ix3 0 i ⟨128 + l.val, by omega⟩) := by
  unfold k0_pay52
  try simp only [k0_pay79, k0_pay78, k0_pay69, k0_pay62, k0_pay59, k0_pay50, k0_pay49]
  pointwise []

/-- The S5 input product stored in slab 2, row 1 of eight, as one sum. -/
theorem in_2_1 : (k0_pay54 us W : FVec Ideal S1x512x128 .f32) (ix3 0 r l) = ∑ i : Fin 128, us (ix2 r ⟨0 + i.val, by omega⟩) * W (ix3 0 i ⟨384 + l.val, by omega⟩) := by
  unfold k0_pay54
  try simp only [k0_pay79, k0_pay78, k0_pay69, k0_pay62, k0_pay59, k0_pay50, k0_pay49]
  pointwise []

/-- The S5 input product stored in slab 2, row 2 of eight, as one sum. -/
theorem in_2_2 : (k0_pay56 (k0_pay50 us W) : FVec Ideal S1x512x128 .f32) (ix3 0 r l) = ∑ i : Fin 128, us (ix2 r ⟨0 + i.val, by omega⟩) * W (ix3 0 i ⟨640 + l.val, by omega⟩) := by
  unfold k0_pay56
  try simp only [k0_pay79, k0_pay78, k0_pay69, k0_pay62, k0_pay59, k0_pay50, k0_pay49]
  pointwise []

/-- The S5 input product stored in slab 2, row 3 of eight, as one sum. -/
theorem in_2_3 : (k0_pay58 (k0_pay50 us W) : FVec Ideal S1x512x128 .f32) (ix3 0 r l) = ∑ i : Fin 128, us (ix2 r ⟨0 + i.val, by omega⟩) * W (ix3 0 i ⟨896 + l.val, by omega⟩) := by
  unfold k0_pay58
  try simp only [k0_pay79, k0_pay78, k0_pay69, k0_pay62, k0_pay59, k0_pay50, k0_pay49]
  pointwise []

/-- The S5 input product stored in slab 2, row 4 of eight, as one sum. -/
theorem in_2_4 : (k0_pay61 (k0_pay49 us) W : FVec Ideal S1x512x128 .f32) (ix3 0 r l) = ∑ i : Fin 128, us (ix2 r ⟨128 + i.val, by omega⟩) * W (ix3 0 i ⟨128 + l.val, by omega⟩) := by
  unfold k0_pay61
  try simp only [k0_pay79, k0_pay78, k0_pay69, k0_pay62, k0_pay59, k0_pay50, k0_pay49]
  pointwise []

/-- The S5 input product stored in slab 2, row 5 of eight, as one sum. -/
theorem in_2_5 : (k0_pay64 (k0_pay59 (k0_pay49 us) W) : FVec Ideal S1x512x128 .f32) (ix3 0 r l) = ∑ i : Fin 128, us (ix2 r ⟨128 + i.val, by omega⟩) * W (ix3 0 i ⟨384 + l.val, by omega⟩) := by
  unfold k0_pay64
  try simp only [k0_pay79, k0_pay78, k0_pay69, k0_pay62, k0_pay59, k0_pay50, k0_pay49]
  pointwise []

/-- The S5 input product stored in slab 2, row 6 of eight, as one sum. -/
theorem in_2_6 : (k0_pay66 (k0_pay59 (k0_pay49 us) W) : FVec Ideal S1x512x128 .f32) (ix3 0 r l) = ∑ i : Fin 128, us (ix2 r ⟨128 + i.val, by omega⟩) * W (ix3 0 i ⟨640 + l.val, by omega⟩) := by
  unfold k0_pay66
  try simp only [k0_pay79, k0_pay78, k0_pay69, k0_pay62, k0_pay59, k0_pay50, k0_pay49]
  pointwise []

/-- The S5 input product stored in slab 2, row 7 of eight, as one sum. -/
theorem in_2_7 : (k0_pay68 (k0_pay59 (k0_pay49 us) W) : FVec Ideal S1x512x128 .f32) (ix3 0 r l) = ∑ i : Fin 128, us (ix2 r ⟨128 + i.val, by omega⟩) * W (ix3 0 i ⟨896 + l.val, by omega⟩) := by
  unfold k0_pay68
  try simp only [k0_pay79, k0_pay78, k0_pay69, k0_pay62, k0_pay59, k0_pay50, k0_pay49]
  pointwise []

end Cert.KernelIdeal.Final

end
-- ==== Proof.KIn1.lean ====
/- The inputs of the state space, element by element: half 1. -/
module

public import proofs.«01_k».proof.Proof.KVal1

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen

variable (us : FVec Ideal S512x512 .f32) (W : Vec Ideal S1x128x1024 .bf16) (r : Fin 512) (l : Fin 128)

/-- The S5 input product stored in slab 1, row 0 of eight, as one sum. -/
theorem in_1_0 : (k0_pay70 (k0_pay49 us) W : FVec Ideal S1x512x128 .f32) (ix3 0 r l) = ∑ i : Fin 128, us (ix2 r ⟨256 + i.val, by omega⟩) * W (ix3 0 i ⟨0 + l.val, by omega⟩) := by
  unfold k0_pay70
  try simp only [k0_pay79, k0_pay78, k0_pay69, k0_pay62, k0_pay59, k0_pay50, k0_pay49]
  pointwise []

/-- The S5 input product stored in slab 1, row 1 of eight, as one sum. -/
theorem in_1_1 : (k0_pay72 (k0_pay69 (k0_pay49 us) W) : FVec Ideal S1x512x128 .f32) (ix3 0 r l) = ∑ i : Fin 128, us (ix2 r ⟨256 + i.val, by omega⟩) * W (ix3 0 i ⟨256 + l.val, by omega⟩) := by
  unfold k0_pay72
  try simp only [k0_pay79, k0_pay78, k0_pay69, k0_pay62, k0_pay59, k0_pay50, k0_pay49]
  pointwise []

/-- The S5 input product stored in slab 1, row 2 of eight, as one sum. -/
theorem in_1_2 : (k0_pay74 (k0_pay69 (k0_pay49 us) W) : FVec Ideal S1x512x128 .f32) (ix3 0 r l) = ∑ i : Fin 128, us (ix2 r ⟨256 + i.val, by omega⟩) * W (ix3 0 i ⟨512 + l.val, by omega⟩) := by
  unfold k0_pay74
  try simp only [k0_pay79, k0_pay78, k0_pay69, k0_pay62, k0_pay59, k0_pay50, k0_pay49]
  pointwise []

/-- The S5 input product stored in slab 1, row 3 of eight, as one sum. -/
theorem in_1_3 : (k0_pay76 (k0_pay69 (k0_pay49 us) W) : FVec Ideal S1x512x128 .f32) (ix3 0 r l) = ∑ i : Fin 128, us (ix2 r ⟨256 + i.val, by omega⟩) * W (ix3 0 i ⟨768 + l.val, by omega⟩) := by
  unfold k0_pay76
  try simp only [k0_pay79, k0_pay78, k0_pay69, k0_pay62, k0_pay59, k0_pay50, k0_pay49]
  pointwise []

/-- The S5 input product stored in slab 1, row 4 of eight, as one sum. -/
theorem in_1_4 : (k0_pay80 (k0_pay78 (k0_pay49 us)) W : FVec Ideal S1x512x128 .f32) (ix3 0 r l) = ∑ i : Fin 128, us (ix2 r ⟨384 + i.val, by omega⟩) * W (ix3 0 i ⟨0 + l.val, by omega⟩) := by
  unfold k0_pay80
  try simp only [k0_pay79, k0_pay78, k0_pay69, k0_pay62, k0_pay59, k0_pay50, k0_pay49]
  pointwise []

/-- The S5 input product stored in slab 1, row 5 of eight, as one sum. -/
theorem in_1_5 : (k0_pay82 (k0_pay78 (k0_pay49 us)) W : FVec Ideal S1x512x128 .f32) (ix3 0 r l) = ∑ i : Fin 128, us (ix2 r ⟨384 + i.val, by omega⟩) * W (ix3 0 i ⟨256 + l.val, by omega⟩) := by
  unfold k0_pay82
  try simp only [k0_pay79, k0_pay78, k0_pay69, k0_pay62, k0_pay59, k0_pay50, k0_pay49]
  pointwise []

/-- The S5 input product stored in slab 1, row 6 of eight, as one sum. -/
theorem in_1_6 : (k0_pay84 (k0_pay78 (k0_pay49 us)) W : FVec Ideal S1x512x128 .f32) (ix3 0 r l) = ∑ i : Fin 128, us (ix2 r ⟨384 + i.val, by omega⟩) * W (ix3 0 i ⟨512 + l.val, by omega⟩) := by
  unfold k0_pay84
  try simp only [k0_pay79, k0_pay78, k0_pay69, k0_pay62, k0_pay59, k0_pay50, k0_pay49]
  pointwise []

/-- The S5 input product stored in slab 1, row 7 of eight, as one sum. -/
theorem in_1_7 : (k0_pay86 (k0_pay78 (k0_pay49 us)) W : FVec Ideal S1x512x128 .f32) (ix3 0 r l) = ∑ i : Fin 128, us (ix2 r ⟨384 + i.val, by omega⟩) * W (ix3 0 i ⟨768 + l.val, by omega⟩) := by
  unfold k0_pay86
  try simp only [k0_pay79, k0_pay78, k0_pay69, k0_pay62, k0_pay59, k0_pay50, k0_pay49]
  pointwise []

/-- The S5 input product stored in slab 3, row 0 of eight, as one sum. -/
theorem in_3_0 : (k0_pay71 (k0_pay69 (k0_pay49 us) W) : FVec Ideal S1x512x128 .f32) (ix3 0 r l) = ∑ i : Fin 128, us (ix2 r ⟨256 + i.val, by omega⟩) * W (ix3 0 i ⟨128 + l.val, by omega⟩) := by
  unfold k0_pay71
  try simp only [k0_pay79, k0_pay78, k0_pay69, k0_pay62, k0_pay59, k0_pay50, k0_pay49]
  pointwise []

/-- The S5 input product stored in slab 3, row 1 of eight, as one sum. -/
theorem in_3_1 : (k0_pay73 (k0_pay69 (k0_pay49 us) W) : FVec Ideal S1x512x128 .f32) (ix3 0 r l) = ∑ i : Fin 128, us (ix2 r ⟨256 + i.val, by omega⟩) * W (ix3 0 i ⟨384 + l.val, by omega⟩) := by
  unfold k0_pay73
  try simp only [k0_pay79, k0_pay78, k0_pay69, k0_pay62, k0_pay59, k0_pay50, k0_pay49]
  pointwise []

/-- The S5 input product stored in slab 3, row 2 of eight, as one sum. -/
theorem in_3_2 : (k0_pay75 (k0_pay69 (k0_pay49 us) W) : FVec Ideal S1x512x128 .f32) (ix3 0 r l) = ∑ i : Fin 128, us (ix2 r ⟨256 + i.val, by omega⟩) * W (ix3 0 i ⟨640 + l.val, by omega⟩) := by
  unfold k0_pay75
  try simp only [k0_pay79, k0_pay78, k0_pay69, k0_pay62, k0_pay59, k0_pay50, k0_pay49]
  pointwise []

/-- The S5 input product stored in slab 3, row 3 of eight, as one sum. -/
theorem in_3_3 : (k0_pay77 (k0_pay69 (k0_pay49 us) W) : FVec Ideal S1x512x128 .f32) (ix3 0 r l) = ∑ i : Fin 128, us (ix2 r ⟨256 + i.val, by omega⟩) * W (ix3 0 i ⟨896 + l.val, by omega⟩) := by
  unfold k0_pay77
  try simp only [k0_pay79, k0_pay78, k0_pay69, k0_pay62, k0_pay59, k0_pay50, k0_pay49]
  pointwise []

/-- The S5 input product stored in slab 3, row 4 of eight, as one sum. -/
theorem in_3_4 : (k0_pay81 (k0_pay78 (k0_pay49 us)) W : FVec Ideal S1x512x128 .f32) (ix3 0 r l) = ∑ i : Fin 128, us (ix2 r ⟨384 + i.val, by omega⟩) * W (ix3 0 i ⟨128 + l.val, by omega⟩) := by
  unfold k0_pay81
  try simp only [k0_pay79, k0_pay78, k0_pay69, k0_pay62, k0_pay59, k0_pay50, k0_pay49]
  pointwise []

/-- The S5 input product stored in slab 3, row 5 of eight, as one sum. -/
theorem in_3_5 : (k0_pay83 (k0_pay78 (k0_pay49 us)) W : FVec Ideal S1x512x128 .f32) (ix3 0 r l) = ∑ i : Fin 128, us (ix2 r ⟨384 + i.val, by omega⟩) * W (ix3 0 i ⟨384 + l.val, by omega⟩) := by
  unfold k0_pay83
  try simp only [k0_pay79, k0_pay78, k0_pay69, k0_pay62, k0_pay59, k0_pay50, k0_pay49]
  pointwise []

/-- The S5 input product stored in slab 3, row 6 of eight, as one sum. -/
theorem in_3_6 : (k0_pay85 (k0_pay78 (k0_pay49 us)) W : FVec Ideal S1x512x128 .f32) (ix3 0 r l) = ∑ i : Fin 128, us (ix2 r ⟨384 + i.val, by omega⟩) * W (ix3 0 i ⟨640 + l.val, by omega⟩) := by
  unfold k0_pay85
  try simp only [k0_pay79, k0_pay78, k0_pay69, k0_pay62, k0_pay59, k0_pay50, k0_pay49]
  pointwise []

/-- The S5 input product stored in slab 3, row 7 of eight, as one sum. -/
theorem in_3_7 : (k0_pay87 (k0_pay79 (k0_pay78 (k0_pay49 us)) W) : FVec Ideal S1x512x128 .f32) (ix3 0 r l) = ∑ i : Fin 128, us (ix2 r ⟨384 + i.val, by omega⟩) * W (ix3 0 i ⟨896 + l.val, by omega⟩) := by
  unfold k0_pay87
  try simp only [k0_pay79, k0_pay78, k0_pay69, k0_pay62, k0_pay59, k0_pay50, k0_pay49]
  pointwise []

end Cert.KernelIdeal.Final

end
-- ==== Proof.KSin.lean ====
/- The inputs of the state space, as a grid step stores them. -/
module

public import proofs.«01_k».proof.Proof.KOut
public import proofs.«01_k».proof.Proof.KIn0
public import proofs.«01_k».proof.Proof.KIn1
public import proofs.«01_k».proof.Proof.KBridge

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

/-- The strided rectangle of a slab and a row of eight lies inside the scratch array. -/
theorem strInb (q : Fin 4) (s : Fin 8) : ∀ a, S1x512x128.size a = 0 ∨ (![q.val, s.val, 0] : Fin 3 → ℕ) a + (![1, 8, 1] : Fin 3 → ℕ) a * (S1x512x128.size a - 1) < S4x4096x128.size a := by
  intro a
  right
  fin_cases a
  · show q.val + 1 * 0 < 4; omega
  · show s.val + 8 * 511 < 4096; omega
  · show 0 + 1 * 127 < 128; omega

/-- One row of eight, of a slab. -/
abbrev strR (q : Fin 4) (s : Fin 8) : Rect S4x4096x128 :=
  { off := ![q.val, s.val, 0], size := S1x512x128.size, stride := ![1, 8, 1], inb := strInb q s, stride_pos := spos_1_8_1 }

/-- Where a point of the strided rectangle lies. -/
theorem str_idx (q : Fin 4) (s : Fin 8) (n : Fin 512) (l : Fin 128) : (strR q s).emb (ix3 0 n l) = ix3 q ⟨8 * n.val + s.val, by omega⟩ l := by
  funext a
  fin_cases a
  · apply Fin.ext; show q.val + 1 * 0 = q.val; omega
  · apply Fin.ext; show s.val + 8 * n.val = 8 * n.val + s.val; omega
  · apply Fin.ext; show 0 + 1 * l.val = l.val; omega

/-- A point of another slab or row of eight is not in the strided rectangle. -/
theorem str_not_mem (q q' : Fin 4) (s s' : Fin 8) (n : Fin 512) (l : Fin 128) (h : q' ≠ q ∨ s' ≠ s) :
    (ix3 q ⟨8 * n.val + s.val, by omega⟩ l : S4x4096x128.Idx) ∉ (strR q' s').set := by
  intro hm
  have hm' := (strR q' s').mem_set.mp hm
  obtain ⟨j0, h0, e0⟩ := hm' 0
  obtain ⟨j1, h1, e1⟩ := hm' 1
  have a0 : q.val = q'.val + 1 * j0 := e0
  have b0 : j0 < 1 := h0
  have a1 : 8 * n.val + s.val = s'.val + 8 * j1 := e1
  rcases h with h | h
  · exact h (Fin.ext (by omega))
  · exact h (Fin.ext (by omega))

/-- Reading outside the first strided piece of a list is reading the rest of the list. -/
theorem str_skip (q q' : Fin 4) (s s' : Fin 8) (n : Fin 512) (l : Fin 128) (h : q' ≠ q ∨ s' ≠ s) (P : Vec Ideal S1x512x128 .f32)
    (L : List (View.Piece (Elt Ideal) S4x4096x128 .f32)) :
    View.canon (⟨strR q' s', P⟩ :: L) (ix3 q ⟨8 * n.val + s.val, by omega⟩ l) = View.canon L (ix3 q ⟨8 * n.val + s.val, by omega⟩ l) :=
  View.canon_cons_of_not_mem _ _ (str_not_mem q q' s s' n l h)

/-- Reading inside the first strided piece of a list is reading the piece. -/
theorem str_hit (q : Fin 4) (s : Fin 8) (n : Fin 512) (l : Fin 128) (P : Vec Ideal S1x512x128 .f32)
    (L : List (View.Piece (Elt Ideal) S4x4096x128 .f32)) :
    View.canon (⟨strR q s, P⟩ :: L) (ix3 q ⟨8 * n.val + s.val, by omega⟩ l) = P (ix3 0 n l) := by
  rw [← str_idx q s n l]
  exact View.canon_cons_emb _ _ _ _

/-- Pieces stored one row of eight each: an element is what its piece stored. -/
theorem canon_str (P : Fin 4 → Fin 8 → Vec Ideal S1x512x128 .f32) (q : Fin 4) (s : Fin 8) (n : Fin 512) (l : Fin 128) :
    ∀ L : List (Fin 4 × Fin 8), (q, s) ∈ L →
      View.canon (L.map fun a => (⟨strR a.1 a.2, P a.1 a.2⟩ : View.Piece (Elt Ideal) S4x4096x128 .f32)) (ix3 q ⟨8 * n.val + s.val, by omega⟩ l) = P q s (ix3 0 n l)
  | [], h => absurd h (by simp)
  | a :: L, h => by
    by_cases ha : a = (q, s)
    · subst ha
      exact str_hit q s n l _ _
    · refine (str_skip q a.1 s a.2 n l ?_ _ _).trans (canon_str P q s n l L ?_)
      · by_contra hc
        push Not at hc
        exact ha (Prod.ext hc.1 hc.2)
      · rcases List.mem_cons.mp h with e | e
        · exact absurd e.symm ha
        · exact e

/-- What is stored for every slab and row of eight. -/
def sP (X : Blk) : Fin 4 → Fin 8 → Vec Ideal S1x512x128 .f32 :=
  ![![k0_pay51 (k0_pay12 X.b0 X.b4 X.b5) (View.ld X.b13 (Rect.unit (s := S4x128x1024) ![0, 0, 0] S1x128x1024.size inb_S4x128x1024_S1x128x1024_0_0_0)),
      k0_pay53 (k0_pay12 X.b0 X.b4 X.b5) (View.ld X.b13 (Rect.unit (s := S4x128x1024) ![0, 0, 0] S1x128x1024.size inb_S4x128x1024_S1x128x1024_0_0_0)),
      k0_pay55 (k0_pay50 (k0_pay12 X.b0 X.b4 X.b5) (View.ld X.b13 (Rect.unit (s := S4x128x1024) ![0, 0, 0] S1x128x1024.size inb_S4x128x1024_S1x128x1024_0_0_0))),
      k0_pay57 (k0_pay50 (k0_pay12 X.b0 X.b4 X.b5) (View.ld X.b13 (Rect.unit (s := S4x128x1024) ![0, 0, 0] S1x128x1024.size inb_S4x128x1024_S1x128x1024_0_0_0))),
      k0_pay60 (k0_pay49 (k0_pay12 X.b0 X.b4 X.b5)) (View.ld X.b13 (Rect.unit (s := S4x128x1024) ![1, 0, 0] S1x128x1024.size inb_S4x128x1024_S1x128x1024_1_0_0)),
      k0_pay63 (k0_pay62 (k0_pay49 (k0_pay12 X.b0 X.b4 X.b5)) (View.ld X.b13 (Rect.unit (s := S4x128x1024) ![1, 0, 0] S1x128x1024.size inb_S4x128x1024_S1x128x1024_1_0_0))),
      k0_pay65 (k0_pay59 (k0_pay49 (k0_pay12 X.b0 X.b4 X.b5)) (View.ld X.b13 (Rect.unit (s := S4x128x1024) ![1, 0, 0] S1x128x1024.size inb_S4x128x1024_S1x128x1024_1_0_0))),
      k0_pay67 (k0_pay59 (k0_pay49 (k0_pay12 X.b0 X.b4 X.b5)) (View.ld X.b13 (Rect.unit (s := S4x128x1024) ![1, 0, 0] S1x128x1024.size inb_S4x128x1024_S1x128x1024_1_0_0)))],
    ![k0_pay70 (k0_pay49 (k0_pay12 X.b0 X.b4 X.b5)) (View.ld X.b13 (Rect.unit (s := S4x128x1024) ![2, 0, 0] S1x128x1024.size inb_S4x128x1024_S1x128x1024_2_0_0)),
      k0_pay72 (k0_pay69 (k0_pay49 (k0_pay12 X.b0 X.b4 X.b5)) (View.ld X.b13 (Rect.unit (s := S4x128x1024) ![2, 0, 0] S1x128x1024.size inb_S4x128x1024_S1x128x1024_2_0_0))),
      k0_pay74 (k0_pay69 (k0_pay49 (k0_pay12 X.b0 X.b4 X.b5)) (View.ld X.b13 (Rect.unit (s := S4x128x1024) ![2, 0, 0] S1x128x1024.size inb_S4x128x1024_S1x128x1024_2_0_0))),
      k0_pay76 (k0_pay69 (k0_pay49 (k0_pay12 X.b0 X.b4 X.b5)) (View.ld X.b13 (Rect.unit (s := S4x128x1024) ![2, 0, 0] S1x128x1024.size inb_S4x128x1024_S1x128x1024_2_0_0))),
      k0_pay80 (k0_pay78 (k0_pay49 (k0_pay12 X.b0 X.b4 X.b5))) (View.ld X.b13 (Rect.unit (s := S4x128x1024) ![3, 0, 0] S1x128x1024.size inb_S4x128x1024_S1x128x1024_3_0_0)),
      k0_pay82 (k0_pay78 (k0_pay49 (k0_pay12 X.b0 X.b4 X.b5))) (View.ld X.b13 (Rect.unit (s := S4x128x1024) ![3, 0, 0] S1x128x1024.size inb_S4x128x1024_S1x128x1024_3_0_0)),
      k0_pay84 (k0_pay78 (k0_pay49 (k0_pay12 X.b0 X.b4 X.b5))) (View.ld X.b13 (Rect.unit (s := S4x128x1024) ![3, 0, 0] S1x128x1024.size inb_S4x128x1024_S1x128x1024_3_0_0)),
      k0_pay86 (k0_pay78 (k0_pay49 (k0_pay12 X.b0 X.b4 X.b5))) (View.ld X.b13 (Rect.unit (s := S4x128x1024) ![3, 0, 0] S1x128x1024.size inb_S4x128x1024_S1x128x1024_3_0_0))],
    ![k0_pay52 (k0_pay12 X.b0 X.b4 X.b5) (View.ld X.b13 (Rect.unit (s := S4x128x1024) ![0, 0, 0] S1x128x1024.size inb_S4x128x1024_S1x128x1024_0_0_0)),
      k0_pay54 (k0_pay12 X.b0 X.b4 X.b5) (View.ld X.b13 (Rect.unit (s := S4x128x1024) ![0, 0, 0] S1x128x1024.size inb_S4x128x1024_S1x128x1024_0_0_0)),
      k0_pay56 (k0_pay50 (k0_pay12 X.b0 X.b4 X.b5) (View.ld X.b13 (Rect.unit (s := S4x128x1024) ![0, 0, 0] S1x128x1024.size inb_S4x128x1024_S1x128x1024_0_0_0))),
      k0_pay58 (k0_pay50 (k0_pay12 X.b0 X.b4 X.b5) (View.ld X.b13 (Rect.unit (s := S4x128x1024) ![0, 0, 0] S1x128x1024.size inb_S4x128x1024_S1x128x1024_0_0_0))),
      k0_pay61 (k0_pay49 (k0_pay12 X.b0 X.b4 X.b5)) (View.ld X.b13 (Rect.unit (s := S4x128x1024) ![1, 0, 0] S1x128x1024.size inb_S4x128x1024_S1x128x1024_1_0_0)),
      k0_pay64 (k0_pay59 (k0_pay49 (k0_pay12 X.b0 X.b4 X.b5)) (View.ld X.b13 (Rect.unit (s := S4x128x1024) ![1, 0, 0] S1x128x1024.size inb_S4x128x1024_S1x128x1024_1_0_0))),
      k0_pay66 (k0_pay59 (k0_pay49 (k0_pay12 X.b0 X.b4 X.b5)) (View.ld X.b13 (Rect.unit (s := S4x128x1024) ![1, 0, 0] S1x128x1024.size inb_S4x128x1024_S1x128x1024_1_0_0))),
      k0_pay68 (k0_pay59 (k0_pay49 (k0_pay12 X.b0 X.b4 X.b5)) (View.ld X.b13 (Rect.unit (s := S4x128x1024) ![1, 0, 0] S1x128x1024.size inb_S4x128x1024_S1x128x1024_1_0_0)))],
    ![k0_pay71 (k0_pay69 (k0_pay49 (k0_pay12 X.b0 X.b4 X.b5)) (View.ld X.b13 (Rect.unit (s := S4x128x1024) ![2, 0, 0] S1x128x1024.size inb_S4x128x1024_S1x128x1024_2_0_0))),
      k0_pay73 (k0_pay69 (k0_pay49 (k0_pay12 X.b0 X.b4 X.b5)) (View.ld X.b13 (Rect.unit (s := S4x128x1024) ![2, 0, 0] S1x128x1024.size inb_S4x128x1024_S1x128x1024_2_0_0))),
      k0_pay75 (k0_pay69 (k0_pay49 (k0_pay12 X.b0 X.b4 X.b5)) (View.ld X.b13 (Rect.unit (s := S4x128x1024) ![2, 0, 0] S1x128x1024.size inb_S4x128x1024_S1x128x1024_2_0_0))),
      k0_pay77 (k0_pay69 (k0_pay49 (k0_pay12 X.b0 X.b4 X.b5)) (View.ld X.b13 (Rect.unit (s := S4x128x1024) ![2, 0, 0] S1x128x1024.size inb_S4x128x1024_S1x128x1024_2_0_0))),
      k0_pay81 (k0_pay78 (k0_pay49 (k0_pay12 X.b0 X.b4 X.b5))) (View.ld X.b13 (Rect.unit (s := S4x128x1024) ![3, 0, 0] S1x128x1024.size inb_S4x128x1024_S1x128x1024_3_0_0)),
      k0_pay83 (k0_pay78 (k0_pay49 (k0_pay12 X.b0 X.b4 X.b5))) (View.ld X.b13 (Rect.unit (s := S4x128x1024) ![3, 0, 0] S1x128x1024.size inb_S4x128x1024_S1x128x1024_3_0_0)),
      k0_pay85 (k0_pay78 (k0_pay49 (k0_pay12 X.b0 X.b4 X.b5))) (View.ld X.b13 (Rect.unit (s := S4x128x1024) ![3, 0, 0] S1x128x1024.size inb_S4x128x1024_S1x128x1024_3_0_0)),
      k0_pay87 (k0_pay79 (k0_pay78 (k0_pay49 (k0_pay12 X.b0 X.b4 X.b5))) (View.ld X.b13 (Rect.unit (s := S4x128x1024) ![3, 0, 0] S1x128x1024.size inb_S4x128x1024_S1x128x1024_3_0_0)))]]

/-- The order they are stored in, the last one first. -/
def sOrd : List (Fin 4 × Fin 8) := [(3, 7), (1, 7), (3, 6), (1, 6), (3, 5), (1, 5), (3, 4), (1, 4), (3, 3), (1, 3), (3, 2), (1, 2), (3, 1), (1, 1), (3, 0), (1, 0), (2, 7), (0, 7), (2, 6), (0, 6), (2, 5), (0, 5), (2, 4), (0, 4), (2, 3), (0, 3), (2, 2), (0, 2), (2, 1), (0, 1), (2, 0), (0, 0)]

/-- The list of stored pieces, the last stored first. -/
theorem sL_eq (X : Blk) : sL X = sOrd.map fun a => (⟨strR a.1 a.2, sP X a.1 a.2⟩ : View.Piece (Elt Ideal) S4x4096x128 .f32) := rfl

/-- Every slab and row of eight is stored. -/
theorem sOrd_all (q : Fin 4) (s : Fin 8) : (q, s) ∈ sOrd := by
  revert q s
  decide

/-- The scratch array holds, at a slab and a row of eight, the piece stored there. -/
theorem sL_at (X : Blk) (q : Fin 4) (s : Fin 8) (n : Fin 512) (l : Fin 128) :
    View.canon (sL X) (ix3 q ⟨8 * n.val + s.val, by omega⟩ l) = sP X q s (ix3 0 n l) := by
  rw [sL_eq]
  exact canon_str (sP X) q s n l sOrd (sOrd_all q s)

/-- A slab of the weights of the inputs. -/
theorem ld13 (B : Vec Ideal S4x128x1024 .bf16) (q : Fin 4) (inb : ∀ a, (![q.val, 0, 0] : Fin 3 → ℕ) a + S1x128x1024.size a ≤ S4x128x1024.size a) (i : Fin 128) (j : Fin 1024) :
    View.ld B (Rect.unit (s := S4x128x1024) ![q.val, 0, 0] S1x128x1024.size inb) (ix3 0 i j) = B (ix3 q i j) := by
  have e : (Rect.unit (s := S4x128x1024) ![q.val, 0, 0] S1x128x1024.size inb).idx (ix3 0 i j) = ix3 q i j := by
    funext a
    fin_cases a
    · apply Fin.ext; show q.val + 1 * 0 = q.val; omega
    · apply Fin.ext; show 0 + 1 * i.val = i.val; omega
    · apply Fin.ext; show 0 + 1 * j.val = j.val; omega
  exact congrArg B e

/-- Equal right factors give equal products. -/
theorem mulr {x y z : EReal} (h : y = z) : x * y = x * z := congrArg (x * ·) h

/-- The stored piece at a point: the S5 input product as one sum. -/
theorem sP_at (X : Blk) (q : Fin 4) (s : Fin 8) (n : Fin 512) (l : Fin 128) : sP X q s (ix3 0 n l) =
    ∑ i : Fin 128, k0_pay12 X.b0 X.b4 X.b5 (ix2 n ⟨(q.val % 2 * 2 + s.val / 4) * 128 + i.val, by omega⟩)
      * X.b13 (ix3 ⟨q.val % 2 * 2 + s.val / 4, by omega⟩ i ⟨s.val % 4 * 256 + q.val / 2 * 128 + l.val, by omega⟩) := by
  fin_cases q <;> fin_cases s
  · exact (in_0_0 _ _ n l).trans (Finset.sum_congr rfl fun i _ => mulr (ld13 X.b13 0 _ i _))
  · exact (in_0_1 _ _ n l).trans (Finset.sum_congr rfl fun i _ => mulr (ld13 X.b13 0 _ i _))
  · exact (in_0_2 _ _ n l).trans (Finset.sum_congr rfl fun i _ => mulr (ld13 X.b13 0 _ i _))
  · exact (in_0_3 _ _ n l).trans (Finset.sum_congr rfl fun i _ => mulr (ld13 X.b13 0 _ i _))
  · exact (in_0_4 _ _ n l).trans (Finset.sum_congr rfl fun i _ => mulr (ld13 X.b13 1 _ i _))
  · exact (in_0_5 _ _ n l).trans (Finset.sum_congr rfl fun i _ => mulr (ld13 X.b13 1 _ i _))
  · exact (in_0_6 _ _ n l).trans (Finset.sum_congr rfl fun i _ => mulr (ld13 X.b13 1 _ i _))
  · exact (in_0_7 _ _ n l).trans (Finset.sum_congr rfl fun i _ => mulr (ld13 X.b13 1 _ i _))
  · exact (in_1_0 _ _ n l).trans (Finset.sum_congr rfl fun i _ => mulr (ld13 X.b13 2 _ i _))
  · exact (in_1_1 _ _ n l).trans (Finset.sum_congr rfl fun i _ => mulr (ld13 X.b13 2 _ i _))
  · exact (in_1_2 _ _ n l).trans (Finset.sum_congr rfl fun i _ => mulr (ld13 X.b13 2 _ i _))
  · exact (in_1_3 _ _ n l).trans (Finset.sum_congr rfl fun i _ => mulr (ld13 X.b13 2 _ i _))
  · exact (in_1_4 _ _ n l).trans (Finset.sum_congr rfl fun i _ => mulr (ld13 X.b13 3 _ i _))
  · exact (in_1_5 _ _ n l).trans (Finset.sum_congr rfl fun i _ => mulr (ld13 X.b13 3 _ i _))
  · exact (in_1_6 _ _ n l).trans (Finset.sum_congr rfl fun i _ => mulr (ld13 X.b13 3 _ i _))
  · exact (in_1_7 _ _ n l).trans (Finset.sum_congr rfl fun i _ => mulr (ld13 X.b13 3 _ i _))
  · exact (in_2_0 _ _ n l).trans (Finset.sum_congr rfl fun i _ => mulr (ld13 X.b13 0 _ i _))
  · exact (in_2_1 _ _ n l).trans (Finset.sum_congr rfl fun i _ => mulr (ld13 X.b13 0 _ i _))
  · exact (in_2_2 _ _ n l).trans (Finset.sum_congr rfl fun i _ => mulr (ld13 X.b13 0 _ i _))
  · exact (in_2_3 _ _ n l).trans (Finset.sum_congr rfl fun i _ => mulr (ld13 X.b13 0 _ i _))
  · exact (in_2_4 _ _ n l).trans (Finset.sum_congr rfl fun i _ => mulr (ld13 X.b13 1 _ i _))
  · exact (in_2_5 _ _ n l).trans (Finset.sum_congr rfl fun i _ => mulr (ld13 X.b13 1 _ i _))
  · exact (in_2_6 _ _ n l).trans (Finset.sum_congr rfl fun i _ => mulr (ld13 X.b13 1 _ i _))
  · exact (in_2_7 _ _ n l).trans (Finset.sum_congr rfl fun i _ => mulr (ld13 X.b13 1 _ i _))
  · exact (in_3_0 _ _ n l).trans (Finset.sum_congr rfl fun i _ => mulr (ld13 X.b13 2 _ i _))
  · exact (in_3_1 _ _ n l).trans (Finset.sum_congr rfl fun i _ => mulr (ld13 X.b13 2 _ i _))
  · exact (in_3_2 _ _ n l).trans (Finset.sum_congr rfl fun i _ => mulr (ld13 X.b13 2 _ i _))
  · exact (in_3_3 _ _ n l).trans (Finset.sum_congr rfl fun i _ => mulr (ld13 X.b13 2 _ i _))
  · exact (in_3_4 _ _ n l).trans (Finset.sum_congr rfl fun i _ => mulr (ld13 X.b13 3 _ i _))
  · exact (in_3_5 _ _ n l).trans (Finset.sum_congr rfl fun i _ => mulr (ld13 X.b13 3 _ i _))
  · exact (in_3_6 _ _ n l).trans (Finset.sum_congr rfl fun i _ => mulr (ld13 X.b13 3 _ i _))
  · exact (in_3_7 _ _ n l).trans (Finset.sum_congr rfl fun i _ => mulr (ld13 X.b13 3 _ i _))

/-- The inputs stored are those of the reference. -/
theorem sin_at {X : Blk} {A : Args} {T : ℕ} (R : Rel X A T) (q : Fin 4) (s : Fin 8) (n : Fin 512) (l : Fin 128) (h : T + n.val < 16384) :
    View.canon (sL X) (ix3 q ⟨8 * n.val + s.val, by omega⟩ l) = refBu (refUs A.z) (if q.val < 2 then A.a16 else A.a17)
      (ix3 ⟨T + n.val, h⟩ ⟨q.val % 2 * 16 + s.val * 2 + l.val / 64, by omega⟩ ⟨l.val % 64, by omega⟩) := by
  rw [sL_at, sP_at, refBu_at]
  have e := in_sum A.a16 A.a17 ⟨q.val % 2 * 2 + s.val / 4, by omega⟩
    (fun i => k0_pay12 X.b0 X.b4 X.b5 (ix2 n ⟨(q.val % 2 * 2 + s.val / 4) * 128 + i.val, by omega⟩))
    ⟨s.val % 4 * 256 + q.val / 2 * 128 + l.val, by omega⟩
  refine (Finset.sum_congr rfl fun i _ => mulr (R.b13 _ _ _)).trans (e.trans (Finset.sum_congr rfl fun k _ => ?_))
  rw [mul_comm]
  refine congrArg₂ (· * ·) ?_ ?_
  · by_cases hq : q.val < 2
    · rw [dif_pos (by show (s.val % 4 * 256 + q.val / 2 * 128 + l.val) / 128 % 2 < 1; omega), if_pos hq]
      refine congrArg A.a16 ?_
      funext b
      fin_cases b
      · apply Fin.ext; show (q.val % 2 * 2 + s.val / 4) * 8 + (s.val % 4 * 256 + q.val / 2 * 128 + l.val) / 256 * 2 + (s.val % 4 * 256 + q.val / 2 * 128 + l.val) / 64 % 2 = q.val % 2 * 16 + s.val * 2 + l.val / 64; omega
      · rfl
      · apply Fin.ext; show (s.val % 4 * 256 + q.val / 2 * 128 + l.val) % 64 = l.val % 64; omega
    · rw [dif_neg (by show ¬ (s.val % 4 * 256 + q.val / 2 * 128 + l.val) / 128 % 2 < 1; omega), if_neg hq]
      refine congrArg A.a17 ?_
      funext b
      fin_cases b
      · apply Fin.ext; show (q.val % 2 * 2 + s.val / 4) * 8 + (s.val % 4 * 256 + q.val / 2 * 128 + l.val) / 256 * 2 + (s.val % 4 * 256 + q.val / 2 * 128 + l.val) / 64 % 2 = q.val % 2 * 16 + s.val * 2 + l.val / 64; omega
      · rfl
      · apply Fin.ext; show (s.val % 4 * 256 + q.val / 2 * 128 + l.val) % 64 = l.val % 64; omega
  · rw [refUs_at]
    have e1 := (pay12_gen X.b0 X.b4 X.b5 n ⟨(q.val % 2 * 2 + s.val / 4) * 128 + ((s.val % 4 * 256 + q.val / 2 * 128 + l.val) / 256 * 2 + (s.val % 4 * 256 + q.val / 2 * 128 + l.val) / 64 % 2) * 16 + k.val, by omega⟩)
    have e2 := z_eq R n ⟨1024 + ((q.val % 2 * 2 + s.val / 4) * 128 + ((s.val % 4 * 256 + q.val / 2 * 128 + l.val) / 256 * 2 + (s.val % 4 * 256 + q.val / 2 * 128 + l.val) / 64 % 2) * 16 + k.val), by omega⟩ h
    unfold zR at e2
    have ei : (⟨(q.val % 2 * 2 + s.val / 4) * 128 + (((s.val % 4 * 256 + q.val / 2 * 128 + l.val) / 256 * 2 + (s.val % 4 * 256 + q.val / 2 * 128 + l.val) / 64 % 2) * 16 + k.val), by omega⟩ : Fin 512)
        = ⟨(q.val % 2 * 2 + s.val / 4) * 128 + ((s.val % 4 * 256 + q.val / 2 * 128 + l.val) / 256 * 2 + (s.val % 4 * 256 + q.val / 2 * 128 + l.val) / 64 % 2) * 16 + k.val, by omega⟩ := Fin.ext (by simp only []; omega)
    refine (congrArg (fun u => k0_pay12 X.b0 X.b4 X.b5 (ix2 n u)) ei).trans (e1.trans (e2.trans (congrArg (fun u => A.z (ix2 ⟨T + n.val, h⟩ u)) (Fin.ext ?_))))
    show 1024 + ((q.val % 2 * 2 + s.val / 4) * 128 + ((s.val % 4 * 256 + q.val / 2 * 128 + l.val) / 256 * 2 + (s.val % 4 * 256 + q.val / 2 * 128 + l.val) / 64 % 2) * 16 + k.val) = 1024 + ((q.val % 2 * 16 + s.val * 2 + l.val / 64) * 16 + k.val)
    omega

end Cert.KernelIdeal.Final

end
-- ==== Proof.KSsm.lean ====
/- What one grid step does to the state space. -/
module

public import proofs.«01_k».proof.Proof.KSin
public import proofs.«01_k».proof.Proof.KLoop2

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

section Pays

variable (v : Vec Ideal S1x1x8x128 .f32) (u : FVec Ideal S8x128 .f32) (s : Fin 8) (l : Fin 128)

/-- One part of the state without its two leading axes of one. -/
theorem pay92_gen : k0_pay92 v (ix2 s l) = v (ix4 0 0 s l) := by
  pointwise [k0_pay92]

/-- One part of the state without its two leading axes of one. -/
theorem pay93_gen : k0_pay93 v (ix2 s l) = v (ix4 0 0 s l) := by
  pointwise [k0_pay93]

/-- One part of the state without its two leading axes of one. -/
theorem pay94_gen : k0_pay94 v (ix2 s l) = v (ix4 0 0 s l) := by
  pointwise [k0_pay94]

/-- One part of the state without its two leading axes of one. -/
theorem pay95_gen : k0_pay95 v (ix2 s l) = v (ix4 0 0 s l) := by
  pointwise [k0_pay95]

/-- One part of the state with two leading axes of one. -/
theorem pay98_gen : k0_pay98 u (ix4 0 0 s l) = u (ix2 s l) := by
  pointwise [k0_pay98]

/-- One part of the state with two leading axes of one. -/
theorem pay99_gen : k0_pay99 u (ix4 0 0 s l) = u (ix2 s l) := by
  pointwise [k0_pay99]

/-- One part of the state with two leading axes of one. -/
theorem pay100_gen : k0_pay100 u (ix4 0 0 s l) = u (ix2 s l) := by
  pointwise [k0_pay100]

/-- One part of the state with two leading axes of one. -/
theorem pay101_gen : k0_pay101 u (ix4 0 0 s l) = u (ix2 s l) := by
  pointwise [k0_pay101]

end Pays

/-- A slab of factors. -/
theorem ld11 (B : Vec Ideal S2x8x128 .f32) (q : Fin 2) (inb : ∀ a, (![q.val, 0, 0] : Fin 3 → ℕ) a + S1x8x128.size a ≤ S2x8x128.size a) (s : Fin 8) (l : Fin 128) :
    View.ld B (Rect.unit (s := S2x8x128) ![q.val, 0, 0] S1x8x128.size inb) (ix3 0 s l) = B (ix3 q s l) := by
  have e : (Rect.unit (s := S2x8x128) ![q.val, 0, 0] S1x8x128.size inb).idx (ix3 0 s l) = ix3 q s l := by
    funext a
    fin_cases a
    · apply Fin.ext; show q.val + 1 * 0 = q.val; omega
    · apply Fin.ext; show 0 + 1 * s.val = s.val; omega
    · apply Fin.ext; show 0 + 1 * l.val = l.val; omega
  exact congrArg B e

/-- One slab of a state. -/
abbrev stR (q : Fin 4) (inb : ∀ a, (![0, q.val, 0, 0] : Fin 4 → ℕ) a + S1x1x8x128.size a ≤ S1x4x8x128.size a) : Rect S1x4x8x128 :=
  Rect.unit (s := S1x4x8x128) ![0, q.val, 0, 0] S1x1x8x128.size inb

/-- Where a point of one part of the state lies. -/
theorem st_emb (q : Fin 4) (inb) (s : Fin 8) (l : Fin 128) : (stR q inb).idx (ix4 0 0 s l) = ix4 0 q s l := by
  funext a
  fin_cases a
  · rfl
  · apply Fin.ext; show q.val + 1 * 0 = q.val; omega
  · apply Fin.ext; show 0 + 1 * s.val = s.val; omega
  · apply Fin.ext; show 0 + 1 * l.val = l.val; omega

/-- Loading one part of the state, point by point. -/
theorem st_ld (B : Vec Ideal S1x4x8x128 .f32) (q : Fin 4) (inb) (s : Fin 8) (l : Fin 128) : View.ld B (stR q inb) (ix4 0 0 s l) = B (ix4 0 q s l) :=
  congrArg B (st_emb q inb s l)

/-- A point of another part is not in the part. -/
theorem st_not_mem (q q' : Fin 4) (inb) (s : Fin 8) (l : Fin 128) (h : q'.val ≠ q.val) : (ix4 0 q s l : S1x4x8x128.Idx) ∉ (stR q' inb).set := by
  intro hm
  have h1 := (Rect.mem_set_unit.mp hm) 1
  have a1 : q'.val ≤ q.val := h1.1
  have a2 : q.val < q'.val + 1 := h1.2
  omega

/-- Reading outside the first part of a list is reading the rest of the list. -/
theorem st_skip (q q' : Fin 4) (inb) (s : Fin 8) (l : Fin 128) (h : q'.val ≠ q.val) (P : Vec Ideal S1x1x8x128 .f32) (L : List (View.Piece (Elt Ideal) S1x4x8x128 .f32)) :
    View.canon (⟨stR q' inb, P⟩ :: L) (ix4 0 q s l) = View.canon L (ix4 0 q s l) :=
  View.canon_cons_of_not_mem _ _ (st_not_mem q q' inb s l h)

/-- Reading inside the first part of a list is reading the part. -/
theorem st_hit (q : Fin 4) (inb) (s : Fin 8) (l : Fin 128) (P : Vec Ideal S1x1x8x128 .f32) (L : List (View.Piece (Elt Ideal) S1x4x8x128 .f32)) :
    View.canon (⟨stR q inb, P⟩ :: L) (ix4 0 q s l) = P (ix4 0 0 s l) := by
  rw [← st_emb q inb s l]
  exact View.canon_cons_emb _ _ _ _

/-- A state of the reference, in the kernel's slabs. -/
def snK (A : Args) (n : ℕ) (q : Fin 4) (s : Fin 8) (l : Fin 128) : EReal :=
  if q.val < 2 then (A.sn n ⟨q.val % 2 * 16 + s.val * 2 + l.val / 64, by omega⟩ ⟨l.val % 64, by omega⟩).1
  else (A.sn n ⟨q.val % 2 * 16 + s.val * 2 + l.val / 64, by omega⟩ ⟨l.val % 64, by omega⟩).2

/-- One step of the S5 recurrence, real part. -/
theorem sn_re (A : Args) (n : ℕ) (h : n < 16384) (g : Fin 32) (p : Fin 64) : A.a14 (ix2 g p) * (A.sn n g p).1 - A.a15 (ix2 g p) * (A.sn n g p).2
    + refBu (refUs A.z) A.a16 (ix3 ⟨n, h⟩ g p) = (A.sn (n + 1) g p).1 := by
  rw [← tm_eq h]
  rfl

/-- One step of the S5 recurrence, imaginary part. -/
theorem sn_im (A : Args) (n : ℕ) (h : n < 16384) (g : Fin 32) (p : Fin 64) : A.a14 (ix2 g p) * (A.sn n g p).2 + A.a15 (ix2 g p) * (A.sn n g p).1
    + refBu (refUs A.z) A.a17 (ix3 ⟨n, h⟩ g p) = (A.sn (n + 1) g p).2 := by
  rw [← tm_eq h]
  rfl

/-- The loop carries the state to the end of the step, and every row holds it one row further. -/
theorem ssm_loop (c : Dev nD) (t : Fin cfg0.N) {X : Blk} {A : Args} {T : ℕ} (R : Rel X A T)
    (hsp : ∀ (q : Fin 4) (s : Fin 8) (l : Fin 128), X.sp (ix4 0 q s l) = snK A T q s l) :
    (∀ (s : Fin 8) (l : Fin 128), (st2 c t X).1.1 (ix2 s l) = snK A (T + 512) 0 s l ∧ (st2 c t X).1.2.1 (ix2 s l) = snK A (T + 512) 1 s l
      ∧ (st2 c t X).1.2.2.1 (ix2 s l) = snK A (T + 512) 2 s l ∧ (st2 c t X).1.2.2.2 (ix2 s l) = snK A (T + 512) 3 s l)
    ∧ (∀ (q : Fin 4) (r : Fin 4096) (l : Fin 128), View.canon ((st2 c t X).2 ++ sL X) (ix3 q r l) = snK A (T + (r.val / 8 + 1)) q ⟨r.val % 8, by omega⟩ l) := by
  have hT := R.hT
  let w : ℕ → Fin 4 → Fin 8 → Fin 128 → EReal := fun n q s l => snK A (T + n) q s l
  have hi0 : ∀ (s : Fin 8) (l : Fin 128), k0_pay92 (View.ld X.sp (Rect.unit (s := S1x4x8x128) ![0, 0, 0, 0] S1x1x8x128.size inb_S1x4x8x128_S1x1x8x128_0_0_0_0)) (ix2 s l) = w 0 0 s l :=
    fun s l => (pay92_gen _ s l).trans ((st_ld X.sp 0 _ s l).trans (hsp 0 s l))
  have hi1 : ∀ (s : Fin 8) (l : Fin 128), k0_pay93 (View.ld X.sp (Rect.unit (s := S1x4x8x128) ![0, 1, 0, 0] S1x1x8x128.size inb_S1x4x8x128_S1x1x8x128_0_1_0_0)) (ix2 s l) = w 0 1 s l :=
    fun s l => (pay93_gen _ s l).trans ((st_ld X.sp 1 _ s l).trans (hsp 1 s l))
  have hi2 : ∀ (s : Fin 8) (l : Fin 128), k0_pay94 (View.ld X.sp (Rect.unit (s := S1x4x8x128) ![0, 2, 0, 0] S1x1x8x128.size inb_S1x4x8x128_S1x1x8x128_0_2_0_0)) (ix2 s l) = w 0 2 s l :=
    fun s l => (pay94_gen _ s l).trans ((st_ld X.sp 2 _ s l).trans (hsp 2 s l))
  have hi3 : ∀ (s : Fin 8) (l : Fin 128), k0_pay95 (View.ld X.sp (Rect.unit (s := S1x4x8x128) ![0, 3, 0, 0] S1x1x8x128.size inb_S1x4x8x128_S1x1x8x128_0_3_0_0)) (ix2 s l) = w 0 3 s l :=
    fun s l => (pay95_gen _ s l).trans ((st_ld X.sp 3 _ s l).trans (hsp 3 s l))
  have h0 : ∀ (n : ℕ) (hn : n < 512) (s : Fin 8) (l : Fin 128), View.ld X.b11 (Rect.unit (s := S2x8x128) ![0, 0, 0] S1x8x128.size inb_S2x8x128_S1x8x128_0_0_0) (ix3 0 s l) * w n 0 s l - View.ld X.b12 (Rect.unit (s := S2x8x128) ![0, 0, 0] S1x8x128.size inb_S2x8x128_S1x8x128_0_0_0) (ix3 0 s l) * w n 2 s l + View.canon (sL X) (ix3 0 ⟨8 * n + s.val, by omega⟩ l) = w (n + 1) 0 s l := by
    intro n hn s l
    have e1 := (ld11 X.b11 0 inb_S2x8x128_S1x8x128_0_0_0 s l).trans (R.b11 0 s l)
    have e2 := (ld11 X.b12 0 inb_S2x8x128_S1x8x128_0_0_0 s l).trans (R.b12 0 s l)
    have e3 := sin_at R 0 s ⟨n, hn⟩ l (by show T + n < 16384; omega)
    refine (congrArg₂ (· + ·) (congrArg₂ (· - ·) (congrArg (· * w n 0 s l) e1) (congrArg (· * w n 2 s l) e2)) e3).trans ?_
    exact sn_re A (T + n) (by omega) ⟨0 * 16 + s.val * 2 + l.val / 64, by omega⟩ ⟨l.val % 64, by omega⟩
  have h1 : ∀ (n : ℕ) (hn : n < 512) (s : Fin 8) (l : Fin 128), View.ld X.b11 (Rect.unit (s := S2x8x128) ![1, 0, 0] S1x8x128.size inb_S2x8x128_S1x8x128_1_0_0) (ix3 0 s l) * w n 1 s l - View.ld X.b12 (Rect.unit (s := S2x8x128) ![1, 0, 0] S1x8x128.size inb_S2x8x128_S1x8x128_1_0_0) (ix3 0 s l) * w n 3 s l + View.canon (sL X) (ix3 1 ⟨8 * n + s.val, by omega⟩ l) = w (n + 1) 1 s l := by
    intro n hn s l
    have e1 := (ld11 X.b11 1 inb_S2x8x128_S1x8x128_1_0_0 s l).trans (R.b11 1 s l)
    have e2 := (ld11 X.b12 1 inb_S2x8x128_S1x8x128_1_0_0 s l).trans (R.b12 1 s l)
    have e3 := sin_at R 1 s ⟨n, hn⟩ l (by show T + n < 16384; omega)
    refine (congrArg₂ (· + ·) (congrArg₂ (· - ·) (congrArg (· * w n 1 s l) e1) (congrArg (· * w n 3 s l) e2)) e3).trans ?_
    exact sn_re A (T + n) (by omega) ⟨1 * 16 + s.val * 2 + l.val / 64, by omega⟩ ⟨l.val % 64, by omega⟩
  have h2 : ∀ (n : ℕ) (hn : n < 512) (s : Fin 8) (l : Fin 128), View.ld X.b11 (Rect.unit (s := S2x8x128) ![0, 0, 0] S1x8x128.size inb_S2x8x128_S1x8x128_0_0_0) (ix3 0 s l) * w n 2 s l + View.ld X.b12 (Rect.unit (s := S2x8x128) ![0, 0, 0] S1x8x128.size inb_S2x8x128_S1x8x128_0_0_0) (ix3 0 s l) * w n 0 s l + View.canon (sL X) (ix3 2 ⟨8 * n + s.val, by omega⟩ l) = w (n + 1) 2 s l := by
    intro n hn s l
    have e1 := (ld11 X.b11 0 inb_S2x8x128_S1x8x128_0_0_0 s l).trans (R.b11 0 s l)
    have e2 := (ld11 X.b12 0 inb_S2x8x128_S1x8x128_0_0_0 s l).trans (R.b12 0 s l)
    have e3 := sin_at R 2 s ⟨n, hn⟩ l (by show T + n < 16384; omega)
    refine (congrArg₂ (· + ·) (congrArg₂ (· + ·) (congrArg (· * w n 2 s l) e1) (congrArg (· * w n 0 s l) e2)) e3).trans ?_
    exact sn_im A (T + n) (by omega) ⟨0 * 16 + s.val * 2 + l.val / 64, by omega⟩ ⟨l.val % 64, by omega⟩
  have h3 : ∀ (n : ℕ) (hn : n < 512) (s : Fin 8) (l : Fin 128), View.ld X.b11 (Rect.unit (s := S2x8x128) ![1, 0, 0] S1x8x128.size inb_S2x8x128_S1x8x128_1_0_0) (ix3 0 s l) * w n 3 s l + View.ld X.b12 (Rect.unit (s := S2x8x128) ![1, 0, 0] S1x8x128.size inb_S2x8x128_S1x8x128_1_0_0) (ix3 0 s l) * w n 1 s l + View.canon (sL X) (ix3 3 ⟨8 * n + s.val, by omega⟩ l) = w (n + 1) 3 s l := by
    intro n hn s l
    have e1 := (ld11 X.b11 1 inb_S2x8x128_S1x8x128_1_0_0 s l).trans (R.b11 1 s l)
    have e2 := (ld11 X.b12 1 inb_S2x8x128_S1x8x128_1_0_0 s l).trans (R.b12 1 s l)
    have e3 := sin_at R 3 s ⟨n, hn⟩ l (by show T + n < 16384; omega)
    refine (congrArg₂ (· + ·) (congrArg₂ (· + ·) (congrArg (· * w n 3 s l) e1) (congrArg (· * w n 1 s l) e2)) e3).trans ?_
    exact sn_im A (T + n) (by omega) ⟨1 * 16 + s.val * 2 + l.val / 64, by omega⟩ ⟨l.val % 64, by omega⟩
  obtain ⟨p, q⟩ := loop2 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) (k0_pay79 (k0_pay78 (k0_pay49 (k0_pay12 X.b0 X.b4 X.b5))) (View.ld X.b13 (Rect.unit (s := S4x128x1024) ![3, 0, 0] S1x128x1024.size inb_S4x128x1024_S1x128x1024_3_0_0))) (View.ld X.b11 (Rect.unit (s := S2x8x128) ![0, 0, 0] S1x8x128.size inb_S2x8x128_S1x8x128_0_0_0)) (View.ld X.b11 (Rect.unit (s := S2x8x128) ![1, 0, 0] S1x8x128.size inb_S2x8x128_S1x8x128_1_0_0)) (View.ld X.b12 (Rect.unit (s := S2x8x128) ![0, 0, 0] S1x8x128.size inb_S2x8x128_S1x8x128_0_0_0)) (View.ld X.b12 (Rect.unit (s := S2x8x128) ![1, 0, 0] S1x8x128.size inb_S2x8x128_S1x8x128_1_0_0)) (k0_pay92 (View.ld X.sp (Rect.unit (s := S1x4x8x128) ![0, 0, 0, 0] S1x1x8x128.size inb_S1x4x8x128_S1x1x8x128_0_0_0_0)), k0_pay93 (View.ld X.sp (Rect.unit (s := S1x4x8x128) ![0, 1, 0, 0] S1x1x8x128.size inb_S1x4x8x128_S1x1x8x128_0_1_0_0)), k0_pay94 (View.ld X.sp (Rect.unit (s := S1x4x8x128) ![0, 2, 0, 0] S1x1x8x128.size inb_S1x4x8x128_S1x1x8x128_0_2_0_0)), k0_pay95 (View.ld X.sp (Rect.unit (s := S1x4x8x128) ![0, 3, 0, 0] S1x1x8x128.size inb_S1x4x8x128_S1x1x8x128_0_3_0_0))) (sL X) w hi0 hi1 hi2 hi3 h0 h1 h2 h3 512 le_rfl
  refine ⟨fun s l => p s l, fun q' r l => ?_⟩
  have h := q q' r l
  rw [if_pos (by omega)] at h
  exact h

/-- The state the step leaves. -/
theorem ssmO_at (c : Dev nD) (t : Fin cfg0.N) {X : Blk} {A : Args} {T : ℕ} (R : Rel X A T)
    (hsp : ∀ (q : Fin 4) (s : Fin 8) (l : Fin 128), X.sp (ix4 0 q s l) = snK A T q s l) (L : List (View.Piece (Elt Ideal) S1x4x8x128 .f32))
    (q : Fin 4) (s : Fin 8) (l : Fin 128) : ssmO c t X L (ix4 0 q s l) = snK A (T + 512) q s l := by
  have h := (ssm_loop c t R hsp).1 s l
  unfold ssmO
  generalize st2 c t X = S at h ⊢
  obtain ⟨g0, g1, g2, g3⟩ := h
  fin_cases q
  · exact (st_skip 0 3 _ s l (by decide) _ _).trans ((st_skip 0 2 _ s l (by decide) _ _).trans ((st_skip 0 1 _ s l (by decide) _ _).trans ((st_hit 0 _ s l _ _).trans ((pay98_gen _ s l).trans g0))))
  · exact (st_skip 1 3 _ s l (by decide) _ _).trans ((st_skip 1 2 _ s l (by decide) _ _).trans ((st_hit 1 _ s l _ _).trans ((pay99_gen _ s l).trans g1)))
  · exact (st_skip 2 3 _ s l (by decide) _ _).trans ((st_hit 2 _ s l _ _).trans ((pay100_gen _ s l).trans g2))
  · exact (st_hit 3 _ s l _ _).trans ((pay101_gen _ s l).trans g3)

end Cert.KernelIdeal.Final

end
-- ==== Proof.KScan.lean ====
/- Inside a tile of eight rows the kernel composes the steps of the recurrence in three doublings. -/
module

public import proofs.«01_k».proof.Proof.KVal2

@[expose] public section

set_option maxRecDepth 16384

noncomputable section

namespace Cert.KernelIdeal.Final

open Idealize.ShloMosaic Idealize.ShloMosaic.TcCoe Cert.KernelIdeal Cert.KernelIdeal.Gen

/-- Doubling the window of a composition of steps. -/
theorem scan_level (w : ℕ) (A B A' B' : Fin 8 → EReal) (H : ℕ → EReal) (h0 : ∀ i, 0 ≤ A i ∧ A i ≤ 1)
    (h : ∀ i : Fin 8, B i + A i * H (i.val + 1 - w) = H (i.val + 1))
    (hA : ∀ i : Fin 8, A' i = A i * (if w ≤ i.val then A ⟨(i.val + 8 - w) % 8, Nat.mod_lt _ (by decide)⟩ else 1))
    (hB : ∀ i : Fin 8, B' i = B i + (if w ≤ i.val then A i * B ⟨(i.val + 8 - w) % 8, Nat.mod_lt _ (by decide)⟩ else 0)) :
    (∀ i, 0 ≤ A' i ∧ A' i ≤ 1) ∧ ∀ i : Fin 8, B' i + A' i * H (i.val + 1 - 2 * w) = H (i.val + 1) := by
  refine ⟨fun i => ?_, fun i => ?_⟩
  · rw [hA]
    split_ifs with hw
    · have h1 := h0 ⟨(i.val + 8 - w) % 8, Nat.mod_lt _ (by decide)⟩
      refine ⟨mul_nonneg (h0 i).1 h1.1, ?_⟩
      calc A i * _ ≤ A i * 1 := mul_le_mul_of_nonneg_left h1.2 (h0 i).1
        _ = A i := mul_one _
        _ ≤ 1 := (h0 i).2
    · rw [mul_one]; exact h0 i
  · rw [hA, hB]
    by_cases hw : w ≤ i.val
    · rw [if_pos hw, if_pos hw]
      have h1 := h ⟨(i.val + 8 - w) % 8, Nat.mod_lt _ (by decide)⟩
      have e1 : (i.val + 8 - w) % 8 + 1 - w = i.val + 1 - 2 * w := by omega
      have e2 : (i.val + 8 - w) % 8 + 1 = i.val + 1 - w := by omega
      have e3 : i.val + 1 - w - w = i.val + 1 - 2 * w := by omega
      simp only [e2, e3] at h1
      rw [add_assoc, mul_assoc, ← EReal.left_distrib_of_nonneg_of_ne_top (h0 i).1 (ne_top_of_le_ne_top (by decide : (1 : EReal) ≠ ⊤) (h0 i).2), h1]
      exact h i
    · rw [if_neg hw, if_neg hw, add_zero, mul_one]
      have e : i.val + 1 - 2 * w = i.val + 1 - w := by omega
      rw [e]; exact h i

/-- Selecting by whether the row of the group is at least 1. -/
theorem sel1 (i : ℕ) (hi : i < 8) (x y : EReal) : Scalar.select (IntOp.cmpi .sge (BitVec.ofNat 32 i) 1#32) x y = if 1 ≤ i then x else y := by
  interval_cases i <;> rfl
/-- Selecting by whether the row of the group is at least 2. -/
theorem sel2 (i : ℕ) (hi : i < 8) (x y : EReal) : Scalar.select (IntOp.cmpi .sge (BitVec.ofNat 32 i) 2#32) x y = if 2 ≤ i then x else y := by
  interval_cases i <;> rfl
/-- Selecting by whether the row of the group is at least 4. -/
theorem sel4 (i : ℕ) (hi : i < 8) (x y : EReal) : Scalar.select (IntOp.cmpi .sge (BitVec.ofNat 32 i) 4#32) x y = if 4 ≤ i then x else y := by
  interval_cases i <;> rfl

/-- The rows in groups of eight. -/
theorem pay33_gen (v : Vec Ideal S512x512 .f32) (g : Fin 64) (i : Fin 8) (j : Fin 512) :
    k0_pay33 v (ix3 g i j) = v (ix2 ⟨g.val * 8 + i.val, by omega⟩ j) := by
  pointwise [k0_pay33]

/-- The factors after the doubling by one row. -/
theorem pay34_gen (v : FVec Ideal S64x8x512 .f32) (g : Fin 64) (i : Fin 8) (j : Fin 512) :
    k0_pay34 v (ix3 g i j) = v (ix3 g i j) * (if 1 ≤ i.val then v (ix3 g ⟨(i.val + 8 - 1) % 8, Nat.mod_lt _ (by decide)⟩ j) else 1) := by
  rw [← sel1 i.val i.isLt]
  pointwise [k0_pay34]

/-- The factors after the doubling by two rows. -/
theorem pay36_gen (v : FVec Ideal S64x8x512 .f32) (g : Fin 64) (i : Fin 8) (j : Fin 512) :
    k0_pay36 v (ix3 g i j) = k0_pay34 v (ix3 g i j) * (if 2 ≤ i.val then k0_pay34 v (ix3 g ⟨(i.val + 8 - 2) % 8, Nat.mod_lt _ (by decide)⟩ j) else 1) := by
  rw [← sel2 i.val i.isLt]
  unfold k0_pay36
  generalize k0_pay34 v = A
  pointwise []

/-- The factor four rows before, or one. -/
theorem pay37_gen (v : FVec Ideal S64x8x512 .f32) (g : Fin 64) (i : Fin 8) (j : Fin 512) :
    k0_pay37 v (ix3 g i j) = (if 4 ≤ i.val then k0_pay36 v (ix3 g ⟨(i.val + 8 - 4) % 8, Nat.mod_lt _ (by decide)⟩ j) else 1) := by
  rw [← sel4 i.val i.isLt]
  unfold k0_pay37
  generalize k0_pay36 v = A
  pointwise []

/-- The first doubling of the inputs. -/
def scanB (v : FVec Ideal S64x8x512 .f32) (b : Vec Ideal S512x512 .f32) (g : Fin 64) (j : Fin 512) (i : Fin 8) : EReal :=
  b (ix2 ⟨g.val * 8 + i.val, by omega⟩ j) + (if 1 ≤ i.val then v (ix3 g i j) * b (ix2 ⟨g.val * 8 + (i.val + 8 - 1) % 8, by omega⟩ j) else 0)

/-- The terms after the doubling by two rows. -/
theorem pay35_gen (v : FVec Ideal S64x8x512 .f32) (b : Vec Ideal S512x512 .f32) (g : Fin 64) (i : Fin 8) (j : Fin 512) :
    k0_pay35 v b (ix3 g i j) = scanB v b g j i + (if 2 ≤ i.val then k0_pay34 v (ix3 g i j) * scanB v b g j ⟨(i.val + 8 - 2) % 8, Nat.mod_lt _ (by decide)⟩ else 0) := by
  unfold scanB
  rw [← sel1 i.val i.isLt, ← sel2 i.val i.isLt, ← sel1 ((i.val + 8 - 2) % 8) (Nat.mod_lt _ (by decide))]
  unfold k0_pay35
  generalize k0_pay34 v = A
  pointwise []

/-- The factors times the terms of four rows before. -/
theorem pay38_gen (v : FVec Ideal S64x8x512 .f32) (b : Vec Ideal S512x512 .f32) (g : Fin 64) (i : Fin 8) (j : Fin 512) :
    k0_pay38 v b (ix3 g i j) = k0_pay35 v b (ix3 g ⟨(i.val + 8 - 4) % 8, Nat.mod_lt _ (by decide)⟩ j) := by
  unfold k0_pay38
  generalize k0_pay35 v b = A
  pointwise []

/-- The factors or terms after the doubling by four rows, laid out as rows again. -/
theorem pay41_gen (v u w : FVec Ideal S64x8x512 .f32) (r : Fin 512) (j : Fin 512) :
    k0_pay41 v u w (iota .tc S64x8x512 32 [1] iota_S64x8x512_d1_w32) k0_pay39 (ix2 r j) = v (ix3 ⟨r.val / 8, by omega⟩ ⟨r.val % 8, by omega⟩ j)
      + (if 4 ≤ r.val % 8 then u (ix3 ⟨r.val / 8, by omega⟩ ⟨r.val % 8, by omega⟩ j) * w (ix3 ⟨r.val / 8, by omega⟩ ⟨r.val % 8, by omega⟩ j) else 0) := by
  rw [← sel4 (r.val % 8) (by omega)]
  pointwise [k0_pay41, k0_pay39]

/-- The product of two grouped arrays, laid out as rows again. -/
theorem pay40_gen (u w : FVec Ideal S64x8x512 .f32) (r : Fin 512) (j : Fin 512) :
    k0_pay40 u w (ix2 r j) = u (ix3 ⟨r.val / 8, by omega⟩ ⟨r.val % 8, by omega⟩ j) * w (ix3 ⟨r.val / 8, by omega⟩ ⟨r.val % 8, by omega⟩ j) := by
  pointwise [k0_pay40]

/-- The carried state, repeated over eight rows. -/
theorem pay42_gen (v : Vec Ideal S1x512 .f32) (i : Fin 8) (j : Fin 512) : k0_pay42 v (ix2 i j) = v (ix2 0 j) := by
  pointwise [k0_pay42]

/-- The carried state's first row. -/
theorem pay46_gen (v : FVec Ideal S8x512 .f32) (j : Fin 512) : k0_pay46 v (ix2 0 j) = v (ix2 0 j) := by
  pointwise [k0_pay46]

/-- A tile's composed steps, applied to what the recurrence holds before the tile, give what it holds after each of its rows. -/
theorem tile_scan (a b : Vec Ideal S512x512 .f32) (ha : ∀ r j : Fin 512, 0 ≤ a (ix2 r j) ∧ a (ix2 r j) ≤ 1) (H : ℕ → EReal) (g : Fin 64) (j : Fin 512)
    (hH : ∀ i : Fin 8, b (ix2 ⟨g.val * 8 + i.val, by omega⟩ j) + a (ix2 ⟨g.val * 8 + i.val, by omega⟩ j) * H i.val = H (i.val + 1)) (r : Fin 512) (hr : r.val / 8 = g.val) :
    k0_pay41 (k0_pay35 (k0_pay33 a) b) (k0_pay36 (k0_pay33 a)) (k0_pay38 (k0_pay33 a) b) (iota .tc S64x8x512 32 [1] iota_S64x8x512_d1_w32) k0_pay39 (ix2 r j)
      + k0_pay40 (k0_pay36 (k0_pay33 a)) (k0_pay37 (k0_pay33 a)) (ix2 r j) * H 0 = H (r.val % 8 + 1) := by
  obtain ⟨p1, q1⟩ := scan_level 1 (fun i => k0_pay33 a (ix3 g i j)) (fun i => b (ix2 ⟨g.val * 8 + i.val, by omega⟩ j)) (fun i => k0_pay34 (k0_pay33 a) (ix3 g i j))
    (fun i => scanB (k0_pay33 a) b g j i) H (fun i => by rw [pay33_gen]; exact ha _ _) (fun i => by rw [pay33_gen]; exact hH i)
    (fun i => pay34_gen _ g i j) (fun i => rfl)
  obtain ⟨p2, q2⟩ := scan_level 2 (fun i => k0_pay34 (k0_pay33 a) (ix3 g i j)) (fun i => scanB (k0_pay33 a) b g j i) (fun i => k0_pay36 (k0_pay33 a) (ix3 g i j))
    (fun i => k0_pay35 (k0_pay33 a) b (ix3 g i j)) H p1 q1 (fun i => pay36_gen _ g i j) (fun i => pay35_gen _ _ g i j)
  obtain ⟨p3, q3⟩ := scan_level 4 (fun i => k0_pay36 (k0_pay33 a) (ix3 g i j)) (fun i => k0_pay35 (k0_pay33 a) b (ix3 g i j))
    (fun i => k0_pay36 (k0_pay33 a) (ix3 g i j) * k0_pay37 (k0_pay33 a) (ix3 g i j))
    (fun i => k0_pay35 (k0_pay33 a) b (ix3 g i j) + (if 4 ≤ i.val then k0_pay36 (k0_pay33 a) (ix3 g i j) * k0_pay38 (k0_pay33 a) b (ix3 g i j) else 0)) H p2 q2
    (fun i => by simp only [pay37_gen]) (fun i => by simp only [pay38_gen])
  have hg : (⟨r.val / 8, by omega⟩ : Fin 64) = g := Fin.ext hr
  have q := q3 ⟨r.val % 8, Nat.mod_lt _ (by decide)⟩
  rw [pay41_gen, pay40_gen]
  simp only [hg]
  have e0 : r.val % 8 + 1 - 2 * 4 = 0 := by omega
  simp only [e0] at q
  exact q

end Cert.KernelIdeal.Final

end
-- ==== Proof.KLru.lean ====
/- What one grid step does to the linear recurrence. -/
module

public import proofs.«01_k».proof.Proof.KScan
public import proofs.«01_k».proof.Proof.KVal3

@[expose] public section

set_option maxRecDepth 16384
set_option maxHeartbeats 1000000

noncomputable section

namespace Cert.KernelIdeal.Final

open Idealize.ShloMosaic Idealize.ShloMosaic.TcCoe Cert.KernelIdeal Cert.KernelIdeal.Gen

/-- The rectangle that is the whole block. -/
abbrev wholeR : Rect S512x512 := Rect.unit (s := S512x512) ![0, 0] S512x512.size inb_S512x512_S512x512_0_0

/-- A point of the whole block lies where it is. -/
theorem whole_emb (r j : Fin 512) : wholeR.emb (ix2 r j) = ix2 r j := by
  funext b
  fin_cases b
  · apply Fin.ext; show 0 + 1 * r.val = r.val; omega
  · apply Fin.ext; show 0 + 1 * j.val = j.val; omega

/-- An array written whole holds what was written. -/
theorem whole_hit (P : Vec Ideal S512x512 .f32) (L : List (View.Piece (Elt Ideal) S512x512 .f32)) (r j : Fin 512) : View.canon (⟨wholeR, P⟩ :: L) (ix2 r j) = P (ix2 r j) := by
  have e := View.canon_cons_emb (Val := Elt Ideal) (e := .f32) wholeR P L (ix2 r j)
  rw [whole_emb] at e
  exact e

/-- A decay lies between zero and one. -/
theorem aV_bd (X : Blk) (r j : Fin 512) : 0 ≤ aV X (ix2 r j) ∧ aV X (ix2 r j) ≤ 1 := by
  rw [aV_at]
  exact ⟨Cert.MixMath.exp_nonneg _, Cert.MixMath.exp_le_one (Cert.MixMath.la_nonpos _ _)⟩

/-- The loop carries the recurrence to the end of the step, and every row holds it one row further. -/
theorem lru_loop (c : Dev nD) (t : Fin cfg0.N) (X : Blk) (H : ℕ → Fin 512 → EReal) (h0 : ∀ j, H 0 j = X.lp (ix2 0 j))
    (hs : ∀ r j : Fin 512, H (r.val + 1) j = aV X (ix2 r j) * H r.val j + bV X (ix2 r j)) :
    (∀ (i : Fin 8) (j : Fin 512), (st1 c t X).1 (ix2 i j) = H 512 j) ∧ (∀ r j : Fin 512, View.canon ((st1 c t X).2 ++ bL1 X) (ix2 r j) = H (r.val + 1) j) := by
  have hinit : ∀ (i : Fin 8) (j : Fin 512), (k0_pay42 X.lp) (ix2 i j) = H 0 j := fun i j => (pay42_gen _ i j).trans (h0 j).symm
  have hstep : ∀ (k : ℕ) (hk : k < 64) (i : Fin 8) (j : Fin 512), View.canon (bL1 X) (ix2 ⟨8 * k + i.val, by omega⟩ j)
      + scM0_1.view.read (Elt Ideal) ((View.whole cc0_scratch1).writes (Elt Ideal) (View.whole cc0_scratch1).junk (aL1 X)) (ix2 ⟨8 * k + i.val, by omega⟩ j) * H (8 * k) j = H (8 * k + i.val + 1) j := by
    intro k hk i j
    have hr : scM0_1.view.read (Elt Ideal) ((View.whole cc0_scratch1).writes (Elt Ideal) (View.whole cc0_scratch1).junk (aL1 X)) = View.canon (aL1 X) :=
      View.read_writes_junk_eq_canon (View.whole cc0_scratch1) (aL1 X)
    rw [hr]
    have ea : View.canon (aL1 X) (ix2 ⟨8 * k + i.val, by omega⟩ j) = k0_pay40 (k0_pay36 (k0_pay33 (aV X))) (k0_pay37 (k0_pay33 (aV X))) (ix2 ⟨8 * k + i.val, by omega⟩ j) := whole_hit _ _ _ _
    have eb : View.canon (bL1 X) (ix2 ⟨8 * k + i.val, by omega⟩ j) = k0_pay41 (k0_pay35 (k0_pay33 (aV X)) (bV X)) (k0_pay36 (k0_pay33 (aV X))) (k0_pay38 (k0_pay33 (aV X)) (bV X)) (iota .tc S64x8x512 32 [1] iota_S64x8x512_d1_w32) k0_pay39 (ix2 ⟨8 * k + i.val, by omega⟩ j) := whole_hit _ _ _ _
    rw [ea, eb]
    have q := tile_scan (aV X) (bV X) (aV_bd X) (fun n => H (8 * k + n) j) ⟨k, hk⟩ j (fun i => by
      have h1 := hs ⟨k * 8 + i.val, by omega⟩ j
      have e1 : k * 8 + i.val = 8 * k + i.val := by omega
      simp only [e1] at h1 ⊢
      rw [add_comm]
      exact h1.symm) ⟨8 * k + i.val, by omega⟩ (by show (8 * k + i.val) / 8 = k; omega)
    have e2 : (8 * k + i.val) % 8 = i.val := by omega
    simp only [e2] at q
    exact q
  obtain ⟨p, q⟩ := loop1 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) (k0_pay11 X.b0 X.b4 X.b5) (k0_pay35 (k0_pay33 (aV X)) (bV X)) (k0_pay36 (k0_pay33 (aV X))) (k0_pay37 (k0_pay33 (aV X))) (k0_pay38 (k0_pay33 (aV X)) (bV X)) (iota .tc S64x8x512 32 [1] iota_S64x8x512_d1_w32) k0_pay39 ((View.whole cc0_scratch1).writes (Elt Ideal) (View.whole cc0_scratch1).junk (aL1 X)) (k0_pay42 X.lp) (bL1 X) H hinit hstep 64 le_rfl
  refine ⟨fun i j => p i j, fun r j => ?_⟩
  have h := q r j
  rw [if_pos (by omega)] at h
  exact h

/-- The row the step leaves. -/
theorem lruO_at (c : Dev nD) (t : Fin cfg0.N) (X : Blk) (H : ℕ → Fin 512 → EReal) (h0 : ∀ j, H 0 j = X.lp (ix2 0 j))
    (hs : ∀ r j : Fin 512, H (r.val + 1) j = aV X (ix2 r j) * H r.val j + bV X (ix2 r j)) (j : Fin 512) : lruO c t X (ix2 0 j) = H 512 j := by
  unfold lruO
  exact (pay46_gen _ j).trans ((lru_loop c t X H h0 hs).1 0 j)

/-- The rows of the recurrence, read back. -/
theorem bRd_at (c : Dev nD) (t : Fin cfg0.N) (X : Blk) (H : ℕ → Fin 512 → EReal) (h0 : ∀ j, H 0 j = X.lp (ix2 0 j))
    (hs : ∀ r j : Fin 512, H (r.val + 1) j = aV X (ix2 r j) * H r.val j + bV X (ix2 r j)) (r j : Fin 512) : bRd c t X (ix2 r j) = H (r.val + 1) j := by
  unfold bRd
  rw [View.readCov_eq_canon']
  have e : wholeR.toLoadRect.idx (ix2 r j) = ix2 r j := by
    funext b
    fin_cases b
    · apply Fin.ext; show 0 + 1 * r.val = r.val; omega
    · apply Fin.ext; show 0 + 1 * j.val = j.val; omega
  exact (congrArg _ e).trans ((lru_loop c t X H h0 hs).2 r j)

end Cert.KernelIdeal.Final

end
-- ==== Proof.KInd.lean ====
/- What the mixer keeps between grid steps. -/
module

public import proofs.«01_k».proof.Proof.KStep
public import proofs.«01_k».proof.Proof.KRel
public import proofs.«01_k».proof.Proof.KSsm
public import proofs.«01_k».proof.Proof.KLru

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

/-- What is kept is what the reference has before a row: the last three rows, the row of the linear recurrence and the state. -/
structure Inv (A : Args) (T : ℕ) (cp : Vec Ideal S1x8x512 .f32) (lp : Vec Ideal S1x512 .f32) (sp : Vec Ideal S1x4x8x128 .f32) : Prop where
  cp : ∀ (k : Fin 3) (j : Fin 512) (h : T + k.val < 16387), cp (ix3 0 ⟨5 + k.val, by omega⟩ j) = A.xp (ix2 ⟨T + k.val, h⟩ j)
  lp : ∀ j : Fin 512, lp (ix2 0 j) = A.hn T j
  sp : ∀ (q : Fin 4) (s : Fin 8) (l : Fin 128), sp (ix4 0 q s l) = snK A T q s l

section Step

variable {X : Blk} {A : Args} {T : ℕ} (R : Rel X A T) (I : Inv A T X.cp X.lp X.sp)

include R I

/-- Under the invariant the three carried rows are the three rows of the convolution's input before the block. -/
theorem inv_cp (k : Fin 3) (j : Fin 512) : X.cp (ix3 0 ⟨5 + k.val, by omega⟩ j) = A.xp (ix2 ⟨T + k.val, by have := R.hT; omega⟩ j) :=
  I.cp k j (by have := R.hT; omega)

/-- The rows a step keeps. -/
theorem conv_step (a : Fin 8) (j : Fin 512) (h : T + 507 + a.val < 16387) : convO X (ix3 0 a j) = A.xp (ix2 ⟨T + 507 + a.val, h⟩ j) := by
  rw [convO_at]
  have e := xp_eq R (inv_cp R I) (507 + a.val) (by omega) j (by omega)
  unfold xpv at e
  rw [if_neg (by omega)] at e
  have e1 : (⟨(5 + (507 + a.val) - 8) % 512, by omega⟩ : Fin 512) = ⟨504 + a.val, by omega⟩ :=
    Fin.ext (by show (5 + (507 + a.val) - 8) % 512 = 504 + a.val; omega)
  rw [e1] at e
  exact e.trans (congrArg (fun u => A.xp (ix2 u j)) (Fin.ext (by show T + (507 + a.val) = T + 507 + a.val; omega)))

/-- The recurrence through a step. -/
theorem hn_h0 (j : Fin 512) : A.hn (T + 0) j = X.lp (ix2 0 j) := (I.lp j).symm

/-- What a step keeps is what the reference has after its rows. -/
theorem inv_step (c : Dev nD) (t : Fin cfg0.N) (L : List (View.Piece (Elt Ideal) S1x4x8x128 .f32)) :
    Inv A (T + 512) (convO X) (lruO c t X) (ssmO c t X L) where
  cp := fun k j h => by
    have e := conv_step R I ⟨5 + k.val, by omega⟩ j (by show T + 507 + (5 + k.val) < 16387; omega)
    exact e.trans (congrArg (fun u => A.xp (ix2 u j)) (Fin.ext (by show T + 507 + (5 + k.val) = T + 512 + k.val; omega)))
  lp := fun j => lruO_at c t X (fun n => A.hn (T + n)) (hn_h0 R I) (fun r j => hn_step R (inv_cp R I) r j) j
  sp := fun q s l => ssmO_at c t R I.sp L q s l

end Step

variable (m : (ℓ : Loc nD τ sig) → Buf (Elt Ideal) ℓ) (c : Dev nD)

/-- The copied S5 state is the state, point by point. -/
theorem pay8_gen (q : Vec Ideal S1x4x8x128 .f32) (k : Fin 4) (s : Fin 8) (l : Fin 128) : k0_pay8 q (ix4 0 k s l) = q (ix4 0 k s l) := by
  pointwise [k0_pay8]

/-- The last three rows of the eight-row tile are the three rows of the convolution's first state. -/
theorem tileOf_at (conv : FVec Ideal S1x3x512 .f32) (k : Fin 3) (j : Fin 512) : tileOf conv (ix3 0 ⟨5 + k.val, by omega⟩ j) = conv (ix3 0 k j) := by
  have e : tileOf conv (ix3 0 ⟨5 + k.val, by omega⟩ j) = conv (ix3 0 ⟨5 + k.val - 5, by omega⟩ j) := by
    have h1 : 5 ≤ 5 + k.val := by omega
    have h2 : 5 + k.val < 8 := by omega
    pointwise [tileOf]
  exact e.trans (congrArg (fun u => conv (ix3 0 u j)) (Fin.ext (by show 5 + k.val - 5 = k.val; omega)))

/-- The S5 state before the first row is the argument's. -/
theorem sn_zero (A : Args) (g : Fin 32) (p : Fin 64) : A.sn 0 g p = (A.a3 (ix3 0 g p), A.a4 (ix3 0 g p)) := by
  have e1 : shapeCast S32x64 A.a3 Cert.ReferenceIdeal.Gen.shapeCasts_S1x32x64_S32x64 (ix2 g p) = A.a3 (ix3 0 g p) := by pointwise []
  have e2 : shapeCast S32x64 A.a4 Cert.ReferenceIdeal.Gen.shapeCasts_S1x32x64_S32x64 (ix2 g p) = A.a4 (ix3 0 g p) := by pointwise []
  exact Prod.ext e1 e2

/-- The RG-LRU state before the first row is the argument's. -/
theorem hn_zero (A : Args) (j : Fin 512) : A.hn 0 j = A.a2 (ix2 0 j) := by
  have e1 : shapeCast S512 A.a2 Cert.ReferenceIdeal.Gen.shapeCasts_S1x512_S512 (ix1 j) = A.a2 (ix2 0 j) := by pointwise []
  exact e1

/-- The first step keeps what the arguments say. -/
theorem inv_zero (t : Fin cfg0.N) : Inv (argsK m c) 0 (k0_pay7 (iblk m c 1 t)) (iblk m c 2 t) (k0_pay8 (iblk m c 3 t)) where
  cp := fun k j h => by
    refine (pay7_gen _ _ _).trans ((read1 m c t _ j).trans ((tileOf_at _ k j).trans ?_))
    unfold Args.xp
    rw [refXp_at, dif_pos (by show 0 + k.val < 3; omega)]
    exact congrArg (fun u => (argsK m c).a1 (ix3 0 u j)) (Fin.ext (by show k.val = 0 + k.val; omega))
  lp := fun j => (read2 m c t j).trans (hn_zero (argsK m c) j).symm
  sp := fun q s l => by
    refine (pay8_gen _ q s l).trans ((read3 m c t q s l).trans ?_)
    unfold snK
    rw [sn_zero]
    by_cases hq : q.val < 2
    · rw [dif_pos hq, if_pos hq]
      exact congrArg (fun u => (argsK m c).a3 (ix3 0 u ⟨l.val % 64, by omega⟩)) (Fin.ext (by show q.val * 16 + s.val * 2 + l.val / 64 = q.val % 2 * 16 + s.val * 2 + l.val / 64; omega))
    · rw [dif_neg hq, if_neg hq]
      exact congrArg (fun u => (argsK m c).a4 (ix3 0 u ⟨l.val % 64, by omega⟩)) (Fin.ext (by show (q.val - 2) * 16 + s.val * 2 + l.val / 64 = q.val % 2 * 16 + s.val * 2 + l.val / 64; omega))

/-- There are 32 blocks. -/
theorem t_lt' (t : Fin cfg0.N) : t.val < 32 := lt_of_lt_of_eq t.isLt (by decide)

/-- After every step, what is kept is what the reference has after its rows. -/
theorem inv_at : ∀ (n : ℕ) (h : n < cfg0.N), Inv (argsK m c) (n * 512 + 512) (outsAt0 m c n h).2.1 (outsAt0 m c n h).2.2.1 (outsAt0 m c n h).2.2.2
  | 0, h => by
    have e1 := conv_A m c ⟨0, h⟩ rfl
    have e2 := lru_A m c ⟨0, h⟩ rfl
    have e3 := ssm_A m c ⟨0, h⟩ rfl
    have I := inv_zero m c ⟨0, h⟩
    rw [e1, e2, e3]
    exact inv_step (rel m c ⟨0, h⟩ _ _ _) I c ⟨0, h⟩ _
  | n + 1, h => by
    have hn : n + 1 < 32 := t_lt' ⟨n + 1, h⟩
    have ih := inv_at n (Nat.lt_of_succ_lt h)
    have e1 := conv_B m c ⟨n + 1, h⟩ (by show ¬ (n + 1) % 32 = 0; omega)
    have e2 := lru_B m c ⟨n + 1, h⟩ (by show ¬ (n + 1) % 32 = 0; omega)
    have e3 := ssm_B m c ⟨n + 1, h⟩ (by show ¬ (n + 1) % 32 = 0; omega)
    have I : Inv (argsK m c) ((n + 1) * 512) (outsAt0 m c n (Nat.lt_of_succ_lt h)).2.1 (outsAt0 m c n (Nat.lt_of_succ_lt h)).2.2.1 (outsAt0 m c n (Nat.lt_of_succ_lt h)).2.2.2 := by
      rw [show (n + 1) * 512 = n * 512 + 512 by omega]
      exact ih
    rw [e1, e2, e3]
    exact inv_step (rel m c ⟨n + 1, h⟩ _ _ _) I c ⟨n + 1, h⟩ []

/-- Every step's rows come from what the reference has before them. -/
theorem enter (t : Fin cfg0.N) : ∃ cp lp sp, (outsAt0 m c t.val t.isLt).1 = yO c t (blkOf m c t cp lp sp) ∧ Inv (argsK m c) (t.val * 512) cp lp sp := by
  obtain ⟨n, h⟩ := t
  cases n with
  | zero => exact ⟨_, _, _, y_A m c ⟨0, h⟩ rfl, by rw [show (⟨0, h⟩ : Fin cfg0.N).val * 512 = 0 from rfl]; exact inv_zero m c ⟨0, h⟩⟩
  | succ n =>
    have hn : n + 1 < 32 := t_lt' ⟨n + 1, h⟩
    have ih := inv_at m c n (Nat.lt_of_succ_lt h)
    refine ⟨_, _, _, y_B m c ⟨n + 1, h⟩ (by show ¬ (n + 1) % 32 = 0; omega), ?_⟩
    rw [show (⟨n + 1, h⟩ : Fin cfg0.N).val * 512 = n * 512 + 512 by show (n + 1) * 512 = _; omega]
    exact ih

end Cert.KernelIdeal.Final

end
-- ==== Proof.KFin.lean ====
/- What the mixer keeps, as whole arrays. -/
module

public import proofs.«01_k».proof.Proof.KInd

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

variable (m : (ℓ : Loc nD τ sig) → Buf (Elt Ideal) ℓ) (c : Dev nD)

/-- After the last block the convolution's state holds the reference's last eight rows. -/
theorem last_conv (t : Fin cfg0.N) (h : t.val = 31) (a : Fin 8) (j : Fin 512) : (outsAt0 m c t.val t.isLt).2.1 (ix3 0 a j) = (argsK m c).oConv (ix3 0 a j) := by
  obtain ⟨cp, lp, sp, I, e⟩ : ∃ cp lp sp, Inv (argsK m c) (t.val * 512) cp lp sp ∧ (outsAt0 m c t.val t.isLt).2.1 = convO (blkOf m c t cp lp sp) := by
    have hb : ¬ t.val % 32 = 0 := by omega
    have hp : t.val - 1 < cfg0.N := Nat.lt_of_le_of_lt (Nat.sub_le ..) t.isLt
    have ih := inv_at m c (t.val - 1) hp
    rw [show (t.val - 1) * 512 + 512 = t.val * 512 by omega] at ih
    exact ⟨_, _, _, ih, conv_B m c t hb⟩
  rw [e]
  refine (conv_step (rel m c t cp lp sp) I a j (by omega)).trans ?_
  unfold Args.oConv
  rw [refConv_at]
  exact congrArg (fun u => (argsK m c).xp (ix2 u j)) (Fin.ext (by show t.val * 512 + 507 + a.val = 16379 + a.val; omega))

/-- After the last block the RG-LRU state is the reference's last state. -/
theorem last_lru (t : Fin cfg0.N) (h : t.val = 31) (j : Fin 512) : (outsAt0 m c t.val t.isLt).2.2.1 (ix2 0 j) = (argsK m c).oLru (ix2 0 j) := by
  have e := (inv_at m c t.val t.isLt).lp j
  rw [show t.val * 512 + 512 = 16384 by omega] at e
  refine e.trans ?_
  unfold Args.oLru
  rw [refLru_at]
  rfl

/-- After the last block the S5 state is the reference's last state. -/
theorem last_ssm (t : Fin cfg0.N) (h : t.val = 31) (k : Fin 4) (s : Fin 8) (l : Fin 128) :
    (outsAt0 m c t.val t.isLt).2.2.2 (ix4 0 k s l) = (argsK m c).oSsm (ix4 0 k s l) := by
  have e := (inv_at m c t.val t.isLt).sp k s l
  rw [show t.val * 512 + 512 = 16384 by omega] at e
  refine e.trans ?_
  unfold Args.oSsm
  rw [refSsm_at]
  unfold snK
  by_cases hk : k.val < 2
  · rw [if_pos hk, dif_pos (by omega)]
    rfl
  · rw [if_neg hk, dif_neg (by omega)]
    rfl

/-- The kept rows are the reference's. -/
theorem final_conv : (dats m 0 c).arrAt 22 cfg0.N = (argsK m c).oConv := by
  refine (dats m 0 c).arrAt_eq_of_covers 22 _ (by decide +kernel) fun t hf y => ?_
  have h31 : t.val = 31 := by have h1 := (flush0_22 t).mp hf; have h2 := t_lt' t; omega
  blk_simp
  rw [after0_22]
  idx_vars y
  have e : ((cfg0.win 22).blk t).view.emb (ix3 y0 y1 y2) = ((ix3 0 y1 y2) : S1x8x512.Idx) := by blk_ext [idx t]
  rw [e, show y0 = 0 from Subsingleton.elim _ _]
  exact last_conv m c t h31 y1 y2

/-- The row of the recurrence is the reference's. -/
theorem final_lru : (dats m 0 c).arrAt 23 cfg0.N = (argsK m c).oLru := by
  refine (dats m 0 c).arrAt_eq_of_covers 23 _ (by decide +kernel) fun t hf y => ?_
  have h31 : t.val = 31 := by have h1 := (flush0_23 t).mp hf; have h2 := t_lt' t; omega
  blk_simp
  rw [after0_23]
  idx_vars y
  have e : ((cfg0.win 23).blk t).view.emb (ix2 y0 y1) = ((ix2 0 y1) : S1x512.Idx) := by blk_ext [idx t]
  rw [e, show y0 = 0 from Subsingleton.elim _ _]
  exact last_lru m c t h31 y1

/-- The state is the reference's. -/
theorem final_ssm : (dats m 0 c).arrAt 24 cfg0.N = (argsK m c).oSsm := by
  refine (dats m 0 c).arrAt_eq_of_covers 24 _ (by decide +kernel) fun t hf y => ?_
  have h31 : t.val = 31 := by have h1 := (flush0_24 t).mp hf; have h2 := t_lt' t; omega
  blk_simp
  rw [after0_24]
  idx_vars y
  have e : ((cfg0.win 24).blk t).view.emb (ix4 y0 y1 y2 y3) = ((ix4 0 y1 y2 y3) : S1x4x8x128.Idx) := by blk_ext [idx t]
  rw [e, show y0 = 0 from Subsingleton.elim _ _]
  exact last_ssm m c t h31 y1 y2 y3

end Cert.KernelIdeal.Final

end
-- ==== Proof.KOp.lean ====
/- The outputs of the state space, element by element. -/
module

public import proofs.«01_k».proof.Proof.KVal1
public import proofs.«01_k».proof.Proof.MixRef

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage (gelu1 norm5)

/-- Two states next to each other. -/
def cat (p q : Vec Ideal S1x512x128 .f32) (r : Fin 512) (i : Fin 256) : EReal :=
  if _h : i.val < 128 then p (ix3 0 r ⟨i.val, by omega⟩) else q (ix3 0 r ⟨i.val - 128, by omega⟩)

/-- What one slab of states gives. -/
def slab (p q : Vec Ideal S1x512x128 .f32) (w : Vec Ideal S1x256x128 .bf16) (r : Fin 512) (l : Fin 128) : EReal :=
  ∑ i : Fin 256, cat p q r i * w (ix3 0 i l)

variable (p q p' q' p'' q'' : Vec Ideal S1x512x128 .f32) (w w' w'' : Vec Ideal S1x256x128 .bf16) (a b d e : FVec Ideal S512x128 .f32)
  (v : FVec Ideal S512x256 .f32) (v' : FVec Ideal S512x256 .bf16) (r : Fin 512) (l : Fin 128) (i : Fin 256)

/-- Two parts of the state side by side, point by point. -/
theorem pay103_gen : k0_pay103 p q (ix2 r i) = cat p q r i := by
  unfold cat
  pointwise [k0_pay103]

/-- Two parts of the state side by side, point by point. -/
theorem pay105_gen : k0_pay105 p q (ix2 r i) = cat p q r i := by
  unfold cat
  pointwise [k0_pay105]

/-- Two parts of the state side by side, point by point. -/
theorem pay107_gen : (k0_pay107 p q : FVec Ideal S512x256 .bf16) (ix2 r i) = cat p q r i := by
  unfold cat
  pointwise [k0_pay107]

/-- Two parts of the state side by side, point by point. -/
theorem pay110_gen : (k0_pay110 p q : FVec Ideal S512x256 .bf16) (ix2 r i) = cat p q r i := by
  unfold cat
  pointwise [k0_pay110]

/-- Two parts of the state side by side, point by point. -/
theorem pay113_gen : (k0_pay113 p q : FVec Ideal S512x256 .bf16) (ix2 r i) = cat p q r i := by
  unfold cat
  pointwise [k0_pay113]

/-- The output product of one slab, as one sum. -/
theorem pay102_gen : k0_pay102 p q w (ix2 r l) = slab p q w r l := by
  unfold slab cat
  pointwise [k0_pay102]

/-- Three output products added to a first one, as sums. -/
theorem pay104_gen : k0_pay104 a v w p q w' p' q' w'' (ix2 r l) =
    a (ix2 r l) + ∑ i : Fin 256, v (ix2 r i) * w (ix3 0 i l) + slab p q w' r l + slab p' q' w'' r l := by
  unfold slab cat
  pointwise [k0_pay104]

/-- Three output products added, as sums. -/
theorem pay106_gen : k0_pay106 v w p q w' p' q' w'' (ix2 r l) =
    ∑ i : Fin 256, v (ix2 r i) * w (ix3 0 i l) + slab p q w' r l + slab p' q' w'' r l := by
  unfold slab cat
  pointwise [k0_pay106]

/-- One output product added to what there was, as a sum. -/
theorem pay108_gen : k0_pay108 a v' w (ix2 r l) =
    a (ix2 r l) + ∑ i : Fin 256, v' (ix2 r i) * w (ix3 0 i l) := by
  pointwise [k0_pay108]

/-- Two output products added, as sums. -/
theorem pay109_gen : k0_pay109 p q w p' q' w' (ix2 r l) = slab p q w r l + slab p' q' w' r l := by
  unfold slab cat
  pointwise [k0_pay109]

/-- Two output products added to what there was, as sums. -/
theorem pay111_gen : k0_pay111 a v' w p q w' (ix2 r l) =
    a (ix2 r l) + ∑ i : Fin 256, v' (ix2 r i) * w (ix3 0 i l) + slab p q w' r l := by
  unfold slab cat
  pointwise [k0_pay111]

/-- The output product of one slab, as one sum. -/
theorem pay112_gen : k0_pay112 p q w (ix2 r l) = slab p q w r l := by
  unfold slab cat
  pointwise [k0_pay112]

/-- The S5 output at a point: the part its column lies in, plus the skip term. -/
theorem pay114_gen (us : FVec Ideal S512x512 .f32) (dk : Vec Ideal S1x512 .f32) (j : Fin 512) :
    k0_pay114 us a b d e v' w p q w' p' q' w'' dk (ix2 r j) =
    (if _h : j.val < 128 then a (ix2 r ⟨j.val, by omega⟩) else if _h : j.val - 128 < 128 then b (ix2 r ⟨j.val - 128, by omega⟩)
      else if _h : j.val - 128 - 128 < 128 then d (ix2 r ⟨j.val - 128 - 128, by omega⟩)
      else e (ix2 r ⟨j.val - 128 - 128 - 128, by omega⟩) + ∑ i : Fin 256, v' (ix2 r i) * w (ix3 0 i ⟨j.val - 128 - 128 - 128, by omega⟩)
        + slab p q w' r ⟨j.val - 128 - 128 - 128, by omega⟩ + slab p' q' w'' r ⟨j.val - 128 - 128 - 128, by omega⟩)
    + dk (ix2 0 j) * us (ix2 r j) := by
  unfold slab cat
  pointwise [k0_pay114]

/-- The cubic inside the S5 output's gelu, at a point. -/
theorem pay115_gen (us : FVec Ideal S512x512 .f32) (dk : Vec Ideal S1x512 .f32) (j : Fin 512) (Y : EReal)
    (hY : k0_pay114 us a b d e v' w p q w' p' q' w'' dk (ix2 r j) = Y) :
    k0_pay115 us a b d e v' w p q w' p' q' w'' dk (ix2 r j) = Y + Ideal.ofBits .f32 0x3D372713#32 * (Y * (Y * Y)) := by
  subst hY
  unfold k0_pay115
  generalize k0_pay114 us a b d e v' w p q w' p' q' w'' dk = Z
  pointwise []

/-- The gated RG-LRU output at a point. -/
theorem pay47_gen (gl h : Vec Ideal S512x512 .f32) (r j : Fin 512) : (k0_pay47 (F := Ideal) gl h (ix2 r j) : EReal) = h (ix2 r j) * gelu1 (gl (ix2 r j)) := by
  unfold gelu1
  have e : ∀ y : EReal, y * y * y = y * (y * y) := fun y => mul_assoc y y y
  simp only [e]
  pointwise [k0_pay47]

/-- The normed RG-LRU output at a point. -/
theorem pay48_gen (x : FVec Ideal S512x512 .f32) (g : Vec Ideal S1x512 .f32) (r j : Fin 512) :
    (k0_pay48 x g : FVec Ideal S512x512 .bf16) (ix2 r j) = norm5 (fun k => x (ix2 r k)) (fun k => g (ix2 0 k)) j := by
  unfold norm5
  pointwise [k0_pay48]

/-- The gated outputs, of the outputs and of what their gate is taken of. -/
def gated (ys ts : FVec Ideal S512x512 .f32) (w : Vec Ideal S512x512 .bf16) (b : Vec Ideal S1x512 .f32) (r j : Fin 512) : EReal :=
  ys (ix2 r j) * (Ideal.ofBits .f32 0x3F000000#32 * (1 + Ideal.tanh (Ideal.ofBits .f32 0x3F4C422A#32 * ts (ix2 r j))))
    * Ideal.logistic (∑ k : Fin 512, ys (ix2 r k) * (Ideal.ofBits .f32 0x3F000000#32 * (1 + Ideal.tanh (Ideal.ofBits .f32 0x3F4C422A#32 * ts (ix2 r k)))) * w (ix2 k j) + b (ix2 0 j))

/-- The rows written at a point: the input plus the output projection of the two normed groups. -/
theorem pay116_gen (x : Vec Ideal S512x1024 .f32) (n1 : FVec Ideal S512x512 .bf16) (ys ts : FVec Ideal S512x512 .f32) (w : Vec Ideal S512x512 .bf16)
    (b g : Vec Ideal S1x512 .f32) (wt wb : Vec Ideal S512x1024 .bf16) (r : Fin 512) (j : Fin 1024) :
    k0_pay116 x n1 ys ts w b g wt wb (ix2 r j) = x (ix2 r j) + ∑ k : Fin 512, n1 (ix2 r k) * wt (ix2 k j)
      + ∑ k : Fin 512, norm5 (fun k => gated ys ts w b r k) (fun k => g (ix2 0 k)) k * wb (ix2 k j) := by
  unfold norm5 gated
  pointwise [k0_pay116]

end Cert.KernelIdeal.Final

end
-- ==== Proof.KYs.lean ====
/- The outputs of the state space of a grid step. -/
module

public import proofs.«01_k».proof.Proof.KSsm
public import proofs.«01_k».proof.Proof.KOp

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

/-- A slab of the weights of the outputs. -/
theorem ld14 (B : Vec Ideal S16x256x128 .bf16) (s : Fin 16) (inb : ∀ a, (![s.val, 0, 0] : Fin 3 → ℕ) a + S1x256x128.size a ≤ S16x256x128.size a) (i : Fin 256) (j : Fin 128) :
    View.ld B (Rect.unit (s := S16x256x128) ![s.val, 0, 0] S1x256x128.size inb) (ix3 0 i j) = B (ix3 s i j) := by
  have e : (Rect.unit (s := S16x256x128) ![s.val, 0, 0] S1x256x128.size inb).idx (ix3 0 i j) = ix3 s i j := by
    funext a
    fin_cases a
    · apply Fin.ext; show s.val + 1 * 0 = s.val; omega
    · apply Fin.ext; show 0 + 1 * i.val = i.val; omega
    · apply Fin.ext; show 0 + 1 * j.val = j.val; omega
  exact congrArg B e

/-- What leaves the state space, before the skip. -/
def outO (A : Args) (n : Fin 16384) (j : Fin 512) : EReal :=
  ∑ k : Fin 64, A.ra (ix3 n ⟨j.val / 16, by omega⟩ k) * A.a18 (ix3 ⟨j.val / 16, by omega⟩ ⟨j.val % 16, by omega⟩ k)
    + ∑ k : Fin 64, A.ia (ix3 n ⟨j.val / 16, by omega⟩ k) * -A.a19 (ix3 ⟨j.val / 16, by omega⟩ ⟨j.val % 16, by omega⟩ k)

/-- Four parts, of which one is there. -/
theorem onePart (l : Fin 128) {v x0 x1 x2 x3 : EReal} (h0 : x0 = if 0 = l.val / 32 then v else 0) (h1 : x1 = if 1 = l.val / 32 then v else 0)
    (h2 : x2 = if 2 = l.val / 32 then v else 0) (h3 : x3 = if 3 = l.val / 32 then v else 0) : x0 + x1 + x2 + x3 = v := by
  have h : l.val / 32 = 0 ∨ l.val / 32 = 1 ∨ l.val / 32 = 2 ∨ l.val / 32 = 3 := by omega
  rw [h0, h1, h2, h3]
  rcases h with h | h | h | h <;> rw [h] <;> simp

/-- One slab of states gives its part of the outputs. -/
theorem slabPart (A : Args) (n : Fin 16384) (q : Fin 2) (s : Fin 8) (x y : Vec Ideal S1x512x128 .f32) (w : Vec Ideal S1x256x128 .bf16) (r : Fin 512)
    (hx : ∀ l : Fin 128, x (ix3 0 r l) = (A.sn (n.val + 1) ⟨q.val * 16 + s.val * 2 + l.val / 64, by omega⟩ ⟨l.val % 64, by omega⟩).1)
    (hy : ∀ l : Fin 128, y (ix3 0 r l) = (A.sn (n.val + 1) ⟨q.val * 16 + s.val * 2 + l.val / 64, by omega⟩ ⟨l.val % 64, by omega⟩).2)
    (hw : ∀ (i : Fin 256) (l : Fin 128), w (ix3 0 i l) = wOut A.a18 A.a19 (ix3 ⟨q.val * 8 + s.val, by omega⟩ i l)) (l : Fin 128) :
    slab x y w r l = if s.val % 4 = l.val / 32 then outO A n ⟨(q.val * 2 + s.val / 4) * 128 + l.val, by omega⟩ else 0 := by
  unfold slab
  refine (Finset.sum_congr rfl fun i _ => mulr (hw i l)).trans ((out_sum A.a18 A.a19 ⟨q.val * 8 + s.val, by omega⟩ (fun i => cat x y r i) l).trans ?_)
  by_cases hs : s.val % 4 = l.val / 32
  · rw [if_pos hs, if_pos (by show (q.val * 8 + s.val) % 4 = l.val / 32; omega)]
    unfold outO
    have g1 : (⟨(q.val * 8 + s.val) / 4 * 8 + (q.val * 8 + s.val) % 4 * 2 + l.val / 16 % 2, by omega⟩ : Fin 32) = ⟨((q.val * 2 + s.val / 4) * 128 + l.val) / 16, by omega⟩ :=
      Fin.ext (by show (q.val * 8 + s.val) / 4 * 8 + (q.val * 8 + s.val) % 4 * 2 + l.val / 16 % 2 = ((q.val * 2 + s.val / 4) * 128 + l.val) / 16; omega)
    have g2 : (⟨l.val % 16, by omega⟩ : Fin 16) = ⟨((q.val * 2 + s.val / 4) * 128 + l.val) % 16, by omega⟩ := Fin.ext (by show l.val % 16 = ((q.val * 2 + s.val / 4) * 128 + l.val) % 16; omega)
    have g3 : ∀ p : Fin 64, (⟨q.val * 16 + s.val * 2 + (l.val / 16 % 2 * 64 + p.val) / 64, by omega⟩ : Fin 32) = ⟨((q.val * 2 + s.val / 4) * 128 + l.val) / 16, by omega⟩ :=
      fun p => Fin.ext (by show q.val * 16 + s.val * 2 + (l.val / 16 % 2 * 64 + p.val) / 64 = ((q.val * 2 + s.val / 4) * 128 + l.val) / 16; omega)
    have g4 : ∀ p : Fin 64, (⟨(l.val / 16 % 2 * 64 + p.val) % 64, by omega⟩ : Fin 64) = p := fun p => Fin.ext (by show (l.val / 16 % 2 * 64 + p.val) % 64 = p.val; omega)
    refine congrArg₂ (· + ·) (Finset.sum_congr rfl fun p _ => congrArg₂ (· * ·) ?_ ?_) (Finset.sum_congr rfl fun p _ => congrArg₂ (· * ·) ?_ (congrArg Neg.neg ?_))
    · show cat x y r ⟨l.val / 16 % 2 * 64 + p.val, by omega⟩ = _
      unfold cat
      rw [dif_pos (by show l.val / 16 % 2 * 64 + p.val < 128; omega)]
      refine (hx _).trans ?_
      show (A.sn (n.val + 1) _ _).1 = (A.sn (n.val + 1) _ _).1
      exact congrArg₂ (fun u v => (A.sn (n.val + 1) u v).1) (g3 p) (g4 p)
    · exact congrArg₂ (fun u v => A.a18 (ix3 u v p)) g1 g2
    · show cat x y r ⟨128 + l.val / 16 % 2 * 64 + p.val, by omega⟩ = _
      unfold cat
      rw [dif_neg (by show ¬ 128 + l.val / 16 % 2 * 64 + p.val < 128; omega)]
      have g5 : (⟨128 + l.val / 16 % 2 * 64 + p.val - 128, by omega⟩ : Fin 128) = ⟨l.val / 16 % 2 * 64 + p.val, by omega⟩ :=
        Fin.ext (by show 128 + l.val / 16 % 2 * 64 + p.val - 128 = l.val / 16 % 2 * 64 + p.val; omega)
      refine (congrArg (fun u => y (ix3 0 r u)) g5).trans ((hy _).trans ?_)
      exact congrArg₂ (fun u v => (A.sn (n.val + 1) u v).2) (g3 p) (g4 p)
    · exact congrArg₂ (fun u v => A.a19 (ix3 u v p)) g1 g2
  · rw [if_neg hs, if_neg (by show ¬ (q.val * 8 + s.val) % 4 = l.val / 32; omega)]

section Step

variable (c : Dev nD) (t : Fin cfg0.N) {X : Blk} {A : Args} {T : ℕ} (R : Rel X A T)
    (hsp : ∀ (q : Fin 4) (s : Fin 8) (l : Fin 128), X.sp (ix4 0 q s l) = snK A T q s l)

include R hsp

/-- The states read back are those after each row. -/
theorem sRd_at (q : Fin 4) (s : Fin 8) (inb) (r : Fin 512) (l : Fin 128) : sRd c t X q.val s.val inb (ix3 0 r l) = snK A (T + r.val + 1) q s l := by
  have h := (ssm_loop c t R hsp).2 q ⟨8 * r.val + s.val, by omega⟩ l
  unfold sRd
  rw [View.readAt_writes_junk_eq_canon]
  have e : (⟨![q.val, s.val, 0], S1x512x128.size, ![1, 8, 1], inb⟩ : LoadRect S4x4096x128).idx (ix3 0 r l) = ix3 q ⟨8 * r.val + s.val, by omega⟩ l := by
    funext a
    fin_cases a
    · apply Fin.ext; show q.val + 1 * 0 = q.val; omega
    · apply Fin.ext; show s.val + 8 * r.val = 8 * r.val + s.val; omega
    · apply Fin.ext; show 0 + 1 * l.val = l.val; omega
  refine (congrArg (View.canon ((st2 c t X).2 ++ sL X)) e).trans (h.trans ?_)
  have e1 : T + ((8 * r.val + s.val) / 8 + 1) = T + r.val + 1 := by omega
  have e2 : (⟨(8 * r.val + s.val) % 8, by omega⟩ : Fin 8) = s := Fin.ext (by show (8 * r.val + s.val) % 8 = s.val; omega)
  exact congrArg₂ (fun u v => snK A u q v l) e1 e2

/-- The output product of one slab is the sum over its 64 states of the reference's two products. -/
theorem slab_out (q : Fin 2) (s : Fin 8) (inb1 inb2 inb3) (r : Fin 512) (l : Fin 128) (h : T + r.val < 16384) :
    slab (sRd c t X q.val s.val inb1) (sRd c t X (2 + q.val) s.val inb2) (View.ld X.b14 (Rect.unit (s := S16x256x128) ![q.val * 8 + s.val, 0, 0] S1x256x128.size inb3)) r l
      = if s.val % 4 = l.val / 32 then outO A ⟨T + r.val, h⟩ ⟨(q.val * 2 + s.val / 4) * 128 + l.val, by omega⟩ else 0 := by
  refine slabPart A ⟨T + r.val, h⟩ q s _ _ _ r (fun l => ?_) (fun l => ?_) (fun i l => ?_) l
  · refine (sRd_at c t R hsp ⟨q.val, by omega⟩ s inb1 r l).trans ?_
    unfold snK
    rw [if_pos (by show q.val < 2; omega)]
    have e : (⟨q.val % 2 * 16 + s.val * 2 + l.val / 64, by omega⟩ : Fin 32) = ⟨q.val * 16 + s.val * 2 + l.val / 64, by omega⟩ := Fin.ext (by show q.val % 2 * 16 + s.val * 2 + l.val / 64 = q.val * 16 + s.val * 2 + l.val / 64; omega)
    exact congrArg (fun u => (A.sn (T + r.val + 1) u ⟨l.val % 64, by omega⟩).1) e
  · refine (sRd_at c t R hsp ⟨2 + q.val, by omega⟩ s inb2 r l).trans ?_
    unfold snK
    rw [if_neg (by show ¬ 2 + q.val < 2; omega)]
    have e : (⟨(2 + q.val) % 2 * 16 + s.val * 2 + l.val / 64, by omega⟩ : Fin 32) = ⟨q.val * 16 + s.val * 2 + l.val / 64, by omega⟩ := Fin.ext (by show (2 + q.val) % 2 * 16 + s.val * 2 + l.val / 64 = q.val * 16 + s.val * 2 + l.val / 64; omega)
    exact congrArg (fun u => (A.sn (T + r.val + 1) u ⟨l.val % 64, by omega⟩).2) e
  · exact (ld14 X.b14 ⟨q.val * 8 + s.val, by omega⟩ inb3 i l).trans (R.b14 _ i l)

variable (r : Fin 512) (l : Fin 128) (h : T + r.val < 16384)

/-- The first quarter of the S5 output. -/
theorem y104_at : y104 c t X (ix2 r l) = outO A ⟨T + r.val, h⟩ ⟨0 * 128 + l.val, by omega⟩ := by
  unfold y104
  refine (pay104_gen ..).trans ?_
  exact onePart l ((pay102_gen ..).trans (slab_out c t R hsp 0 0 _ _ _ r l h)) ((Finset.sum_congr rfl fun i _ => congrArg (· * _) (pay103_gen _ _ r i)).trans (slab_out c t R hsp 0 1 _ _ _ r l h)) (slab_out c t R hsp 0 2 _ _ _ r l h) (slab_out c t R hsp 0 3 _ _ _ r l h)

/-- The second quarter of the S5 output. -/
theorem y108_at : y108 c t X (ix2 r l) = outO A ⟨T + r.val, h⟩ ⟨1 * 128 + l.val, by omega⟩ := by
  unfold y108
  refine (pay108_gen ..).trans ((congrArg (· + _) (pay106_gen ..)).trans ?_)
  exact onePart l ((Finset.sum_congr rfl fun i _ => congrArg (· * _) (pay105_gen _ _ r i)).trans (slab_out c t R hsp 0 4 _ _ _ r l h)) (slab_out c t R hsp 0 5 _ _ _ r l h) (slab_out c t R hsp 0 6 _ _ _ r l h) ((Finset.sum_congr rfl fun i _ => congrArg (· * _) (pay107_gen _ _ r i)).trans (slab_out c t R hsp 0 7 _ _ _ r l h))

/-- The third quarter of the S5 output. -/
theorem y111_at : y111 c t X (ix2 r l) = outO A ⟨T + r.val, h⟩ ⟨2 * 128 + l.val, by omega⟩ := by
  unfold y111
  refine (pay111_gen ..).trans ((congrArg (· + _) (congrArg (· + _) (pay109_gen ..))).trans ?_)
  exact onePart l (slab_out c t R hsp 1 0 _ _ _ r l h) (slab_out c t R hsp 1 1 _ _ _ r l h) ((Finset.sum_congr rfl fun i _ => congrArg (· * _) (pay110_gen _ _ r i)).trans (slab_out c t R hsp 1 2 _ _ _ r l h)) (slab_out c t R hsp 1 3 _ _ _ r l h)

/-- The first slab of the last quarter of the S5 output. -/
theorem y112_at : y112 c t X (ix2 r l) = if 0 = l.val / 32 then outO A ⟨T + r.val, h⟩ ⟨3 * 128 + l.val, by omega⟩ else 0 := by
  unfold y112
  exact (pay112_gen ..).trans (slab_out c t R hsp 1 4 _ _ _ r l h)

/-- The outputs of the state space are the reference's. -/
theorem y114_at (j : Fin 512) : y114 c t X (ix2 r j) = refYs A.ra A.ia A.a18 A.a19 A.a20 (refUs A.z) (ix2 ⟨T + r.val, h⟩ j) := by
  unfold y114
  refine (pay114_gen ..).trans ?_
  rw [refYs_at]
  refine congrArg₂ (· + ·) ?_ ?_
  · show _ = outO A ⟨T + r.val, h⟩ j
    by_cases h1 : j.val < 128
    · rw [dif_pos h1]
      exact (y104_at c t R hsp r ⟨j.val, h1⟩ h).trans (congrArg (outO A ⟨T + r.val, h⟩) (Fin.ext (by show 0 * 128 + j.val = j.val; omega)))
    · rw [dif_neg h1]
      by_cases h2 : j.val - 128 < 128
      · rw [dif_pos h2]
        exact (y108_at c t R hsp r ⟨j.val - 128, h2⟩ h).trans (congrArg (outO A ⟨T + r.val, h⟩) (Fin.ext (by show 1 * 128 + (j.val - 128) = j.val; omega)))
      · rw [dif_neg h2]
        by_cases h3 : j.val - 128 - 128 < 128
        · rw [dif_pos h3]
          exact (y111_at c t R hsp r ⟨j.val - 128 - 128, h3⟩ h).trans (congrArg (outO A ⟨T + r.val, h⟩) (Fin.ext (by show 2 * 128 + (j.val - 128 - 128) = j.val; omega)))
        · rw [dif_neg h3]
          have hl : j.val - 128 - 128 - 128 < 128 := by omega
          have e := onePart ⟨j.val - 128 - 128 - 128, hl⟩ (y112_at c t R hsp r ⟨j.val - 128 - 128 - 128, hl⟩ h)
            ((Finset.sum_congr rfl fun i _ => congrArg (· * _) (pay113_gen _ _ r i)).trans (slab_out c t R hsp 1 5 inb_S4x4096x128_S1x512x128_1_5_0_s_1_8_1 inb_S4x4096x128_S1x512x128_3_5_0_s_1_8_1 inb_S16x256x128_S1x256x128_13_0_0 r ⟨j.val - 128 - 128 - 128, hl⟩ h))
            (slab_out c t R hsp 1 6 inb_S4x4096x128_S1x512x128_1_6_0_s_1_8_1 inb_S4x4096x128_S1x512x128_3_6_0_s_1_8_1 inb_S16x256x128_S1x256x128_14_0_0 r ⟨j.val - 128 - 128 - 128, hl⟩ h)
            (slab_out c t R hsp 1 7 inb_S4x4096x128_S1x512x128_1_7_0_s_1_8_1 inb_S4x4096x128_S1x512x128_3_7_0_s_1_8_1 inb_S16x256x128_S1x256x128_15_0_0 r ⟨j.val - 128 - 128 - 128, hl⟩ h)
          exact Eq.trans e (congrArg (outO A ⟨T + r.val, h⟩) (Fin.ext (by show 3 * 128 + (j.val - 128 - 128 - 128) = j.val; omega)))
  · rw [R.b15, refUs_at]
    refine mulr ((pay12_gen X.b0 X.b4 X.b5 r j).trans ?_)
    exact z_eq R r ⟨1024 + j.val, by omega⟩ h

end Step

end Cert.KernelIdeal.Final

end
-- ==== Proof.KY.lean ====
/- The rows the mixer returns. -/
module

public import proofs.«01_k».proof.Proof.KFin
public import proofs.«01_k».proof.Proof.KYs

@[expose] public section

set_option maxRecDepth 16384
set_option maxHeartbeats 1000000

noncomputable section

namespace Cert.KernelIdeal.Final

open Idealize.ShloMosaic Idealize.ShloMosaic.TcCoe Idealize.SL.Sem
open Cert.KernelIdeal Cert.KernelIdeal.Gen
open Cert.ReferenceIdeal.Stage

/-- Loading the upper half of the output projection. -/
theorem ldTop (B : Vec Ideal S1024x1024 .bf16) (i : Fin 512) (j : Fin 1024) :
    View.ld B (Rect.unit (s := S1024x1024) ![0, 0] S512x1024.size inb_S1024x1024_S512x1024_0_0) (ix2 i j) = B (ix2 ⟨i.val, by omega⟩ j) := by
  have e : (Rect.unit (s := S1024x1024) ![0, 0] S512x1024.size inb_S1024x1024_S512x1024_0_0).idx (ix2 i j) = ix2 ⟨i.val, by omega⟩ j := by
    funext a
    fin_cases a
    · apply Fin.ext; show 0 + 1 * i.val = i.val; omega
    · apply Fin.ext; show 0 + 1 * j.val = j.val; omega
  exact congrArg B e

/-- Loading the lower half of the output projection. -/
theorem ldBottom (B : Vec Ideal S1024x1024 .bf16) (i : Fin 512) (j : Fin 1024) :
    View.ld B (Rect.unit (s := S1024x1024) ![512, 0] S512x1024.size inb_S1024x1024_S512x1024_512_0) (ix2 i j) = B (ix2 ⟨512 + i.val, by omega⟩ j) := by
  have e : (Rect.unit (s := S1024x1024) ![512, 0] S512x1024.size inb_S1024x1024_S512x1024_512_0).idx (ix2 i j) = ix2 ⟨512 + i.val, by omega⟩ j := by
    funext a
    fin_cases a
    · apply Fin.ext; show 512 + 1 * i.val = 512 + i.val; omega
    · apply Fin.ext; show 0 + 1 * j.val = j.val; omega
  exact congrArg B e

/-- The gelu, as the kernel groups it. -/
theorem gelu_eq {y t Y : EReal} (hy : y = Y) (ht : t = Y + Ideal.ofBits .f32 0x3D372713#32 * (Y * (Y * Y))) :
    y * (Ideal.ofBits .f32 0x3F000000#32 * (1 + Ideal.tanh (Ideal.ofBits .f32 0x3F4C422A#32 * t))) = gelu1 Y := by
  unfold gelu1
  rw [hy, ht, mul_assoc Y Y Y]

section Step

variable (c : Dev nD) (t : Fin cfg0.N) {X : Blk} {A : Args} {T : ℕ} (R : Rel X A T) (I : Inv A T X.cp X.lp X.sp)
  (r : Fin 512) (h : T + r.val < 16384)

include R I

/-- The recurrence's normed rows are the reference's. -/
theorem hV_at (j : Fin 512) : (hV c t X : FVec Ideal S512x512 .bf16) (ix2 r j) = refN (refYlru A.ha (refGl A.z)) A.a23 (ix2 ⟨T + r.val, h⟩ j) := by
  unfold hV
  refine (pay48_gen _ _ r j).trans ?_
  rw [refN_at]
  refine congrArg₂ (fun u v => norm5 u v j) (funext fun k => ?_) (funext fun k => R.b18 k)
  refine (pay47_gen _ _ r k).trans ?_
  rw [refYlru_at, refGl_at]
  refine congrArg₂ (· * ·) ?_ (congrArg gelu1 ?_)
  · exact bRd_at c t X (fun n => A.hn (T + n)) (hn_h0 R I) (fun r j => hn_step R (inv_cp R I) r j) r k
  · exact (pay11_gen X.b0 X.b4 X.b5 r k).trans (z_eq R r ⟨512 + k.val, by omega⟩ h)

/-- What the gates are taken of. -/
theorem y115_at (j : Fin 512) (Y : EReal) (hY : y114 c t X (ix2 r j) = Y) :
    y115 c t X (ix2 r j) = Y + Ideal.ofBits .f32 0x3D372713#32 * (Y * (Y * Y)) := by
  unfold y115
  unfold y114 at hY
  exact pay115_gen (hY := hY)

/-- The kernel's gated S5 output at a row of the block is the reference's at that row of the array. -/
theorem gated_at (j : Fin 512) : gated (y114 c t X) (y115 c t X) X.b16 X.b17 r j
    = refYssm (refYs A.ra A.ia A.a18 A.a19 A.a20 (refUs A.z)) A.a21 A.a22 (ix2 ⟨T + r.val, h⟩ j) := by
  unfold gated
  rw [refYssm_at]
  have g : ∀ k : Fin 512, y114 c t X (ix2 r k) * (Ideal.ofBits .f32 0x3F000000#32 * (1 + Ideal.tanh (Ideal.ofBits .f32 0x3F4C422A#32 * y115 c t X (ix2 r k))))
      = gelu1 (refYs A.ra A.ia A.a18 A.a19 A.a20 (refUs A.z) (ix2 ⟨T + r.val, h⟩ k)) := fun k =>
    gelu_eq (y114_at c t R I.sp r h k) (y115_at c t R I r k _ (y114_at c t R I.sp r h k))
  refine congrArg₂ (· * ·) (g j) (congrArg Ideal.logistic (congrArg₂ (· + ·) (Finset.sum_congr rfl fun k _ => congrArg₂ (· * ·) (g k) (R.b16 k j)) (R.b17 j)))

/-- The step's rows are the reference's. -/
theorem yO_at (j : Fin 1024) : yO c t X (ix2 r j) = A.oY (ix2 ⟨T + r.val, h⟩ j) := by
  unfold yO
  refine (pay116_gen ..).trans ?_
  unfold Args.oY
  rw [refY_at, add_assoc]
  refine congrArg₂ (· + ·) (R.b0 r j) (congrArg₂ (· + ·) (Finset.sum_congr rfl fun k _ => congrArg₂ (· * ·) ?_ ?_) (Finset.sum_congr rfl fun k _ => congrArg₂ (· * ·) ?_ ?_))
  · exact hV_at c t R I r h k
  · exact (ldTop X.b20 k j).trans (R.b20 _ j)
  · rw [refN_at]
    exact congrArg₂ (fun u v => norm5 u v k) (funext fun k => gated_at c t R I r h k) (funext fun k => R.b19 k)
  · exact (ldBottom X.b20 k j).trans (R.b20 _ j)

end Step

variable (m : (ℓ : Loc nD τ sig) → Buf (Elt Ideal) ℓ) (c : Dev nD)

/-- The rows a block writes are the reference's. -/
theorem y_point (t : Fin cfg0.N) (r : Fin 512) (j : Fin 1024) (h : t.val * 512 + r.val < 16384) :
    (outsAt0 m c t.val t.isLt).1 (ix2 r j) = (argsK m c).oY (ix2 ⟨t.val * 512 + r.val, h⟩ j) := by
  obtain ⟨cp, lp, sp, e, I⟩ := enter m c t
  rw [e]
  exact yO_at c t (rel m c t cp lp sp) I r h j

/-- The rows are the reference's. -/
theorem final_y : (dats m 0 c).arrAt 21 cfg0.N = (argsK m c).oY := by
  refine (dats m 0 c).arrAt_eq_of_covers 21 _ (by decide +kernel) fun t hf y => ?_
  have ht := t_lt' t
  blk_simp
  rw [after0_21]
  idx_vars y
  have e : ((cfg0.win 21).blk t).view.emb (ix2 y0 y1) = ((ix2 ⟨t.val * 512 + y0.val, by omega⟩ y1) : S16384x1024.Idx) := by blk_ext [idx t]
  rw [e]
  exact y_point m c t y0 y1 _

end Cert.KernelIdeal.Final

end
-- ==== Proof.MixValue.lean ====
/- The mixer's kernel and its reference return the same four arrays. -/
module

public import proofs.«01_k».proof.Proof.KY
public import proofs.«01_k».proof.Proof.MixArgs
public import Idealize.ShloMosaic.Lib.Claim

@[expose] public section

noncomputable section

namespace Cert.Mixer

open Idealize.ShloMosaic Idealize.ShloMosaic.TcCoe Idealize.SL.Sem Cert.ReferenceIdeal.Fold Cert.ReferenceIdeal.Value

/-- The kernel's run ends with the reference's arrays of its own arguments, and leaves the arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v98_0) = (Cert.KernelIdeal.Final.argsK m c).oY
        ∧ r.2.mem ((c.tc : Thread Cert.KernelIdeal.nD Cert.KernelIdeal.τ).loc Cert.KernelIdeal.main_v98_1) = (Cert.KernelIdeal.Final.argsK m c).oConv
        ∧ r.2.mem ((c.tc : Thread Cert.KernelIdeal.nD Cert.KernelIdeal.τ).loc Cert.KernelIdeal.main_v98_2) = (Cert.KernelIdeal.Final.argsK m c).oLru
        ∧ r.2.mem ((c.tc : Thread Cert.KernelIdeal.nD Cert.KernelIdeal.τ).loc Cert.KernelIdeal.main_v98_3) = (Cert.KernelIdeal.Final.argsK m c).oSsm
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
        ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
        ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) := by
  refine θ_run_mono (θ_run_and (Cert.KernelIdeal.Gen.run_main m g) (Cert.KernelIdeal.Gen.unchanged m g)) ?_
  intro r hr c
  obtain ⟨h1, h2⟩ := hr
  have h := (h1 c).1
  exact ⟨(h 21).trans (Cert.KernelIdeal.Final.final_y m c), (h 22).trans (Cert.KernelIdeal.Final.final_conv m c),
    (h 23).trans (Cert.KernelIdeal.Final.final_lru m c), (h 24).trans (Cert.KernelIdeal.Final.final_ssm m c), h2 c⟩

/-- The mixer's kernel, idealized, and its reference return the same four arrays: the rows, the last rows of the
    convolution's input, the last state of the RG-LRU recurrence and the last state of the S5 recurrence. -/
theorem algebraic_mixer : Cert.algebraic_KernelIdeal_ReferenceIdeal := by
  intro m g m' g' hpre hagree
  refine ⟨fun c => (Cert.KernelIdeal.Final.argsK m c).oY, fun c => (Cert.KernelIdeal.Final.argsK m c).oConv,
    fun c => (Cert.KernelIdeal.Final.argsK m c).oLru, fun c => (Cert.KernelIdeal.Final.argsK m c).oSsm, kernel_run m g, ?_⟩
  refine (θ_run _ _ _).mono ?_ (run_fold m' g')
  intro r hr c
  have e : Cert.ReferenceIdeal.Stage.argsOf m' c = Cert.KernelIdeal.Final.argsK m c := by
    obtain ⟨h0, h1, h2, h3, h4, h5, h6, h7, h8, h9, h10, h11, h12, h13, h14, h15, h16, h17, h18, h19, h20, h21, h22, h23, h24, h25⟩ := hagree c
    unfold Cert.ReferenceIdeal.Stage.argsOf Cert.KernelIdeal.Final.argsK
    rw [h0, h1, h2, h3, h4, h5, h6, h7, h8, h9, h10, h11, h12, h13, h14, h15, h16, h17, h18, h19, h20, h21, h22, h23, h24, h25]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · refine ((hr c _ rfl).trans (Cert.ReferenceIdeal.Stage.fin_y' m' c)).trans ?_
    rw [e]
  · refine ((hr c _ rfl).trans (Cert.ReferenceIdeal.Stage.fin_conv' m' c)).trans ?_
    rw [e]
  · refine ((hr c _ rfl).trans (Cert.ReferenceIdeal.Stage.fin_lru' m' c)).trans ?_
    rw [e]
  · refine ((hr c _ rfl).trans (Cert.ReferenceIdeal.Stage.fin_ssm' m' c)).trans ?_
    rw [e]
  all_goals exact (hr c _ rfl).trans (keep m' c _ (by decide +kernel) (by decide +kernel) (by decide +kernel))

end Cert.Mixer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.FfnValue
public import proofs.«01_k».proof.Proof.RefRun
public import proofs.«01_k».proof.Proof.MixValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The feed-forward kernel, idealized, and its reference compute one array: the kernel's run ends with the
    array of `Cert.FfnIdeal.Final.final`, which is the reference's. -/
theorem algebraic_ffn : Cert.algebraic_FfnIdeal_FfnReferenceIdeal := by
  pair_intro
  · run_from Cert.FfnIdeal.Gen.run_main m g
  · run_from Cert.FfnReferenceIdeal.Value.run m' g'
    rw [Cert.FfnReferenceIdeal.Pure.res_eq]
    obtain ⟨h0, h1, h2, h3, h4, h5⟩ := hagree c
    rw [h0, h1, h2, h3, h4, h5]
    exact (Cert.FfnIdeal.Final.final m c).symm

/-- The feed-forward reference returns and leaves its arguments as they were. -/
theorem frame_ffn_reference : Cert.quiescent_FfnReferenceIdeal := by
  intro m g _
  refine (θ_run _ _ _).mono ?_ (Cert.FfnReferenceIdeal.Value.run m g)
  intro r hr
  exact ⟨fun c => (hr c).2, sem_eq_zero_of_no_sems (by decide) _⟩

/-- Every claim of the certificate. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  fun m ρ _ => Cert.Kernel.Gen.frame m ρ,
  fun m ρ _ => Cert.KernelIdeal.Gen.frame m ρ,
  Cert.ReferenceIdeal.Fold.frame,
  fun m ρ _ => Cert.Ffn.Gen.frame m ρ,
  fun m ρ _ => Cert.FfnIdeal.Gen.frame m ρ,
  frame_ffn_reference,
  trivial, Cert.Mixer.algebraic_mixer, trivial, algebraic_ffn⟩

end Cert.Proof

end
